-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite [hPre_finite : Cert.Pre_finite.Facts] (m : (ℓ : Loc Cert.RouteIdeal.nD Cert.RouteIdeal.τ Cert.RouteIdeal.sig) → Buf (Elt Ideal) ℓ) : Prop :=
  ∀ c : Dev Cert.RouteIdeal.nD,
    (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))).1 = (fun _ => 1#1)
    ∧ (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))).2.1 = (fun _ => 1#1)
    ∧ (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))).2.2 = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite [hPre_finite : Cert.Pre_finite.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3))).1 = (fun _ => 1#1)
    ∧ (Cert.Pre_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3))).2.1 = (fun _ => 1#1)
    ∧ (Cert.Pre_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3))).2.2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.2.2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.2.2.2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.2.2.2.2.2.2.1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10)) (m ((c.tc : Thread Cert.ExpertsIdeal.nD Cert.ExpertsIdeal.τ).loc Cert.ExpertsIdeal.main_arg11)) (m ((c.tc : Thread Cert.ExpertsIdeal.nD Cert.ExpertsIdeal.τ).loc Cert.ExpertsIdeal.main_arg12)) (m ((c.tc : Thread Cert.ExpertsIdeal.nD Cert.ExpertsIdeal.τ).loc Cert.ExpertsIdeal.main_arg13))).2.2.2.2.2.2.2.2.2.2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.2.2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.2.2.2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.2.2.2.2.2.2.1 = (fun _ => 1#1)
    ∧ (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9)) (m ((c.tc : Thread Cert.ExpertsRefIdeal.nD Cert.ExpertsRefIdeal.τ).loc Cert.ExpertsRefIdeal.main_arg10)) (m ((c.tc : Thread Cert.ExpertsRefIdeal.nD Cert.ExpertsRefIdeal.τ).loc Cert.ExpertsRefIdeal.main_arg11)) (m ((c.tc : Thread Cert.ExpertsRefIdeal.nD Cert.ExpertsRefIdeal.τ).loc Cert.ExpertsRefIdeal.main_arg12)) (m ((c.tc : Thread Cert.ExpertsRefIdeal.nD Cert.ExpertsRefIdeal.τ).loc Cert.ExpertsRefIdeal.main_arg13))).2.2.2.2.2.2.2.2.2.2.2 = (fun _ => 1#1)

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteIdeal_pre_finite [hRouteIdeal : Cert.RouteIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_RouteRefIdeal_pre_finite [hRouteRefIdeal : Cert.RouteRefIdeal.Facts] [hPre_finite : Cert.Pre_finite.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9)
      ∧ r.2.mem ((c.tc : Thread Cert.Experts.nD Cert.Experts.τ).loc Cert.Experts.main_arg10) = m ((c.tc : Thread Cert.Experts.nD Cert.Experts.τ).loc Cert.Experts.main_arg10)
      ∧ r.2.mem ((c.tc : Thread Cert.Experts.nD Cert.Experts.τ).loc Cert.Experts.main_arg11) = m ((c.tc : Thread Cert.Experts.nD Cert.Experts.τ).loc Cert.Experts.main_arg11)
      ∧ r.2.mem ((c.tc : Thread Cert.Experts.nD Cert.Experts.τ).loc Cert.Experts.main_arg12) = m ((c.tc : Thread Cert.Experts.nD Cert.Experts.τ).loc Cert.Experts.main_arg12)
      ∧ r.2.mem ((c.tc : Thread Cert.Experts.nD Cert.Experts.τ).loc Cert.Experts.main_arg13) = m ((c.tc : Thread Cert.Experts.nD Cert.Experts.τ).loc Cert.Experts.main_arg13))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10)
      ∧ r.2.mem ((c.tc : Thread Cert.ExpertsIdeal.nD Cert.ExpertsIdeal.τ).loc Cert.ExpertsIdeal.main_arg11) = m ((c.tc : Thread Cert.ExpertsIdeal.nD Cert.ExpertsIdeal.τ).loc Cert.ExpertsIdeal.main_arg11)
      ∧ r.2.mem ((c.tc : Thread Cert.ExpertsIdeal.nD Cert.ExpertsIdeal.τ).loc Cert.ExpertsIdeal.main_arg12) = m ((c.tc : Thread Cert.ExpertsIdeal.nD Cert.ExpertsIdeal.τ).loc Cert.ExpertsIdeal.main_arg12)
      ∧ r.2.mem ((c.tc : Thread Cert.ExpertsIdeal.nD Cert.ExpertsIdeal.τ).loc Cert.ExpertsIdeal.main_arg13) = m ((c.tc : Thread Cert.ExpertsIdeal.nD Cert.ExpertsIdeal.τ).loc Cert.ExpertsIdeal.main_arg13))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10)
      ∧ r.2.mem ((c.tc : Thread Cert.ExpertsIdeal.nD Cert.ExpertsIdeal.τ).loc Cert.ExpertsIdeal.main_arg11) = m ((c.tc : Thread Cert.ExpertsIdeal.nD Cert.ExpertsIdeal.τ).loc Cert.ExpertsIdeal.main_arg11)
      ∧ r.2.mem ((c.tc : Thread Cert.ExpertsIdeal.nD Cert.ExpertsIdeal.τ).loc Cert.ExpertsIdeal.main_arg12) = m ((c.tc : Thread Cert.ExpertsIdeal.nD Cert.ExpertsIdeal.τ).loc Cert.ExpertsIdeal.main_arg12)
      ∧ r.2.mem ((c.tc : Thread Cert.ExpertsIdeal.nD Cert.ExpertsIdeal.τ).loc Cert.ExpertsIdeal.main_arg13) = m ((c.tc : Thread Cert.ExpertsIdeal.nD Cert.ExpertsIdeal.τ).loc Cert.ExpertsIdeal.main_arg13))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9)
      ∧ r.2.mem ((c.tc : Thread Cert.ExpertsRefIdeal.nD Cert.ExpertsRefIdeal.τ).loc Cert.ExpertsRefIdeal.main_arg10) = m ((c.tc : Thread Cert.ExpertsRefIdeal.nD Cert.ExpertsRefIdeal.τ).loc Cert.ExpertsRefIdeal.main_arg10)
      ∧ r.2.mem ((c.tc : Thread Cert.ExpertsRefIdeal.nD Cert.ExpertsRefIdeal.τ).loc Cert.ExpertsRefIdeal.main_arg11) = m ((c.tc : Thread Cert.ExpertsRefIdeal.nD Cert.ExpertsRefIdeal.τ).loc Cert.ExpertsRefIdeal.main_arg11)
      ∧ r.2.mem ((c.tc : Thread Cert.ExpertsRefIdeal.nD Cert.ExpertsRefIdeal.τ).loc Cert.ExpertsRefIdeal.main_arg12) = m ((c.tc : Thread Cert.ExpertsRefIdeal.nD Cert.ExpertsRefIdeal.τ).loc Cert.ExpertsRefIdeal.main_arg12)
      ∧ r.2.mem ((c.tc : Thread Cert.ExpertsRefIdeal.nD Cert.ExpertsRefIdeal.τ).loc Cert.ExpertsRefIdeal.main_arg13) = m ((c.tc : Thread Cert.ExpertsRefIdeal.nD Cert.ExpertsRefIdeal.τ).loc Cert.ExpertsRefIdeal.main_arg13))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9)
      ∧ r.2.mem ((c.tc : Thread Cert.ExpertsRefIdeal.nD Cert.ExpertsRefIdeal.τ).loc Cert.ExpertsRefIdeal.main_arg10) = m ((c.tc : Thread Cert.ExpertsRefIdeal.nD Cert.ExpertsRefIdeal.τ).loc Cert.ExpertsRefIdeal.main_arg10)
      ∧ r.2.mem ((c.tc : Thread Cert.ExpertsRefIdeal.nD Cert.ExpertsRefIdeal.τ).loc Cert.ExpertsRefIdeal.main_arg11) = m ((c.tc : Thread Cert.ExpertsRefIdeal.nD Cert.ExpertsRefIdeal.τ).loc Cert.ExpertsRefIdeal.main_arg11)
      ∧ r.2.mem ((c.tc : Thread Cert.ExpertsRefIdeal.nD Cert.ExpertsRefIdeal.τ).loc Cert.ExpertsRefIdeal.main_arg12) = m ((c.tc : Thread Cert.ExpertsRefIdeal.nD Cert.ExpertsRefIdeal.τ).loc Cert.ExpertsRefIdeal.main_arg12)
      ∧ r.2.mem ((c.tc : Thread Cert.ExpertsRefIdeal.nD Cert.ExpertsRefIdeal.τ).loc Cert.ExpertsRefIdeal.main_arg13) = m ((c.tc : Thread Cert.ExpertsRefIdeal.nD Cert.ExpertsRefIdeal.τ).loc Cert.ExpertsRefIdeal.main_arg13))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v23) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v17)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v17) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Route_RouteIdeal : Prop :=
  True

def algebraic_RouteIdeal_RouteRefIdeal_pre_finite [hRouteIdeal : Cert.RouteIdeal.Facts] [hRouteRefIdeal : Cert.RouteRefIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v3_0)) (v1 : (c : Dev Cert.RouteIdeal.nD) → Buf (Elt Ideal) ((c.tc : Thread Cert.RouteIdeal.nD Cert.RouteIdeal.τ).loc Cert.RouteIdeal.main_v3_1)) (v2 : (c : Dev Cert.RouteIdeal.nD) → Buf (Elt Ideal) ((c.tc : Thread Cert.RouteIdeal.nD Cert.RouteIdeal.τ).loc Cert.RouteIdeal.main_v3_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_v3_1) = v1 c
          ∧ r.2.mem ((c.tc : Thread Cert.RouteIdeal.nD Cert.RouteIdeal.τ).loc Cert.RouteIdeal.main_v3_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v18) = v0 c
          ∧ r.2.mem ((c.tc : Thread Cert.RouteRefIdeal.nD Cert.RouteRefIdeal.τ).loc Cert.RouteRefIdeal.main_v110) = v1 c
          ∧ r.2.mem ((c.tc : Thread Cert.RouteRefIdeal.nD Cert.RouteRefIdeal.τ).loc Cert.RouteRefIdeal.main_v111) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def preserves_Experts_ExpertsIdeal : Prop :=
  True

def algebraic_ExpertsIdeal_ExpertsRefIdeal_pre_routed [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_routed m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)
      ∧ m' ((c.tc : Thread Cert.ExpertsRefIdeal.nD Cert.ExpertsRefIdeal.τ).loc Cert.ExpertsRefIdeal.main_arg9) = m ((c.tc : Thread Cert.ExpertsIdeal.nD Cert.ExpertsIdeal.τ).loc Cert.ExpertsIdeal.main_arg9)
      ∧ m' ((c.tc : Thread Cert.ExpertsRefIdeal.nD Cert.ExpertsRefIdeal.τ).loc Cert.ExpertsRefIdeal.main_arg10) = m ((c.tc : Thread Cert.ExpertsIdeal.nD Cert.ExpertsIdeal.τ).loc Cert.ExpertsIdeal.main_arg10)
      ∧ m' ((c.tc : Thread Cert.ExpertsRefIdeal.nD Cert.ExpertsRefIdeal.τ).loc Cert.ExpertsRefIdeal.main_arg11) = m ((c.tc : Thread Cert.ExpertsIdeal.nD Cert.ExpertsIdeal.τ).loc Cert.ExpertsIdeal.main_arg11)
      ∧ m' ((c.tc : Thread Cert.ExpertsRefIdeal.nD Cert.ExpertsRefIdeal.τ).loc Cert.ExpertsRefIdeal.main_arg12) = m ((c.tc : Thread Cert.ExpertsIdeal.nD Cert.ExpertsIdeal.τ).loc Cert.ExpertsIdeal.main_arg12)
      ∧ m' ((c.tc : Thread Cert.ExpertsRefIdeal.nD Cert.ExpertsRefIdeal.τ).loc Cert.ExpertsRefIdeal.main_arg13) = m ((c.tc : Thread Cert.ExpertsIdeal.nD Cert.ExpertsIdeal.τ).loc Cert.ExpertsIdeal.main_arg13)) →
    ∃ (v0 : (c : Dev Cert.ExpertsIdeal.nD) → Buf (Elt Ideal) ((c.tc : Thread Cert.ExpertsIdeal.nD Cert.ExpertsIdeal.τ).loc Cert.ExpertsIdeal.main_v36)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v36) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
          ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10)
          ∧ r.2.mem ((c.tc : Thread Cert.ExpertsIdeal.nD Cert.ExpertsIdeal.τ).loc Cert.ExpertsIdeal.main_arg11) = m ((c.tc : Thread Cert.ExpertsIdeal.nD Cert.ExpertsIdeal.τ).loc Cert.ExpertsIdeal.main_arg11)
          ∧ r.2.mem ((c.tc : Thread Cert.ExpertsIdeal.nD Cert.ExpertsIdeal.τ).loc Cert.ExpertsIdeal.main_arg12) = m ((c.tc : Thread Cert.ExpertsIdeal.nD Cert.ExpertsIdeal.τ).loc Cert.ExpertsIdeal.main_arg12)
          ∧ r.2.mem ((c.tc : Thread Cert.ExpertsIdeal.nD Cert.ExpertsIdeal.τ).loc Cert.ExpertsIdeal.main_arg13) = m ((c.tc : Thread Cert.ExpertsIdeal.nD Cert.ExpertsIdeal.τ).loc Cert.ExpertsIdeal.main_arg13))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v91) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m' ((c.tc : Thread Cert.ExpertsRefIdeal.nD Cert.ExpertsRefIdeal.τ).loc Cert.ExpertsRefIdeal.main_arg9)
          ∧ r.2.mem ((c.tc : Thread Cert.ExpertsRefIdeal.nD Cert.ExpertsRefIdeal.τ).loc Cert.ExpertsRefIdeal.main_arg10) = m' ((c.tc : Thread Cert.ExpertsRefIdeal.nD Cert.ExpertsRefIdeal.τ).loc Cert.ExpertsRefIdeal.main_arg10)
          ∧ r.2.mem ((c.tc : Thread Cert.ExpertsRefIdeal.nD Cert.ExpertsRefIdeal.τ).loc Cert.ExpertsRefIdeal.main_arg11) = m' ((c.tc : Thread Cert.ExpertsRefIdeal.nD Cert.ExpertsRefIdeal.τ).loc Cert.ExpertsRefIdeal.main_arg11)
          ∧ r.2.mem ((c.tc : Thread Cert.ExpertsRefIdeal.nD Cert.ExpertsRefIdeal.τ).loc Cert.ExpertsRefIdeal.main_arg12) = m' ((c.tc : Thread Cert.ExpertsRefIdeal.nD Cert.ExpertsRefIdeal.τ).loc Cert.ExpertsRefIdeal.main_arg12)
          ∧ r.2.mem ((c.tc : Thread Cert.ExpertsRefIdeal.nD Cert.ExpertsRefIdeal.τ).loc Cert.ExpertsRefIdeal.main_arg13) = m' ((c.tc : Thread Cert.ExpertsRefIdeal.nD Cert.ExpertsRefIdeal.τ).loc Cert.ExpertsRefIdeal.main_arg13))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)
      ∧ m' ((c.tc : Thread Cert.EmbedRefIdeal.nD Cert.EmbedRefIdeal.τ).loc Cert.EmbedRefIdeal.main_arg4) = m ((c.tc : Thread Cert.EmbedIdeal.nD Cert.EmbedIdeal.τ).loc Cert.EmbedIdeal.main_arg4)) →
    ∃ (v0 : (c : Dev Cert.EmbedIdeal.nD) → Buf (Elt Ideal) ((c.tc : Thread Cert.EmbedIdeal.nD Cert.EmbedIdeal.τ).loc Cert.EmbedIdeal.main_v9)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v9) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v10) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3)
          ∧ r.2.mem ((c.tc : Thread Cert.EmbedRefIdeal.nD Cert.EmbedRefIdeal.τ).loc Cert.EmbedRefIdeal.main_arg4) = m' ((c.tc : Thread Cert.EmbedRefIdeal.nD Cert.EmbedRefIdeal.τ).loc Cert.EmbedRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v25) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def Claim : Prop :=
  ∃ (hMoe : Cert.Moe.Facts) (hMoeIdeal : Cert.MoeIdeal.Facts) (hMoeRefIdeal : Cert.MoeRefIdeal.Facts) (hAttn : Cert.Attn.Facts) (hAttnIdeal : Cert.AttnIdeal.Facts) (hAttnRefIdeal : Cert.AttnRefIdeal.Facts) (hRoute : Cert.Route.Facts) (hRouteIdeal : Cert.RouteIdeal.Facts) (hRouteRefIdeal : Cert.RouteRefIdeal.Facts) (hExperts : Cert.Experts.Facts) (hExpertsIdeal : Cert.ExpertsIdeal.Facts) (hExpertsRefIdeal : Cert.ExpertsRefIdeal.Facts) (hEmbed : Cert.Embed.Facts) (hEmbedIdeal : Cert.EmbedIdeal.Facts) (hEmbedRefIdeal : Cert.EmbedRefIdeal.Facts) (hHead : Cert.Head.Facts) (hHeadIdeal : Cert.HeadIdeal.Facts) (hHeadRefIdeal : Cert.HeadRefIdeal.Facts) (hPre_finite : Cert.Pre_finite.Facts) (hPre_routed : Cert.Pre_routed.Facts),
    quiescent_Moe (hMoe := hMoe)
    ∧ quiescent_MoeIdeal (hMoeIdeal := hMoeIdeal)
    ∧ quiescent_MoeRefIdeal (hMoeRefIdeal := hMoeRefIdeal)
    ∧ quiescent_Attn (hAttn := hAttn)
    ∧ quiescent_AttnIdeal (hAttnIdeal := hAttnIdeal)
    ∧ quiescent_AttnRefIdeal (hAttnRefIdeal := hAttnRefIdeal)
    ∧ quiescent_Route (hRoute := hRoute)
    ∧ quiescent_RouteIdeal (hRouteIdeal := hRouteIdeal)
    ∧ quiescent_RouteIdeal_pre_finite (hRouteIdeal := hRouteIdeal) (hPre_finite := hPre_finite)
    ∧ quiescent_RouteRefIdeal (hRouteRefIdeal := hRouteRefIdeal)
    ∧ quiescent_RouteRefIdeal_pre_finite (hRouteRefIdeal := hRouteRefIdeal) (hPre_finite := hPre_finite)
    ∧ quiescent_Experts (hExperts := hExperts)
    ∧ quiescent_ExpertsIdeal (hExpertsIdeal := hExpertsIdeal)
    ∧ quiescent_ExpertsIdeal_pre_routed (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Head (hHead := hHead)
    ∧ quiescent_HeadIdeal (hHeadIdeal := hHeadIdeal)
    ∧ quiescent_HeadRefIdeal (hHeadRefIdeal := hHeadRefIdeal)
    ∧ preserves_Moe_MoeIdeal
    ∧ algebraic_MoeIdeal_MoeRefIdeal (hMoeIdeal := hMoeIdeal) (hMoeRefIdeal := hMoeRefIdeal)
    ∧ preserves_Attn_AttnIdeal
    ∧ algebraic_AttnIdeal_AttnRefIdeal (hAttnIdeal := hAttnIdeal) (hAttnRefIdeal := hAttnRefIdeal)
    ∧ preserves_Route_RouteIdeal
    ∧ algebraic_RouteIdeal_RouteRefIdeal_pre_finite (hRouteIdeal := hRouteIdeal) (hRouteRefIdeal := hRouteRefIdeal) (hPre_finite := hPre_finite)
    ∧ preserves_Experts_ExpertsIdeal
    ∧ algebraic_ExpertsIdeal_ExpertsRefIdeal_pre_routed (hExpertsIdeal := hExpertsIdeal) (hExpertsRefIdeal := hExpertsRefIdeal) (hPre_routed := hPre_routed)
    ∧ preserves_Embed_EmbedIdeal
    ∧ algebraic_EmbedIdeal_EmbedRefIdeal (hEmbedIdeal := hEmbedIdeal) (hEmbedRefIdeal := hEmbedRefIdeal)
    ∧ preserves_Head_HeadIdeal
    ∧ algebraic_HeadIdeal_HeadRefIdeal (hHeadIdeal := hHeadIdeal) (hHeadRefIdeal := hHeadRefIdeal)
-- ==== Pre_finite.lean ====
abbrev S2x197x768 : Shape := ⟨3, ![2, 197, 768]⟩
abbrev S768x8 : Shape := ⟨2, ![768, 8]⟩
abbrev S768 : Shape := ⟨1, ![768]⟩
abbrev S_ : Shape := ⟨0, ![]⟩

class Facts : Prop where
  bcast_S_S768x8 : S_.BroadcastsInDim S768x8 (![] : Fin 0 → Fin S768x8.rank)
  bcast_S_S768 : S_.BroadcastsInDim S768 (![] : Fin 0 → Fin S768.rank)

variable [Facts]

def fn {F : FTy → Type} [FloatOps F] (main_arg0 : FVec F S2x197x768 .f32) (main_arg1 : FVec F S768x8 .f32) (main_arg2 : FVec F S768 .f32) (main_arg3 : FVec F S768 .f32) : IVec S768x8 1 × IVec S768 1 × IVec S768 1 :=
  let main_v0 : FVec F S768x8 .f32 := Host.absf main_arg1
  let main_cst : FVec F S_ .f32 := constant S_ .f32 0x7F800000#32
  let main_v1 : FVec F S768x8 .f32 := broadcastInDim S768x8 ![] bcast_S_S768x8 main_cst
  let main_v2 : IVec S768x8 1 := cmpf .olt main_v0 main_v1
  let main_v3 : FVec F S768 .f32 := Host.absf main_arg2
  let main_cst_0 : FVec F S_ .f32 := constant S_ .f32 0x7F800000#32
  let main_v4 : FVec F S768 .f32 := broadcastInDim S768 ![] bcast_S_S768 main_cst_0
  let main_v5 : IVec S768 1 := cmpf .olt main_v3 main_v4
  let main_v6 : FVec F S768 .f32 := Host.absf main_arg3
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  (main_v2, main_v5, main_v8)
-- ==== Pre_routed.lean ====
abbrev S394x768 : Shape := ⟨2, ![394, 768]⟩
abbrev S394 : Shape := ⟨1, ![394]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S394 : S_.BroadcastsInDim S394 (![] : Fin 0 → Fin S394.rank)

variable [Facts]

def fn_part1 {F : FTy → Type} [FloatOps F] (main_arg6 : IVec S394 32) (main_arg7 : FVec F S394 .f32) (main_arg8 : FVec F S394 .f32) (main_v1 : IVec S394 1) (main_v3 : IVec S394 1) (main_v5 : IVec S394 1) (main_v7 : IVec S394 1) (main_v9 : IVec S394 1) (main_v11 : IVec S394 1) (main_v13 : IVec S394 1) (main_v15 : IVec S394 1) : IVec S394 1 × IVec S394 1 × IVec S394 1 × IVec S394 1 × IVec S394 1 × IVec S394 1 × IVec S394 1 × IVec S394 1 × IVec S394 1 × IVec S394 1 × IVec S394 1 × IVec S394 1 :=
  let main_c_6 : IVec S_ 32 := constantI S_ 32 0#32
  let main_v16 : IVec S394 32 := broadcastInDim S394 ![] bcast_S_S394 main_c_6
  let main_v17 : IVec S394 1 := cmpi .sge main_arg6 main_v16
  let main_c_7 : IVec S_ 32 := constantI S_ 32 122#32
  let main_v18 : IVec S394 32 := broadcastInDim S394 ![] bcast_S_S394 main_c_7
  let main_v19 : IVec S394 1 := cmpi .slt main_arg6 main_v18
  let main_cst_8 : FVec F S_ .f32 := constant S_ .f32 0x00000000#32
  let main_v20 : FVec F S394 .f32 := broadcastInDim S394 ![] bcast_S_S394 main_cst_8
  let main_v21 : IVec S394 1 := cmpf .oge main_arg7 main_v20
  let main_cst_9 : FVec F S_ .f32 := constant S_ .f32 0x00000000#32
  let main_v22 : FVec F S394 .f32 := broadcastInDim S394 ![] bcast_S_S394 main_cst_9
  let main_v23 : IVec S394 1 := cmpf .oge main_arg8 main_v22
  (main_v1, main_v3, main_v5, main_v7, main_v9, main_v11, main_v13, main_v15, main_v17, main_v19, main_v21, main_v23)

def fn {F : FTy → Type} [FloatOps F] (main_arg0 : FVec F S394x768 .f32) (main_arg1 : IVec S394 32) (main_arg2 : IVec S394 32) (main_arg3 : FVec F S394 .f32) (main_arg4 : FVec F S394 .f32) (main_arg5 : IVec S394 32) (main_arg6 : IVec S394 32) (main_arg7 : FVec F S394 .f32) (main_arg8 : FVec F S394 .f32) (main_arg9 : FVec F S8x768x3072 .f32) (main_arg10 : FVec F S8x3072 .f32) (main_arg11 : FVec F S8x3072x768 .f32) (main_arg12 : FVec F S8x768 .f32) (main_arg13 : FVec F S394x768 .f32) : IVec S394 1 × IVec S394 1 × IVec S394 1 × IVec S394 1 × IVec S394 1 × IVec S394 1 × IVec S394 1 × IVec S394 1 × IVec S394 1 × IVec S394 1 × IVec S394 1 × IVec S394 1 :=
  let main_c : IVec S_ 32 := constantI S_ 32 0#32
  let main_v0 : IVec S394 32 := broadcastInDim S394 ![] bcast_S_S394 main_c
  let main_v1 : IVec S394 1 := cmpi .sge main_arg1 main_v0
  let main_c_0 : IVec S_ 32 := constantI S_ 32 8#32
  let main_v2 : IVec S394 32 := broadcastInDim S394 ![] bcast_S_S394 main_c_0
  let main_v3 : IVec S394 1 := cmpi .slt main_arg1 main_v2
  let main_c_1 : IVec S_ 32 := constantI S_ 32 0#32
  let main_v4 : IVec S394 32 := broadcastInDim S394 ![] bcast_S_S394 main_c_1
  let main_v5 : IVec S394 1 := cmpi .sge main_arg2 main_v4
  let main_c_2 : IVec S_ 32 := constantI S_ 32 122#32
  let main_v6 : IVec S394 32 := broadcastInDim S394 ![] bcast_S_S394 main_c_2
  let main_v7 : IVec S394 1 := cmpi .slt main_arg2 main_v6
  let main_cst : FVec F S_ .f32 := constant S_ .f32 0x00000000#32
  let main_v8 : FVec F S394 .f32 := broadcastInDim S394 ![] bcast_S_S394 main_cst
  let main_v9 : IVec S394 1 := cmpf .oge main_arg3 main_v8
  let main_cst_3 : FVec F S_ .f32 := constant S_ .f32 0x00000000#32
  let main_v10 : FVec F S394 .f32 := broadcastInDim S394 ![] bcast_S_S394 main_cst_3
  let main_v11 : IVec S394 1 := cmpf .oge main_arg4 main_v10
  let main_c_4 : IVec S_ 32 := constantI S_ 32 0#32
  let main_v12 : IVec S394 32 := broadcastInDim S394 ![] bcast_S_S394 main_c_4
  let main_v13 : IVec S394 1 := cmpi .sge main_arg5 main_v12
  let main_c_5 : IVec S_ 32 := constantI S_ 32 8#32
  let main_v14 : IVec S394 32 := broadcastInDim S394 ![] bcast_S_S394 main_c_5
  let main_v15 : IVec S394 1 := cmpi .slt main_arg5 main_v14
  fn_part1 (F := F) main_arg6 main_arg7 main_arg8 main_v1 main_v3 main_v5 main_v7 main_v9 main_v11 main_v13 main_v15
-- ==== Moe.lean ====
abbrev S394x768 : Shape := ⟨2, ![394, 768]⟩
abbrev S8x394x128 : Shape := ⟨3, ![8, 394, 128]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S8x1x3072 : Shape := ⟨3, ![8, 1, 3072]⟩
abbrev S8x1x768 : Shape := ⟨3, ![8, 1, 768]⟩
abbrev S1x394x128 : Shape := ⟨3, ![1, 394, 128]⟩
abbrev S1x768x3072 : Shape := ⟨3, ![1, 768, 3072]⟩
abbrev S1x1x3072 : Shape := ⟨3, ![1, 1, 3072]⟩
abbrev S1x3072x768 : Shape := ⟨3, ![1, 3072, 768]⟩
abbrev S1x1x768 : Shape := ⟨3, ![1, 1, 768]⟩
abbrev S394x128 : Shape := ⟨2, ![394, 128]⟩
abbrev S128x768 : Shape := ⟨2, ![128, 768]⟩
abbrev S768x3072 : Shape := ⟨2, ![768, 3072]⟩
abbrev S128x3072 : Shape := ⟨2, ![128, 3072]⟩
abbrev S1x3072 : Shape := ⟨2, ![1, 3072]⟩
abbrev S3072x768 : Shape := ⟨2, ![3072, 768]⟩
abbrev S1x768 : Shape := ⟨2, ![1, 768]⟩

abbrev nBuf : Space → Nat
  | .hbm => 13
  | .vmem => 15
  | .smem => 0
  | _ => 0

abbrev bufTy : (tb : Table) → Fin (tcTables nBuf tb) → BufTy
  | .hbm, ⟨0, _⟩ => ⟨S394x768, .f32⟩
  | .hbm, ⟨1, _⟩ => ⟨S8x394x128, .f32⟩
  | .hbm, ⟨2, _⟩ => ⟨S8x768x3072, .f32⟩
  | .hbm, ⟨3, _⟩ => ⟨S8x3072, .f32⟩
  | .hbm, ⟨4, _⟩ => ⟨S8x3072x768, .f32⟩
  | .hbm, ⟨5, _⟩ => ⟨S8x768, .f32⟩
  | .hbm, ⟨6, _⟩ => ⟨S8x394x128, .f32⟩
  | .hbm, ⟨7, _⟩ => ⟨S394x768, .f32⟩
  | .hbm, ⟨8, _⟩ => ⟨S8x768x3072, .bf16⟩
  | .hbm, ⟨9, _⟩ => ⟨S8x3072x768, .bf16⟩
  | .hbm, ⟨10, _⟩ => ⟨S8x1x3072, .f32⟩
  | .hbm, ⟨11, _⟩ => ⟨S8x1x768, .f32⟩
  | .hbm, ⟨12, _⟩ => ⟨S394x768, .f32⟩
  | .local _ .vmem, ⟨0, _⟩ => ⟨S394x768, .f32⟩
  | .local _ .vmem, ⟨1, _⟩ => ⟨S1x394x128, .f32⟩
  | .local _ .vmem, ⟨2, _⟩ => ⟨S1x394x128, .f32⟩
  | .local _ .vmem, ⟨3, _⟩ => ⟨S1x768x3072, .bf16⟩
  | .local _ .vmem, ⟨4, _⟩ => ⟨S1x768x3072, .bf16⟩
  | .local _ .vmem, ⟨5, _⟩ => ⟨S1x1x3072, .f32⟩
  | .local _ .vmem, ⟨6, _⟩ => ⟨S1x1x3072, .f32⟩
  | .local _ .vmem, ⟨7, _⟩ => ⟨S1x3072x768, .bf16⟩
  | .local _ .vmem, ⟨8, _⟩ => ⟨S1x3072x768, .bf16⟩
  | .local _ .vmem, ⟨9, _⟩ => ⟨S1x1x768, .f32⟩
  | .local _ .vmem, ⟨10, _⟩ => ⟨S1x1x768, .f32⟩
  | .local _ .vmem, ⟨11, _⟩ => ⟨S1x394x128, .f32⟩
  | .local _ .vmem, ⟨12, _⟩ => ⟨S1x394x128, .f32⟩
  | .local _ .vmem, ⟨13, _⟩ => ⟨S394x768, .f32⟩
  | .local _ .vmem, ⟨14, _⟩ => ⟨S394x768, .f32⟩
  | _, _ => ⟨S394x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_26 : BitVec 32 := 0#32
  let v40 : BitVec 1 := Scalar.cmpi .ne v39 c0_i32_26
  v40

def k0_cond2 (i : grid0.Coords) : BitVec 1 :=
  let arg0 : BitVec 32 := BitVec.ofNat 32 (i 0).val
  let c0_i32_27 : BitVec 32 := 0#32
  let v41 : BitVec 1 := Scalar.cmpi .ne arg0 c0_i32_27
  let v42 : BitVec 32 := Scalar.extui v41
  let c0_i32_28 : BitVec 32 := 0#32
  let v43 : BitVec 1 := Scalar.cmpi .ne v42 c0_i32_28
  v43

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S394x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x394x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3072x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x394x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S394x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S394x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MoeRefIdeal.lean ====
abbrev S394x768 : Shape := ⟨2, ![394, 768]⟩
abbrev S8x394x128 : Shape := ⟨3, ![8, 394, 128]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S8x128x768 : Shape := ⟨3, ![8, 128, 768]⟩
abbrev S8x128x3072 : Shape := ⟨3, ![8, 128, 3072]⟩
abbrev S8x1x3072 : Shape := ⟨3, ![8, 1, 3072]⟩
abbrev S_ : Shape := ⟨0, ![]⟩
abbrev S8x1x768 : Shape := ⟨3, ![8, 1, 768]⟩

abbrev nBuf : Space → Nat
  | .hbm => 36
  | .vmem => 0
  | .smem => 0
  | _ => 0

abbrev bufTy : (tb : Table) → Fin (tcTables nBuf tb) → BufTy
  | .hbm, ⟨0, _⟩ => ⟨S394x768, .f32⟩
  | .hbm, ⟨1, _⟩ => ⟨S8x394x128, .f32⟩
  | .hbm, ⟨2, _⟩ => ⟨S8x768x3072, .f32⟩
  | .hbm, ⟨3, _⟩ => ⟨S8x3072, .f32⟩
  | .hbm, ⟨4, _⟩ => ⟨S8x3072x768, .f32⟩
  | .hbm, ⟨5, _⟩ => ⟨S8x768, .f32⟩
  | .hbm, ⟨6, _⟩ => ⟨S8x394x128, .f32⟩
  | .hbm, ⟨7, _⟩ => ⟨S394x768, .f32⟩
  | .hbm, ⟨8, _⟩ => ⟨S8x128x768, .f32⟩
  | .hbm, ⟨9, _⟩ => ⟨S8x128x3072, .f32⟩
  | .hbm, ⟨10, _⟩ => ⟨S8x1x3072, .f32⟩
  | .hbm, ⟨11, _⟩ => ⟨S8x128x3072, .f32⟩
  | .hbm, ⟨12, _⟩ => ⟨S8x128x3072, .f32⟩
  | .hbm, ⟨13, _⟩ => ⟨S8x128x3072, .f32⟩
  | .hbm, ⟨14, _⟩ => ⟨S8x128x3072, .f32⟩
  | .hbm, ⟨15, _⟩ => ⟨S_, .f32⟩
  | .hbm, ⟨16, _⟩ => ⟨S8x128x3072, .f32⟩
  | .hbm, ⟨17, _⟩ => ⟨S8x128x3072, .f32⟩
  | .hbm, ⟨18, _⟩ => ⟨S8x128x3072, .f32⟩
  | .hbm, ⟨19, _⟩ => ⟨S_, .f32⟩
  | .hbm, ⟨20, _⟩ => ⟨S8x128x3072, .f32⟩
  | .hbm, ⟨21, _⟩ => ⟨S8x128x3072, .f32⟩
  | .hbm, ⟨22, _⟩ => ⟨S8x128x3072, .f32⟩
  | .hbm, ⟨23, _⟩ => ⟨S_, .f32⟩
  | .hbm, ⟨24, _⟩ => ⟨S8x128x3072, .f32⟩
  | .hbm, ⟨25, _⟩ => ⟨S8x128x3072, .f32⟩
  | .hbm, ⟨26, _⟩ => ⟨S_, .f32⟩
  | .hbm, ⟨27, _⟩ => ⟨S8x128x3072, .f32⟩
  | .hbm, ⟨28, _⟩ => ⟨S8x128x3072, .f32⟩
  | .hbm, ⟨29, _⟩ => ⟨S8x128x3072, .f32⟩
  | .hbm, ⟨30, _⟩ => ⟨S8x128x768, .f32⟩
  | .hbm, ⟨31, _⟩ => ⟨S8x1x768, .f32⟩
  | .hbm, ⟨32, _⟩ => ⟨S8x128x768, .f32⟩
  | .hbm, ⟨33, _⟩ => ⟨S8x128x768, .f32⟩
  | .hbm, ⟨34, _⟩ => ⟨S394x768, .f32⟩
  | .hbm, ⟨35, _⟩ => ⟨S394x768, .f32⟩
  | _, _ => ⟨S394x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Attn.lean ====
abbrev S2x197x768 : Shape := ⟨3, ![2, 197, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S394x768 : Shape := ⟨2, ![394, 768]⟩
abbrev S1x768 : Shape := ⟨2, ![1, 768]⟩
abbrev S1x2304 : Shape := ⟨2, ![1, 2304]⟩
abbrev S394x2304 : Shape := ⟨2, ![394, 2304]⟩
abbrev S394 : Shape := ⟨1, ![394]⟩
abbrev S394x1 : Shape := ⟨2, ![394, 1]⟩
abbrev S2x197x3x12x64 : Shape := ⟨5, ![2, 197, 3, 12, 64]⟩
abbrev S3x2x12x197x64 : Shape := ⟨5, ![3, 2, 12, 197, 64]⟩
abbrev S1x2x12x197x64 : Shape := ⟨5, ![1, 2, 12, 197, 64]⟩
abbrev S2x12x197x64 : Shape := ⟨4, ![2, 12, 197, 64]⟩
abbrev S1x12x197x64 : Shape := ⟨4, ![1, 12, 197, 64]⟩
abbrev S1x197x768 : Shape := ⟨3, ![1, 197, 768]⟩
abbrev S197x768 : Shape := ⟨2, ![197, 768]⟩
abbrev S1x1x197x64 : Shape := ⟨4, ![1, 1, 197, 64]⟩
abbrev S197x64 : Shape := ⟨2, ![197, 64]⟩
abbrev S197x197 : Shape := ⟨2, ![197, 197]⟩
abbrev S197 : Shape := ⟨1, ![197]⟩
abbrev S197x1 : Shape := ⟨2, ![197, 1]⟩
abbrev S64x768 : Shape := ⟨2, ![64, 768]⟩

abbrev nBuf : Space → Nat
  | .hbm => 25
  | .vmem => 18
  | .smem => 0
  | _ => 0

abbrev bufTy : (tb : Table) → Fin (tcTables nBuf tb) → BufTy
  | .hbm, ⟨0, _⟩ => ⟨S2x197x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S394x768, .f32⟩
  | .hbm, ⟨8, _⟩ => ⟨S768x2304, .bf16⟩
  | .hbm, ⟨9, _⟩ => ⟨S768x768, .bf16⟩
  | .hbm, ⟨10, _⟩ => ⟨S1x768, .f32⟩
  | .hbm, ⟨11, _⟩ => ⟨S1x768, .f32⟩
  | .hbm, ⟨12, _⟩ => ⟨S1x2304, .f32⟩
  | .hbm, ⟨13, _⟩ => ⟨S394x2304, .f32⟩
  | .hbm, ⟨14, _⟩ => ⟨S2x197x3x12x64, .f32⟩
  | .hbm, ⟨15, _⟩ => ⟨S3x2x12x197x64, .f32⟩
  | .hbm, ⟨16, _⟩ => ⟨S1x2x12x197x64, .f32⟩
  | .hbm, ⟨17, _⟩ => ⟨S2x12x197x64, .f32⟩
  | .hbm, ⟨18, _⟩ => ⟨S1x2x12x197x64, .f32⟩
  | .hbm, ⟨19, _⟩ => ⟨S2x12x197x64, .f32⟩
  | .hbm, ⟨20, _⟩ => ⟨S1x2x12x197x64, .f32⟩
  | .hbm, ⟨21, _⟩ => ⟨S2x12x197x64, .f32⟩
  | .hbm, ⟨22, _⟩ => ⟨S2x197x768, .f32⟩
  | .hbm, ⟨23, _⟩ => ⟨S1x768, .f32⟩
  | .hbm, ⟨24, _⟩ => ⟨S2x197x768, .f32⟩
  | .local _ .vmem, ⟨0, _⟩ => ⟨S394x768, .f32⟩
  | .local _ .vmem, ⟨1, _⟩ => ⟨S1x768, .f32⟩
  | .local _ .vmem, ⟨2, _⟩ => ⟨S1x768, .f32⟩
  | .local _ .vmem, ⟨3, _⟩ => ⟨S768x2304, .bf16⟩
  | .local _ .vmem, ⟨4, _⟩ => ⟨S1x2304, .f32⟩
  | .local _ .vmem, ⟨5, _⟩ => ⟨S394x2304, .f32⟩
  | .local _ .vmem, ⟨6, _⟩ => ⟨S1x12x197x64, .f32⟩
  | .local _ .vmem, ⟨7, _⟩ => ⟨S1x12x197x64, .f32⟩
  | .local _ .vmem, ⟨8, _⟩ => ⟨S1x12x197x64, .f32⟩
  | .local _ .vmem, ⟨9, _⟩ => ⟨S1x12x197x64, .f32⟩
  | .local _ .vmem, ⟨10, _⟩ => ⟨S1x12x197x64, .f32⟩
  | .local _ .vmem, ⟨11, _⟩ => ⟨S1x12x197x64, .f32⟩
  | .local _ .vmem, ⟨12, _⟩ => ⟨S768x768, .bf16⟩
  | .local _ .vmem, ⟨13, _⟩ => ⟨S1x768, .f32⟩
  | .local _ .vmem, ⟨14, _⟩ => ⟨S1x197x768, .f32⟩
  | .local _ .vmem, ⟨15, _⟩ => ⟨S1x197x768, .f32⟩
  | .local _ .vmem, ⟨16, _⟩ => ⟨S1x197x768, .f32⟩
  | .local _ .vmem, ⟨17, _⟩ => ⟨S1x197x768, .f32⟩
  | _, _ => ⟨S2x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := .none

abbrev stage0_0 : Fin 1 → Memref sig .tc .vmem S394x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S394x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x12x197x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x12x197x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12x197x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x197x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x197x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== AttnRefIdeal.lean ====
abbrev S2x197x768 : Shape := ⟨3, ![2, 197, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S_ : Shape := ⟨0, ![]⟩
abbrev S2x197 : Shape := ⟨2, ![2, 197]⟩
abbrev S2x197x1 : Shape := ⟨3, ![2, 197, 1]⟩
abbrev S1x1x768 : Shape := ⟨3, ![1, 1, 768]⟩
abbrev S2x197x2304 : Shape := ⟨3, ![2, 197, 2304]⟩
abbrev S1x1x2304 : Shape := ⟨3, ![1, 1, 2304]⟩
abbrev S2x197x3x12x64 : Shape := ⟨5, ![2, 197, 3, 12, 64]⟩
abbrev S3x2x12x197x64 : Shape := ⟨5, ![3, 2, 12, 197, 64]⟩
abbrev S1x2x12x197x64 : Shape := ⟨5, ![1, 2, 12, 197, 64]⟩
abbrev S2x12x197x64 : Shape := ⟨4, ![2, 12, 197, 64]⟩
abbrev S2x12x197x197 : Shape := ⟨4, ![2, 12, 197, 197]⟩
abbrev S2x12x197 : Shape := ⟨3, ![2, 12, 197]⟩
abbrev S2x12x197x1 : Shape := ⟨4, ![2, 12, 197, 1]⟩
abbrev S2x197x12x64 : Shape := ⟨4, ![2, 197, 12, 64]⟩

abbrev nBuf : Space → Nat
  | .hbm => 89
  | .vmem => 0
  | .smem => 0
  | _ => 0

abbrev bufTy : (tb : Table) → Fin (tcTables nBuf tb) → BufTy
  | .hbm, ⟨0, _⟩ => ⟨S2x197x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S_, .f32⟩
  | .hbm, ⟨8, _⟩ => ⟨S2x197, .f32⟩
  | .hbm, ⟨9, _⟩ => ⟨S2x197x1, .f32⟩
  | .hbm, ⟨10, _⟩ => ⟨S_, .f32⟩
  | .hbm, ⟨11, _⟩ => ⟨S2x197x1, .f32⟩
  | .hbm, ⟨12, _⟩ => ⟨S2x197x1, .f32⟩
  | .hbm, ⟨13, _⟩ => ⟨S_, .i32⟩
  | .hbm, ⟨14, _⟩ => ⟨S_, .f32⟩
  | .hbm, ⟨15, _⟩ => ⟨S2x197, .f32⟩
  | .hbm, ⟨16, _⟩ => ⟨S2x197x1, .f32⟩
  | .hbm, ⟨17, _⟩ => ⟨S_, .f32⟩
  | .hbm, ⟨18, _⟩ => ⟨S2x197x1, .f32⟩
  | .hbm, ⟨19, _⟩ => ⟨S2x197x1, .f32⟩
  | .hbm, ⟨20, _⟩ => ⟨S2x197x768, .f32⟩
  | .hbm, ⟨21, _⟩ => ⟨S2x197x768, .f32⟩
  | .hbm, ⟨22, _⟩ => ⟨S2x197x768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x197, .f32⟩
  | .hbm, ⟨28, _⟩ => ⟨S2x197x1, .f32⟩
  | .hbm, ⟨29, _⟩ => ⟨S2x197x1, .f32⟩
  | .hbm, ⟨30, _⟩ => ⟨S2x197x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S2x197x1, .f32⟩
  | .hbm, ⟨36, _⟩ => ⟨S2x197x1, .f32⟩
  | .hbm, ⟨37, _⟩ => ⟨S2x197x768, .f32⟩
  | .hbm, ⟨38, _⟩ => ⟨S2x197x768, .f32⟩
  | .hbm, ⟨39, _⟩ => ⟨S_, .f32⟩
  | .hbm, ⟨40, _⟩ => ⟨S2x197x1, .f32⟩
  | .hbm, ⟨41, _⟩ => ⟨S2x197x1, .f32⟩
  | .hbm, ⟨42, _⟩ => ⟨S2x197x1, .f32⟩
  | .hbm, ⟨43, _⟩ => ⟨S2x197x768, .f32⟩
  | .hbm, ⟨44, _⟩ => ⟨S2x197x768, .f32⟩
  | .hbm, ⟨45, _⟩ => ⟨S1x1x768, .f32⟩
  | .hbm, ⟨46, _⟩ => ⟨S2x197x768, .f32⟩
  | .hbm, ⟨47, _⟩ => ⟨S2x197x768, .f32⟩
  | .hbm, ⟨48, _⟩ => ⟨S1x1x768, .f32⟩
  | .hbm, ⟨49, _⟩ => ⟨S2x197x768, .f32⟩
  | .hbm, ⟨50, _⟩ => ⟨S2x197x768, .f32⟩
  | .hbm, ⟨51, _⟩ => ⟨S2x197x2304, .f32⟩
  | .hbm, ⟨52, _⟩ => ⟨S1x1x2304, .f32⟩
  | .hbm, ⟨53, _⟩ => ⟨S2x197x2304, .f32⟩
  | .hbm, ⟨54, _⟩ => ⟨S2x197x2304, .f32⟩
  | .hbm, ⟨55, _⟩ => ⟨S2x197x3x12x64, .f32⟩
  | .hbm, ⟨56, _⟩ => ⟨S3x2x12x197x64, .f32⟩
  | .hbm, ⟨57, _⟩ => ⟨S1x2x12x197x64, .f32⟩
  | .hbm, ⟨58, _⟩ => ⟨S2x12x197x64, .f32⟩
  | .hbm, ⟨59, _⟩ => ⟨S1x2x12x197x64, .f32⟩
  | .hbm, ⟨60, _⟩ => ⟨S2x12x197x64, .f32⟩
  | .hbm, ⟨61, _⟩ => ⟨S1x2x12x197x64, .f32⟩
  | .hbm, ⟨62, _⟩ => ⟨S2x12x197x64, .f32⟩
  | .hbm, ⟨63, _⟩ => ⟨S2x12x197x197, .f32⟩
  | .hbm, ⟨64, _⟩ => ⟨S_, .f32⟩
  | .hbm, ⟨65, _⟩ => ⟨S2x12x197x197, .f32⟩
  | .hbm, ⟨66, _⟩ => ⟨S2x12x197x197, .f32⟩
  | .hbm, ⟨67, _⟩ => ⟨S_, .f32⟩
  | .hbm, ⟨68, _⟩ => ⟨S2x12x197, .f32⟩
  | .hbm, ⟨69, _⟩ => ⟨S_, .f32⟩
  | .hbm, ⟨70, _⟩ => ⟨S2x12x197, .f32⟩
  | .hbm, ⟨71, _⟩ => ⟨S2x12x197, .f32⟩
  | .hbm, ⟨72, _⟩ => ⟨S2x12x197x1, .f32⟩
  | .hbm, ⟨73, _⟩ => ⟨S2x12x197x197, .f32⟩
  | .hbm, ⟨74, _⟩ => ⟨S2x12x197x197, .f32⟩
  | .hbm, ⟨75, _⟩ => ⟨S2x12x197x197, .f32⟩
  | .hbm, ⟨76, _⟩ => ⟨S_, .f32⟩
  | .hbm, ⟨77, _⟩ => ⟨S2x12x197, .f32⟩
  | .hbm, ⟨78, _⟩ => ⟨S2x12x197x1, .f32⟩
  | .hbm, ⟨79, _⟩ => ⟨S2x12x197x197, .f32⟩
  | .hbm, ⟨80, _⟩ => ⟨S2x12x197x197, .f32⟩
  | .hbm, ⟨81, _⟩ => ⟨S2x12x197x64, .f32⟩
  | .hbm, ⟨82, _⟩ => ⟨S2x197x12x64, .f32⟩
  | .hbm, ⟨83, _⟩ => ⟨S2x197x768, .f32⟩
  | .hbm, ⟨84, _⟩ => ⟨S2x197x768, .f32⟩
  | .hbm, ⟨85, _⟩ => ⟨S1x1x768, .f32⟩
  | .hbm, ⟨86, _⟩ => ⟨S2x197x768, .f32⟩
  | .hbm, ⟨87, _⟩ => ⟨S2x197x768, .f32⟩
  | .hbm, ⟨88, _⟩ => ⟨S2x197x768, .f32⟩
  | _, _ => ⟨S2x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_2 : Ref sig .tc := ⟨.hbm, 64, rfl⟩
abbrev main_v31 : Ref sig .tc := ⟨.hbm, 65, rfl⟩
abbrev main_v32 : Ref sig .tc := ⟨.hbm, 66, rfl⟩
abbrev main_cst_3 : Ref sig .tc := ⟨.hbm, 67, rfl⟩
abbrev main_v33 : Ref sig .tc := ⟨.hbm, 68, rfl⟩
abbrev main_cst_4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩

abbrev nD : Nat := 1
abbrev τ : Topo := Topo.v7x

variable {F : FTy → Type} [FloatOps F]
-- ==== Route.lean ====
abbrev S2x197x768 : Shape := ⟨3, ![2, 197, 768]⟩
abbrev S768x8 : Shape := ⟨2, ![768, 8]⟩
abbrev S768 : Shape := ⟨1, ![768]⟩
abbrev S394x768 : Shape := ⟨2, ![394, 768]⟩
abbrev S1x768 : Shape := ⟨2, ![1, 768]⟩
abbrev S8x394x128 : Shape := ⟨3, ![8, 394, 128]⟩
abbrev S394 : Shape := ⟨1, ![394]⟩
abbrev S394x1 : Shape := ⟨2, ![394, 1]⟩
abbrev S394x8 : Shape := ⟨2, ![394, 8]⟩
abbrev S394x394 : Shape := ⟨2, ![394, 394]⟩
abbrev S8 : Shape := ⟨1, ![8]⟩
abbrev S1x8 : Shape := ⟨2, ![1, 8]⟩
abbrev S1x394x1 : Shape := ⟨3, ![1, 394, 1]⟩

abbrev nBuf : Space → Nat
  | .hbm => 10
  | .vmem => 7
  | .smem => 0
  | _ => 0

abbrev bufTy : (tb : Table) → Fin (tcTables nBuf tb) → BufTy
  | .hbm, ⟨0, _⟩ => ⟨S2x197x768, .f32⟩
  | .hbm, ⟨1, _⟩ => ⟨S768x8, .f32⟩
  | .hbm, ⟨2, _⟩ => ⟨S768, .f32⟩
  | .hbm, ⟨3, _⟩ => ⟨S768, .f32⟩
  | .hbm, ⟨4, _⟩ => ⟨S394x768, .f32⟩
  | .hbm, ⟨5, _⟩ => ⟨S1x768, .f32⟩
  | .hbm, ⟨6, _⟩ => ⟨S1x768, .f32⟩
  | .hbm, ⟨7, _⟩ => ⟨S394x768, .f32⟩
  | .hbm, ⟨8, _⟩ => ⟨S8x394x128, .f32⟩
  | .hbm, ⟨9, _⟩ => ⟨S8x394x128, .f32⟩
  | .local _ .vmem, ⟨0, _⟩ => ⟨S394x768, .f32⟩
  | .local _ .vmem, ⟨1, _⟩ => ⟨S1x768, .f32⟩
  | .local _ .vmem, ⟨2, _⟩ => ⟨S1x768, .f32⟩
  | .local _ .vmem, ⟨3, _⟩ => ⟨S768x8, .f32⟩
  | .local _ .vmem, ⟨4, _⟩ => ⟨S394x768, .f32⟩
  | .local _ .vmem, ⟨5, _⟩ => ⟨S8x394x128, .f32⟩
  | .local _ .vmem, ⟨6, _⟩ => ⟨S8x394x128, .f32⟩
  | _, _ => ⟨S2x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S394x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S394x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x394x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x394x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RouteRefIdeal.lean ====
abbrev S2x197x768 : Shape := ⟨3, ![2, 197, 768]⟩
abbrev S768x8 : Shape := ⟨2, ![768, 8]⟩
abbrev S768 : Shape := ⟨1, ![768]⟩
abbrev S_ : Shape := ⟨0, ![]⟩
abbrev S2x197 : Shape := ⟨2, ![2, 197]⟩
abbrev S2x197x1 : Shape := ⟨3, ![2, 197, 1]⟩
abbrev S1x1x768 : Shape := ⟨3, ![1, 1, 768]⟩
abbrev S394x768 : Shape := ⟨2, ![394, 768]⟩
abbrev S394x8 : Shape := ⟨2, ![394, 8]⟩
abbrev S394 : Shape := ⟨1, ![394]⟩
abbrev S394x1 : Shape := ⟨2, ![394, 1]⟩
abbrev S1x8 : Shape := ⟨2, ![1, 8]⟩
abbrev S8 : Shape := ⟨1, ![8]⟩
abbrev S1x128 : Shape := ⟨2, ![1, 128]⟩
abbrev S394x128 : Shape := ⟨2, ![394, 128]⟩
abbrev S8x394 : Shape := ⟨2, ![8, 394]⟩
abbrev S8x394x1 : Shape := ⟨3, ![8, 394, 1]⟩
abbrev S1x394x128 : Shape := ⟨3, ![1, 394, 128]⟩
abbrev S8x394x128 : Shape := ⟨3, ![8, 394, 128]⟩

abbrev nBuf : Space → Nat
  | .hbm => 206
  | .vmem => 0
  | .smem => 0
  | _ => 0

abbrev hbmTy0_0 (i : Nat) : BufTy := match i % 128 with
  | 0 => ⟨S2x197x768, .f32⟩
  | 1 => ⟨S768x8, .f32⟩
  | 2 => ⟨S768, .f32⟩
  | 3 => ⟨S768, .f32⟩
  | 4 => ⟨S_, .f32⟩
  | 5 => ⟨S2x197, .f32⟩
  | 6 => ⟨S2x197x1, .f32⟩
  | 7 => ⟨S_, .f32⟩
  | 8 => ⟨S2x197x1, .f32⟩
  | 9 => ⟨S2x197x1, .f32⟩
  | 10 => ⟨S_, .i32⟩
  | 11 => ⟨S_, .f32⟩
  | 12 => ⟨S2x197, .f32⟩
  | 13 => ⟨S2x197x1, .f32⟩
  | 14 => ⟨S_, .f32⟩
  | 15 => ⟨S2x197x1, .f32⟩
  | 16 => ⟨S2x197x1, .f32⟩
  | 17 => ⟨S2x197x768, .f32⟩
  | 18 => ⟨S2x197x768, .f32⟩
  | 19 => ⟨S2x197x768, .f32⟩
  | 20 => ⟨S_, .f32⟩
  | 21 => ⟨S_, .f32⟩
  | 22 => ⟨S_, .f32⟩
  | 23 => ⟨S_, .f32⟩
  | 24 => ⟨S2x197, .f32⟩
  | 25 => ⟨S2x197x1, .f32⟩
  | 26 => ⟨S2x197x1, .f32⟩
  | 27 => ⟨S2x197x1, .f32⟩
  | 28 => ⟨S_, .f32⟩
  | 29 => ⟨S_, .i1⟩
  | 30 => ⟨S_, .f32⟩
  | 31 => ⟨S_, .f32⟩
  | 32 => ⟨S2x197x1, .f32⟩
  | 33 => ⟨S2x197x1, .f32⟩
  | 34 => ⟨S2x197x768, .f32⟩
  | 35 => ⟨S2x197x768, .f32⟩
  | 36 => ⟨S_, .f32⟩
  | 37 => ⟨S2x197x1, .f32⟩
  | 38 => ⟨S2x197x1, .f32⟩
  | 39 => ⟨S2x197x1, .f32⟩
  | 40 => ⟨S2x197x768, .f32⟩
  | 41 => ⟨S2x197x768, .f32⟩
  | 42 => ⟨S1x1x768, .f32⟩
  | 43 => ⟨S2x197x768, .f32⟩
  | 44 => ⟨S2x197x768, .f32⟩
  | 45 => ⟨S1x1x768, .f32⟩
  | 46 => ⟨S2x197x768, .f32⟩
  | 47 => ⟨S2x197x768, .f32⟩
  | 48 => ⟨S394x768, .f32⟩
  | 49 => ⟨S394x8, .f32⟩
  | 50 => ⟨S_, .f32⟩
  | 51 => ⟨S394, .f32⟩
  | 52 => ⟨S_, .f32⟩
  | 53 => ⟨S394, .f32⟩
  | 54 => ⟨S394, .f32⟩
  | 55 => ⟨S394x1, .f32⟩
  | 56 => ⟨S394x8, .f32⟩
  | 57 => ⟨S394x8, .f32⟩
  | 58 => ⟨S394x8, .f32⟩
  | 59 => ⟨S_, .f32⟩
  | 60 => ⟨S394, .f32⟩
  | 61 => ⟨S394x1, .f32⟩
  | 62 => ⟨S394x8, .f32⟩
  | 63 => ⟨S394x8, .f32⟩
  | 64 => ⟨S394x8, .i32⟩
  | 65 => ⟨S_, .f32⟩
  | 66 => ⟨S_, .i32⟩
  | 67 => ⟨S394, .f32⟩
  | 68 => ⟨S394, .i32⟩
  | 69 => ⟨S394x1, .i32⟩
  | 70 => ⟨S1x8, .i32⟩
  | 71 => ⟨S394x8, .i32⟩
  | 72 => ⟨S394x8, .i32⟩
  | 73 => ⟨S394x8, .i1⟩
  | 74 => ⟨S394x8, .f32⟩
  | 75 => ⟨S_, .f32⟩
  | 76 => ⟨S394x8, .f32⟩
  | 77 => ⟨S394x8, .i1⟩
  | 78 => ⟨S_, .f32⟩
  | 79 => ⟨S_, .f32⟩
  | 80 => ⟨S394x8, .f32⟩
  | 81 => ⟨S394x8, .f32⟩
  | 82 => ⟨S394x8, .i32⟩
  | 83 => ⟨S_, .f32⟩
  | 84 => ⟨S_, .i32⟩
  | 85 => ⟨S394, .f32⟩
  | 86 => ⟨S394, .i32⟩
  | 87 => ⟨S394x1, .i32⟩
  | 88 => ⟨S1x8, .i32⟩
  | 89 => ⟨S394x8, .i32⟩
  | 90 => ⟨S394x8, .i32⟩
  | 91 => ⟨S394x8, .i1⟩
  | 92 => ⟨S394x8, .f32⟩
  | 93 => ⟨S_, .f32⟩
  | 94 => ⟨S_, .f32⟩
  | 95 => ⟨S394x8, .f32⟩
  | 96 => ⟨S394x8, .f32⟩
  | 97 => ⟨S_, .f32⟩
  | 98 => ⟨S_, .f32⟩
  | 99 => ⟨S394x8, .f32⟩
  | 100 => ⟨S394x8, .f32⟩
  | 101 => ⟨S_, .f32⟩
  | 102 => ⟨S8, .f32⟩
  | 103 => ⟨S1x8, .f32⟩
  | 104 => ⟨S394x8, .f32⟩
  | 105 => ⟨S394x8, .f32⟩
  | 106 => ⟨S394x8, .f32⟩
  | 107 => ⟨S_, .f32⟩
  | 108 => ⟨S394, .f32⟩
  | 109 => ⟨S394, .i32⟩
  | 110 => ⟨S394x8, .f32⟩
  | 111 => ⟨S_, .f32⟩
  | 112 => ⟨S394, .f32⟩
  | 113 => ⟨S394, .i32⟩
  | 114 => ⟨S_, .i32⟩
  | 115 => ⟨S394, .i32⟩
  | 116 => ⟨S394, .i1⟩
  | 117 => ⟨S394, .f32⟩
  | 118 => ⟨S_, .i32⟩
  | 119 => ⟨S394, .i32⟩
  | 120 => ⟨S394, .i1⟩
  | 121 => ⟨S394, .f32⟩
  | 122 => ⟨S394x8, .f32⟩
  | 123 => ⟨S_, .f32⟩
  | 124 => ⟨S394, .f32⟩
  | 125 => ⟨S394, .f32⟩
  | 126 => ⟨S394x8, .f32⟩
  | 127 => ⟨S_, .f32⟩
  | _ => ⟨S2x197x768, .f32⟩

abbrev hbmTy0_1 (i : Nat) : BufTy := match i % 128 with
  | 0 => ⟨S394, .f32⟩
  | 1 => ⟨S394, .f32⟩
  | 2 => ⟨S394, .f32⟩
  | 3 => ⟨S_, .f32⟩
  | 4 => ⟨S394, .f32⟩
  | 5 => ⟨S394, .i1⟩
  | 6 => ⟨S_, .f32⟩
  | 7 => ⟨S_, .f32⟩
  | 8 => ⟨S394, .f32⟩
  | 9 => ⟨S394, .f32⟩
  | 10 => ⟨S394, .f32⟩
  | 11 => ⟨S394, .f32⟩
  | 12 => ⟨S_, .i32⟩
  | 13 => ⟨S_, .i32⟩
  | 14 => ⟨S_, .i32⟩
  | 15 => ⟨S394, .i32⟩
  | 16 => ⟨S394, .i32⟩
  | 17 => ⟨S_, .i32⟩
  | 18 => ⟨S394, .i32⟩
  | 19 => ⟨S394, .i32⟩
  | 20 => ⟨S_, .i32⟩
  | 21 => ⟨S_, .i32⟩
  | 22 => ⟨S_, .i32⟩
  | 23 => ⟨S394, .i32⟩
  | 24 => ⟨S394, .i32⟩
  | 25 => ⟨S_, .i32⟩
  | 26 => ⟨S394, .i32⟩
  | 27 => ⟨S394, .i32⟩
  | 28 => ⟨S394x1, .i32⟩
  | 29 => ⟨S1x128, .i32⟩
  | 30 => ⟨S394x128, .i32⟩
  | 31 => ⟨S394x128, .i32⟩
  | 32 => ⟨S394x128, .i1⟩
  | 33 => ⟨S394x128, .f32⟩
  | 34 => ⟨S394x1, .i32⟩
  | 35 => ⟨S1x128, .i32⟩
  | 36 => ⟨S394x128, .i32⟩
  | 37 => ⟨S394x128, .i32⟩
  | 38 => ⟨S394x128, .i1⟩
  | 39 => ⟨S394x128, .f32⟩
  | 40 => ⟨S394x1, .f32⟩
  | 41 => ⟨S394x8, .f32⟩
  | 42 => ⟨S394x8, .f32⟩
  | 43 => ⟨S8x394, .f32⟩
  | 44 => ⟨S8x394x1, .f32⟩
  | 45 => ⟨S1x394x128, .f32⟩
  | 46 => ⟨S8x394x128, .f32⟩
  | 47 => ⟨S8x394x128, .f32⟩
  | 48 => ⟨S8x394x128, .f32⟩
  | 49 => ⟨S394x1, .f32⟩
  | 50 => ⟨S394x8, .f32⟩
  | 51 => ⟨S394x8, .f32⟩
  | 52 => ⟨S8x394, .f32⟩
  | 53 => ⟨S8x394x1, .f32⟩
  | 54 => ⟨S1x394x128, .f32⟩
  | 55 => ⟨S8x394x128, .f32⟩
  | 56 => ⟨S8x394x128, .f32⟩
  | 57 => ⟨S8x394x128, .f32⟩
  | 58 => ⟨S394x1, .f32⟩
  | 59 => ⟨S394x8, .f32⟩
  | 60 => ⟨S394x8, .f32⟩
  | 61 => ⟨S8x394, .f32⟩
  | 62 => ⟨S8x394x1, .f32⟩
  | 63 => ⟨S1x394x128, .f32⟩
  | 64 => ⟨S8x394x128, .f32⟩
  | 65 => ⟨S8x394x128, .f32⟩
  | 66 => ⟨S8x394x128, .f32⟩
  | 67 => ⟨S394x1, .f32⟩
  | 68 => ⟨S394x8, .f32⟩
  | 69 => ⟨S394x8, .f32⟩
  | 70 => ⟨S8x394, .f32⟩
  | 71 => ⟨S8x394x1, .f32⟩
  | 72 => ⟨S1x394x128, .f32⟩
  | 73 => ⟨S8x394x128, .f32⟩
  | 74 => ⟨S8x394x128, .f32⟩
  | 75 => ⟨S8x394x128, .f32⟩
  | 76 => ⟨S8x394x128, .f32⟩
  | 77 => ⟨S8x394x128, .f32⟩
  | _ => ⟨S2x197x768, .f32⟩

abbrev hbmTy (i : Nat) : BufTy := match i / 128 with
  | 0 => hbmTy0_0 i
  | 1 => hbmTy0_1 i
  | _ => ⟨S2x197x768, .f32⟩

abbrev bufTy : (tb : Table) → Fin (tcTables nBuf tb) → BufTy
  | .hbm, ⟨i, _⟩ => hbmTy i
  | _, _ => ⟨S2x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_4 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v31 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v32 : Ref sig .tc := ⟨.hbm, 74, rfl⟩
abbrev main_cst_5 : Ref sig .tc := ⟨.hbm, 75, rfl⟩
abbrev main_v33 : Ref sig .tc := ⟨.hbm, 76, rfl⟩
abbrev main_v34 : Ref sig .tc := ⟨.hbm, 77, rfl⟩
abbrev main_cst_6 : Ref sig .tc := ⟨.hbm, 78, rfl⟩
abbrev main_call3_v0 : Ref sig .tc := ⟨.hbm, 79, rfl⟩
abbrev main_call3_v1 : Ref sig .tc := ⟨.hbm, 80, rfl⟩
abbrev main_v35 : Ref sig .tc := ⟨.hbm, 81, rfl⟩
abbrev main_call4_v0 : Ref sig .tc := ⟨.hbm, 82, rfl⟩
abbrev main_call4_cst : Ref sig .tc := ⟨.hbm, 83, rfl⟩
abbrev main_call4_c : Ref sig .tc := ⟨.hbm, 84, rfl⟩
abbrev main_call4_v1_0 : Ref sig .tc := ⟨.hbm, 85, rfl⟩
abbrev main_v36 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_v37 : Ref sig .tc := ⟨.hbm, 92, rfl⟩
abbrev main_call6_call0_cst : Ref sig .tc := ⟨.hbm, 93, rfl⟩
abbrev main_call6_call0_v0 : Ref sig .tc := ⟨.hbm, 94, rfl⟩
abbrev main_v38 : Ref sig .tc := ⟨.hbm, 95, rfl⟩
abbrev main_v39 : Ref sig .tc := ⟨.hbm, 96, rfl⟩
abbrev main_call7_call0_cst : Ref sig .tc := ⟨.hbm, 97, rfl⟩
abbrev main_call7_call0_v0 : Ref sig .tc := ⟨.hbm, 98, rfl⟩
abbrev main_v40 : Ref sig .tc := ⟨.hbm, 99, rfl⟩
abbrev main_v41 : Ref sig .tc := ⟨.hbm, 100, rfl⟩
abbrev main_cst_7 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_8 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_cst_9 : Ref sig .tc := ⟨.hbm, 111, rfl⟩
abbrev main_v50 : Ref sig .tc := ⟨.hbm, 112, rfl⟩
abbrev main_v51 : Ref sig .tc := ⟨.hbm, 113, rfl⟩
abbrev main_c_10 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_11 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_12 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_13 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_cst_14 : Ref sig .tc := ⟨.hbm, 131, rfl⟩
abbrev main_v65 : Ref sig .tc := ⟨.hbm, 132, rfl⟩
abbrev main_v66 : Ref sig .tc := ⟨.hbm, 133, rfl⟩
abbrev main_cst_15 : Ref sig .tc := ⟨.hbm, 134, rfl⟩
abbrev main_call8_v0 : Ref sig .tc := ⟨.hbm, 135, rfl⟩
abbrev main_call8_v1 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_c_16 : Ref sig .tc := ⟨.hbm, 140, rfl⟩
abbrev main_c_17 : Ref sig .tc := ⟨.hbm, 141, rfl⟩
abbrev main_call9_v0 : Ref sig .tc := ⟨.hbm, 142, rfl⟩
abbrev main_call9_v1 : Ref sig .tc := ⟨.hbm, 143, rfl⟩
abbrev main_call9_v2 : Ref sig .tc := ⟨.hbm, 144, rfl⟩
abbrev main_call9_v3 : Ref sig .tc := ⟨.hbm, 145, rfl⟩
abbrev main_call9_v4 : Ref sig .tc := ⟨.hbm, 146, rfl⟩
abbrev main_v70 : Ref sig .tc := ⟨.hbm, 147, rfl⟩
abbrev main_c_18 : Ref sig .tc := ⟨.hbm, 148, rfl⟩
abbrev main_c_19 : Ref sig .tc := ⟨.hbm, 149, rfl⟩
abbrev main_call10_v0 : Ref sig .tc := ⟨.hbm, 150, rfl⟩
abbrev main_call10_v1 : Ref sig .tc := ⟨.hbm, 151, rfl⟩
abbrev main_call10_v2 : Ref sig .tc := ⟨.hbm, 152, rfl⟩
abbrev main_call10_v3 : Ref sig .tc := ⟨.hbm, 153, rfl⟩
abbrev main_call10_v4 : Ref sig .tc := ⟨.hbm, 154, rfl⟩
abbrev main_v71 : Ref sig .tc := ⟨.hbm, 155, rfl⟩
abbrev main_call11_v0 : Ref sig .tc := ⟨.hbm, 156, rfl⟩
abbrev main_call11_v1 : Ref sig .tc := ⟨.hbm, 157, rfl⟩
abbrev main_call11_v2 : Ref sig .tc := ⟨.hbm, 158, rfl⟩
abbrev main_call11_v3 : Ref sig .tc := ⟨.hbm, 159, rfl⟩
abbrev main_call11_v4 : Ref sig .tc := ⟨.hbm, 160, rfl⟩
abbrev main_v72 : Ref sig .tc := ⟨.hbm, 161, rfl⟩
abbrev main_call12_v0 : Ref sig .tc := ⟨.hbm, 162, rfl⟩
abbrev main_call12_v1 : Ref sig .tc := ⟨.hbm, 163, rfl⟩
abbrev main_call12_v2 : Ref sig .tc := ⟨.hbm, 164, rfl⟩
abbrev main_call12_v3 : Ref sig .tc := ⟨.hbm, 165, rfl⟩
abbrev main_call12_v4 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩

abbrev nD : Nat := 1
abbrev τ : Topo := Topo.v7x

variable {F : FTy → Type} [FloatOps F]
-- ==== Experts.lean ====
abbrev S394x768 : Shape := ⟨2, ![394, 768]⟩
abbrev S394 : Shape := ⟨1, ![394]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S8x394x128 : Shape := ⟨3, ![8, 394, 128]⟩
abbrev S1x394x1 : Shape := ⟨3, ![1, 394, 1]⟩
abbrev S8x1x3072 : Shape := ⟨3, ![8, 1, 3072]⟩
abbrev S8x1x768 : Shape := ⟨3, ![8, 1, 768]⟩
abbrev S1x394x128 : Shape := ⟨3, ![1, 394, 128]⟩
abbrev S1x768x3072 : Shape := ⟨3, ![1, 768, 3072]⟩
abbrev S1x1x3072 : Shape := ⟨3, ![1, 1, 3072]⟩
abbrev S1x3072x768 : Shape := ⟨3, ![1, 3072, 768]⟩
abbrev S1x1x768 : Shape := ⟨3, ![1, 1, 768]⟩
abbrev S394x128 : Shape := ⟨2, ![394, 128]⟩
abbrev S128x768 : Shape := ⟨2, ![128, 768]⟩
abbrev S768x3072 : Shape := ⟨2, ![768, 3072]⟩
abbrev S128x3072 : Shape := ⟨2, ![128, 3072]⟩
abbrev S1x3072 : Shape := ⟨2, ![1, 3072]⟩
abbrev S3072x768 : Shape := ⟨2, ![3072, 768]⟩
abbrev S1x768 : Shape := ⟨2, ![1, 768]⟩

abbrev nBuf : Space → Nat
  | .hbm => 51
  | .vmem => 15
  | .smem => 0
  | _ => 0

abbrev bufTy : (tb : Table) → Fin (tcTables nBuf tb) → BufTy
  | .hbm, ⟨0, _⟩ => ⟨S394x768, .f32⟩
  | .hbm, ⟨1, _⟩ => ⟨S394, .i32⟩
  | .hbm, ⟨2, _⟩ => ⟨S394, .i32⟩
  | .hbm, ⟨3, _⟩ => ⟨S394, .f32⟩
  | .hbm, ⟨4, _⟩ => ⟨S394, .f32⟩
  | .hbm, ⟨5, _⟩ => ⟨S394, .i32⟩
  | .hbm, ⟨6, _⟩ => ⟨S394, .i32⟩
  | .hbm, ⟨7, _⟩ => ⟨S394, .f32⟩
  | .hbm, ⟨8, _⟩ => ⟨S394, .f32⟩
  | .hbm, ⟨9, _⟩ => ⟨S8x768x3072, .f32⟩
  | .hbm, ⟨10, _⟩ => ⟨S8x3072, .f32⟩
  | .hbm, ⟨11, _⟩ => ⟨S8x3072x768, .f32⟩
  | .hbm, ⟨12, _⟩ => ⟨S8x768, .f32⟩
  | .hbm, ⟨13, _⟩ => ⟨S394x768, .f32⟩
  | .hbm, ⟨14, _⟩ => ⟨S8x394x128, .i32⟩
  | .hbm, ⟨15, _⟩ => ⟨S8x394x128, .i32⟩
  | .hbm, ⟨16, _⟩ => ⟨S1x394x1, .i32⟩
  | .hbm, ⟨17, _⟩ => ⟨S8x394x128, .i32⟩
  | .hbm, ⟨18, _⟩ => ⟨S8x394x128, .i1⟩
  | .hbm, ⟨19, _⟩ => ⟨S1x394x1, .i32⟩
  | .hbm, ⟨20, _⟩ => ⟨S8x394x128, .i32⟩
  | .hbm, ⟨21, _⟩ => ⟨S8x394x128, .i1⟩
  | .hbm, ⟨22, _⟩ => ⟨S8x394x128, .i1⟩
  | .hbm, ⟨23, _⟩ => ⟨S1x394x1, .i32⟩
  | .hbm, ⟨24, _⟩ => ⟨S8x394x128, .i32⟩
  | .hbm, ⟨25, _⟩ => ⟨S8x394x128, .i1⟩
  | .hbm, ⟨26, _⟩ => ⟨S1x394x1, .i32⟩
  | .hbm, ⟨27, _⟩ => ⟨S8x394x128, .i32⟩
  | .hbm, ⟨28, _⟩ => ⟨S8x394x128, .i1⟩
  | .hbm, ⟨29, _⟩ => ⟨S8x394x128, .i1⟩
  | .hbm, ⟨30, _⟩ => ⟨S8x394x128, .f32⟩
  | .hbm, ⟨31, _⟩ => ⟨S8x394x128, .f32⟩
  | .hbm, ⟨32, _⟩ => ⟨S1x394x1, .f32⟩
  | .hbm, ⟨33, _⟩ => ⟨S8x394x128, .f32⟩
  | .hbm, ⟨34, _⟩ => ⟨S8x394x128, .f32⟩
  | .hbm, ⟨35, _⟩ => ⟨S1x394x1, .f32⟩
  | .hbm, ⟨36, _⟩ => ⟨S8x394x128, .f32⟩
  | .hbm, ⟨37, _⟩ => ⟨S8x394x128, .f32⟩
  | .hbm, ⟨38, _⟩ => ⟨S8x394x128, .f32⟩
  | .hbm, ⟨39, _⟩ => ⟨S1x394x1, .f32⟩
  | .hbm, ⟨40, _⟩ => ⟨S8x394x128, .f32⟩
  | .hbm, ⟨41, _⟩ => ⟨S8x394x128, .f32⟩
  | .hbm, ⟨42, _⟩ => ⟨S1x394x1, .f32⟩
  | .hbm, ⟨43, _⟩ => ⟨S8x394x128, .f32⟩
  | .hbm, ⟨44, _⟩ => ⟨S8x394x128, .f32⟩
  | .hbm, ⟨45, _⟩ => ⟨S8x394x128, .f32⟩
  | .hbm, ⟨46, _⟩ => ⟨S8x768x3072, .bf16⟩
  | .hbm, ⟨47, _⟩ => ⟨S8x3072x768, .bf16⟩
  | .hbm, ⟨48, _⟩ => ⟨S8x1x3072, .f32⟩
  | .hbm, ⟨49, _⟩ => ⟨S8x1x768, .f32⟩
  | .hbm, ⟨50, _⟩ => ⟨S394x768, .f32⟩
  | .local _ .vmem, ⟨0, _⟩ => ⟨S394x768, .f32⟩
  | .local _ .vmem, ⟨1, _⟩ => ⟨S1x394x128, .f32⟩
  | .local _ .vmem, ⟨2, _⟩ => ⟨S1x394x128, .f32⟩
  | .local _ .vmem, ⟨3, _⟩ => ⟨S1x768x3072, .bf16⟩
  | .local _ .vmem, ⟨4, _⟩ => ⟨S1x768x3072, .bf16⟩
  | .local _ .vmem, ⟨5, _⟩ => ⟨S1x1x3072, .f32⟩
  | .local _ .vmem, ⟨6, _⟩ => ⟨S1x1x3072, .f32⟩
  | .local _ .vmem, ⟨7, _⟩ => ⟨S1x3072x768, .bf16⟩
  | .local _ .vmem, ⟨8, _⟩ => ⟨S1x3072x768, .bf16⟩
  | .local _ .vmem, ⟨9, _⟩ => ⟨S1x1x768, .f32⟩
  | .local _ .vmem, ⟨10, _⟩ => ⟨S1x1x768, .f32⟩
  | .local _ .vmem, ⟨11, _⟩ => ⟨S1x394x128, .f32⟩
  | .local _ .vmem, ⟨12, _⟩ => ⟨S1x394x128, .f32⟩
  | .local _ .vmem, ⟨13, _⟩ => ⟨S394x768, .f32⟩
  | .local _ .vmem, ⟨14, _⟩ => ⟨S394x768, .f32⟩
  | _, _ => ⟨S394x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_26 : BitVec 32 := 0#32
  let v40 : BitVec 1 := Scalar.cmpi .ne v39 c0_i32_26
  v40

def k0_cond2 (i : grid0.Coords) : BitVec 1 :=
  let arg0 : BitVec 32 := BitVec.ofNat 32 (i 0).val
  let c0_i32_27 : BitVec 32 := 0#32
  let v41 : BitVec 1 := Scalar.cmpi .ne arg0 c0_i32_27
  let v42 : BitVec 32 := Scalar.extui v41
  let c0_i32_28 : BitVec 32 := 0#32
  let v43 : BitVec 1 := Scalar.cmpi .ne v42 c0_i32_28
  v43

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S394x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x394x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3072x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x394x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S394x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S394x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ExpertsRefIdeal.lean ====
abbrev S394x768 : Shape := ⟨2, ![394, 768]⟩
abbrev S394 : Shape := ⟨1, ![394]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩
abbrev S8x122x768 : Shape := ⟨3, ![8, 122, 768]⟩
abbrev S394x1 : Shape := ⟨2, ![394, 1]⟩
abbrev S394x2 : Shape := ⟨2, ![394, 2]⟩
abbrev S8x122x3072 : Shape := ⟨3, ![8, 122, 3072]⟩
abbrev S8x1x3072 : Shape := ⟨3, ![8, 1, 3072]⟩
abbrev S8x1x768 : Shape := ⟨3, ![8, 1, 768]⟩

abbrev nBuf : Space → Nat
  | .hbm => 127
  | .vmem => 0
  | .smem => 0
  | _ => 0

abbrev bufTy : (tb : Table) → Fin (tcTables nBuf tb) → BufTy
  | .hbm, ⟨0, _⟩ => ⟨S394x768, .f32⟩
  | .hbm, ⟨1, _⟩ => ⟨S394, .i32⟩
  | .hbm, ⟨2, _⟩ => ⟨S394, .i32⟩
  | .hbm, ⟨3, _⟩ => ⟨S394, .f32⟩
  | .hbm, ⟨4, _⟩ => ⟨S394, .f32⟩
  | .hbm, ⟨5, _⟩ => ⟨S394, .i32⟩
  | .hbm, ⟨6, _⟩ => ⟨S394, .i32⟩
  | .hbm, ⟨7, _⟩ => ⟨S394, .f32⟩
  | .hbm, ⟨8, _⟩ => ⟨S394, .f32⟩
  | .hbm, ⟨9, _⟩ => ⟨S8x768x3072, .f32⟩
  | .hbm, ⟨10, _⟩ => ⟨S8x3072, .f32⟩
  | .hbm, ⟨11, _⟩ => ⟨S8x3072x768, .f32⟩
  | .hbm, ⟨12, _⟩ => ⟨S8x768, .f32⟩
  | .hbm, ⟨13, _⟩ => ⟨S394x768, .f32⟩
  | .hbm, ⟨14, _⟩ => ⟨S_, .f32⟩
  | .hbm, ⟨15, _⟩ => ⟨S8x122x768, .f32⟩
  | .hbm, ⟨16, _⟩ => ⟨S394x1, .f32⟩
  | .hbm, ⟨17, _⟩ => ⟨S394x768, .f32⟩
  | .hbm, ⟨18, _⟩ => ⟨S394x768, .f32⟩
  | .hbm, ⟨19, _⟩ => ⟨S_, .i32⟩
  | .hbm, ⟨20, _⟩ => ⟨S394, .i32⟩
  | .hbm, ⟨21, _⟩ => ⟨S394, .i1⟩
  | .hbm, ⟨22, _⟩ => ⟨S_, .i32⟩
  | .hbm, ⟨23, _⟩ => ⟨S394, .i32⟩
  | .hbm, ⟨24, _⟩ => ⟨S394, .i32⟩
  | .hbm, ⟨25, _⟩ => ⟨S394, .i32⟩
  | .hbm, ⟨26, _⟩ => ⟨S_, .i32⟩
  | .hbm, ⟨27, _⟩ => ⟨S394, .i32⟩
  | .hbm, ⟨28, _⟩ => ⟨S394, .i1⟩
  | .hbm, ⟨29, _⟩ => ⟨S_, .i32⟩
  | .hbm, ⟨30, _⟩ => ⟨S394, .i32⟩
  | .hbm, ⟨31, _⟩ => ⟨S394, .i32⟩
  | .hbm, ⟨32, _⟩ => ⟨S394, .i32⟩
  | .hbm, ⟨33, _⟩ => ⟨S394x1, .i32⟩
  | .hbm, ⟨34, _⟩ => ⟨S394x1, .i32⟩
  | .hbm, ⟨35, _⟩ => ⟨S394x2, .i32⟩
  | .hbm, ⟨36, _⟩ => ⟨S8x122x768, .f32⟩
  | .hbm, ⟨37, _⟩ => ⟨S394x1, .f32⟩
  | .hbm, ⟨38, _⟩ => ⟨S394x768, .f32⟩
  | .hbm, ⟨39, _⟩ => ⟨S394x768, .f32⟩
  | .hbm, ⟨40, _⟩ => ⟨S_, .i32⟩
  | .hbm, ⟨41, _⟩ => ⟨S394, .i32⟩
  | .hbm, ⟨42, _⟩ => ⟨S394, .i1⟩
  | .hbm, ⟨43, _⟩ => ⟨S_, .i32⟩
  | .hbm, ⟨44, _⟩ => ⟨S394, .i32⟩
  | .hbm, ⟨45, _⟩ => ⟨S394, .i32⟩
  | .hbm, ⟨46, _⟩ => ⟨S394, .i32⟩
  | .hbm, ⟨47, _⟩ => ⟨S_, .i32⟩
  | .hbm, ⟨48, _⟩ => ⟨S394, .i32⟩
  | .hbm, ⟨49, _⟩ => ⟨S394, .i1⟩
  | .hbm, ⟨50, _⟩ => ⟨S_, .i32⟩
  | .hbm, ⟨51, _⟩ => ⟨S394, .i32⟩
  | .hbm, ⟨52, _⟩ => ⟨S394, .i32⟩
  | .hbm, ⟨53, _⟩ => ⟨S394, .i32⟩
  | .hbm, ⟨54, _⟩ => ⟨S394x1, .i32⟩
  | .hbm, ⟨55, _⟩ => ⟨S394x1, .i32⟩
  | .hbm, ⟨56, _⟩ => ⟨S394x2, .i32⟩
  | .hbm, ⟨57, _⟩ => ⟨S8x122x768, .f32⟩
  | .hbm, ⟨58, _⟩ => ⟨S8x122x3072, .f32⟩
  | .hbm, ⟨59, _⟩ => ⟨S8x1x3072, .f32⟩
  | .hbm, ⟨60, _⟩ => ⟨S8x122x3072, .f32⟩
  | .hbm, ⟨61, _⟩ => ⟨S8x122x3072, .f32⟩
  | .hbm, ⟨62, _⟩ => ⟨S8x122x3072, .f32⟩
  | .hbm, ⟨63, _⟩ => ⟨S8x122x3072, .f32⟩
  | .hbm, ⟨64, _⟩ => ⟨S_, .f32⟩
  | .hbm, ⟨65, _⟩ => ⟨S8x122x3072, .f32⟩
  | .hbm, ⟨66, _⟩ => ⟨S8x122x3072, .f32⟩
  | .hbm, ⟨67, _⟩ => ⟨S8x122x3072, .f32⟩
  | .hbm, ⟨68, _⟩ => ⟨S_, .f32⟩
  | .hbm, ⟨69, _⟩ => ⟨S8x122x3072, .f32⟩
  | .hbm, ⟨70, _⟩ => ⟨S8x122x3072, .f32⟩
  | .hbm, ⟨71, _⟩ => ⟨S8x122x3072, .f32⟩
  | .hbm, ⟨72, _⟩ => ⟨S_, .f32⟩
  | .hbm, ⟨73, _⟩ => ⟨S8x122x3072, .f32⟩
  | .hbm, ⟨74, _⟩ => ⟨S8x122x3072, .f32⟩
  | .hbm, ⟨75, _⟩ => ⟨S_, .f32⟩
  | .hbm, ⟨76, _⟩ => ⟨S8x122x3072, .f32⟩
  | .hbm, ⟨77, _⟩ => ⟨S8x122x3072, .f32⟩
  | .hbm, ⟨78, _⟩ => ⟨S8x122x3072, .f32⟩
  | .hbm, ⟨79, _⟩ => ⟨S8x122x768, .f32⟩
  | .hbm, ⟨80, _⟩ => ⟨S8x1x768, .f32⟩
  | .hbm, ⟨81, _⟩ => ⟨S8x122x768, .f32⟩
  | .hbm, ⟨82, _⟩ => ⟨S8x122x768, .f32⟩
  | .hbm, ⟨83, _⟩ => ⟨S_, .i32⟩
  | .hbm, ⟨84, _⟩ => ⟨S394, .i32⟩
  | .hbm, ⟨85, _⟩ => ⟨S394, .i1⟩
  | .hbm, ⟨86, _⟩ => ⟨S_, .i32⟩
  | .hbm, ⟨87, _⟩ => ⟨S394, .i32⟩
  | .hbm, ⟨88, _⟩ => ⟨S394, .i32⟩
  | .hbm, ⟨89, _⟩ => ⟨S394, .i32⟩
  | .hbm, ⟨90, _⟩ => ⟨S_, .i32⟩
  | .hbm, ⟨91, _⟩ => ⟨S394, .i32⟩
  | .hbm, ⟨92, _⟩ => ⟨S394, .i1⟩
  | .hbm, ⟨93, _⟩ => ⟨S_, .i32⟩
  | .hbm, ⟨94, _⟩ => ⟨S394, .i32⟩
  | .hbm, ⟨95, _⟩ => ⟨S394, .i32⟩
  | .hbm, ⟨96, _⟩ => ⟨S394, .i32⟩
  | .hbm, ⟨97, _⟩ => ⟨S394x1, .i32⟩
  | .hbm, ⟨98, _⟩ => ⟨S394x1, .i32⟩
  | .hbm, ⟨99, _⟩ => ⟨S394x2, .i32⟩
  | .hbm, ⟨100, _⟩ => ⟨S394x768, .f32⟩
  | .hbm, ⟨101, _⟩ => ⟨S394x1, .f32⟩
  | .hbm, ⟨102, _⟩ => ⟨S394x768, .f32⟩
  | .hbm, ⟨103, _⟩ => ⟨S394x768, .f32⟩
  | .hbm, ⟨104, _⟩ => ⟨S_, .i32⟩
  | .hbm, ⟨105, _⟩ => ⟨S394, .i32⟩
  | .hbm, ⟨106, _⟩ => ⟨S394, .i1⟩
  | .hbm, ⟨107, _⟩ => ⟨S_, .i32⟩
  | .hbm, ⟨108, _⟩ => ⟨S394, .i32⟩
  | .hbm, ⟨109, _⟩ => ⟨S394, .i32⟩
  | .hbm, ⟨110, _⟩ => ⟨S394, .i32⟩
  | .hbm, ⟨111, _⟩ => ⟨S_, .i32⟩
  | .hbm, ⟨112, _⟩ => ⟨S394, .i32⟩
  | .hbm, ⟨113, _⟩ => ⟨S394, .i1⟩
  | .hbm, ⟨114, _⟩ => ⟨S_, .i32⟩
  | .hbm, ⟨115, _⟩ => ⟨S394, .i32⟩
  | .hbm, ⟨116, _⟩ => ⟨S394, .i32⟩
  | .hbm, ⟨117, _⟩ => ⟨S394, .i32⟩
  | .hbm, ⟨118, _⟩ => ⟨S394x1, .i32⟩
  | .hbm, ⟨119, _⟩ => ⟨S394x1, .i32⟩
  | .hbm, ⟨120, _⟩ => ⟨S394x2, .i32⟩
  | .hbm, ⟨121, _⟩ => ⟨S394x768, .f32⟩
  | .hbm, ⟨122, _⟩ => ⟨S394x1, .f32⟩
  | .hbm, ⟨123, _⟩ => ⟨S394x768, .f32⟩
  | .hbm, ⟨124, _⟩ => ⟨S394x768, .f32⟩
  | .hbm, ⟨125, _⟩ => ⟨S394x768, .f32⟩
  | .hbm, ⟨126, _⟩ => ⟨S394x768, .f32⟩
  | _, _ => ⟨S394x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]
-- ==== Embed.lean ====
abbrev S2x3x224x224 : Shape := ⟨4, ![2, 3, 224, 224]⟩
abbrev S768x768 : Shape := ⟨2, ![768, 768]⟩
abbrev S768 : Shape := ⟨1, ![768]⟩
abbrev S1x1x768 : Shape := ⟨3, ![1, 1, 768]⟩
abbrev S1x197x768 : Shape := ⟨3, ![1, 197, 768]⟩
abbrev S2x3x14x16x14x16 : Shape := ⟨6, ![2, 3, 14, 16, 14, 16]⟩
abbrev S2x14x14x3x16x16 : Shape := ⟨6, ![2, 14, 14, 3, 16, 16]⟩
abbrev S392x768 : Shape := ⟨2, ![392, 768]⟩
abbrev S1x768 : Shape := ⟨2, ![1, 768]⟩
abbrev S2x1x768 : Shape := ⟨3, ![2, 1, 768]⟩
abbrev S2x196x768 : Shape := ⟨3, ![2, 196, 768]⟩
abbrev S2x197x768 : Shape := ⟨3, ![2, 197, 768]⟩

abbrev nBuf : Space → Nat
  | .hbm => 15
  | .vmem => 4
  | .smem => 0
  | _ => 0

abbrev bufTy : (tb : Table) → Fin (tcTables nBuf tb) → BufTy
  | .hbm, ⟨0, _⟩ => ⟨S2x3x224x224, .f32⟩
  | .hbm, ⟨1, _⟩ => ⟨S768x768, .f32⟩
  | .hbm, ⟨2, _⟩ => ⟨S768, .f32⟩
  | .hbm, ⟨3, _⟩ => ⟨S1x1x768, .f32⟩
  | .hbm, ⟨4, _⟩ => ⟨S1x197x768, .f32⟩
  | .hbm, ⟨5, _⟩ => ⟨S2x3x14x16x14x16, .f32⟩
  | .hbm, ⟨6, _⟩ => ⟨S2x14x14x3x16x16, .f32⟩
  | .hbm, ⟨7, _⟩ => ⟨S392x768, .f32⟩
  | .hbm, ⟨8, _⟩ => ⟨S1x768, .f32⟩
  | .hbm, ⟨9, _⟩ => ⟨S392x768, .f32⟩
  | .hbm, ⟨10, _⟩ => ⟨S2x1x768, .f32⟩
  | .hbm, ⟨11, _⟩ => ⟨S2x196x768, .f32⟩
  | .hbm, ⟨12, _⟩ => ⟨S2x197x768, .f32⟩
  | .hbm, ⟨13, _⟩ => ⟨S2x197x768, .f32⟩
  | .hbm, ⟨14, _⟩ => ⟨S2x197x768, .f32⟩
  | .local _ .vmem, ⟨0, _⟩ => ⟨S392x768, .f32⟩
  | .local _ .vmem, ⟨1, _⟩ => ⟨S768x768, .f32⟩
  | .local _ .vmem, ⟨2, _⟩ => ⟨S1x768, .f32⟩
  | .local _ .vmem, ⟨3, _⟩ => ⟨S392x768, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S392x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S392x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== EmbedRefIdeal.lean ====
abbrev S2x3x224x224 : Shape := ⟨4, ![2, 3, 224, 224]⟩
abbrev S768x768 : Shape := ⟨2, ![768, 768]⟩
abbrev S768 : Shape := ⟨1, ![768]⟩
abbrev S1x1x768 : Shape := ⟨3, ![1, 1, 768]⟩
abbrev S1x197x768 : Shape := ⟨3, ![1, 197, 768]⟩
abbrev S2x3x14x16x14x16 : Shape := ⟨6, ![2, 3, 14, 16, 14, 16]⟩
abbrev S2x14x14x3x16x16 : Shape := ⟨6, ![2, 14, 14, 3, 16, 16]⟩
abbrev S2x196x768 : Shape := ⟨3, ![2, 196, 768]⟩
abbrev S2x1x768 : Shape := ⟨3, ![2, 1, 768]⟩
abbrev S2x197x768 : Shape := ⟨3, ![2, 197, 768]⟩

abbrev nBuf : Space → Nat
  | .hbm => 16
  | .vmem => 0
  | .smem => 0
  | _ => 0

abbrev bufTy : (tb : Table) → Fin (tcTables nBuf tb) → BufTy
  | .hbm, ⟨0, _⟩ => ⟨S2x3x224x224, .f32⟩
  | .hbm, ⟨1, _⟩ => ⟨S768x768, .f32⟩
  | .hbm, ⟨2, _⟩ => ⟨S768, .f32⟩
  | .hbm, ⟨3, _⟩ => ⟨S1x1x768, .f32⟩
  | .hbm, ⟨4, _⟩ => ⟨S1x197x768, .f32⟩
  | .hbm, ⟨5, _⟩ => ⟨S2x3x14x16x14x16, .f32⟩
  | .hbm, ⟨6, _⟩ => ⟨S2x14x14x3x16x16, .f32⟩
  | .hbm, ⟨7, _⟩ => ⟨S2x196x768, .f32⟩
  | .hbm, ⟨8, _⟩ => ⟨S2x196x768, .f32⟩
  | .hbm, ⟨9, _⟩ => ⟨S1x1x768, .f32⟩
  | .hbm, ⟨10, _⟩ => ⟨S2x196x768, .f32⟩
  | .hbm, ⟨11, _⟩ => ⟨S2x196x768, .f32⟩
  | .hbm, ⟨12, _⟩ => ⟨S2x1x768, .f32⟩
  | .hbm, ⟨13, _⟩ => ⟨S2x197x768, .f32⟩
  | .hbm, ⟨14, _⟩ => ⟨S2x197x768, .f32⟩
  | .hbm, ⟨15, _⟩ => ⟨S2x197x768, .f32⟩
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Head.lean ====
abbrev S2x197x768 : Shape := ⟨3, ![2, 197, 768]⟩
abbrev S768 : Shape := ⟨1, ![768]⟩
abbrev S1000x768 : Shape := ⟨2, ![1000, 768]⟩
abbrev S1000 : Shape := ⟨1, ![1000]⟩
abbrev S1x1x768 : Shape := ⟨3, ![1, 1, 768]⟩
abbrev S1x1000 : Shape := ⟨2, ![1, 1000]⟩
abbrev S2x1000 : Shape := ⟨2, ![2, 1000]⟩
abbrev S2x197 : Shape := ⟨2, ![2, 197]⟩
abbrev S2x197x1 : Shape := ⟨3, ![2, 197, 1]⟩
abbrev S2x768 : Shape := ⟨2, ![2, 768]⟩

abbrev nBuf : Space → Nat
  | .hbm => 9
  | .vmem => 6
  | .smem => 0
  | _ => 0

abbrev bufTy : (tb : Table) → Fin (tcTables nBuf tb) → BufTy
  | .hbm, ⟨0, _⟩ => ⟨S2x197x768, .f32⟩
  | .hbm, ⟨1, _⟩ => ⟨S768, .f32⟩
  | .hbm, ⟨2, _⟩ => ⟨S768, .f32⟩
  | .hbm, ⟨3, _⟩ => ⟨S1000x768, .f32⟩
  | .hbm, ⟨4, _⟩ => ⟨S1000, .f32⟩
  | .hbm, ⟨5, _⟩ => ⟨S1x1x768, .f32⟩
  | .hbm, ⟨6, _⟩ => ⟨S1x1x768, .f32⟩
  | .hbm, ⟨7, _⟩ => ⟨S1x1000, .f32⟩
  | .hbm, ⟨8, _⟩ => ⟨S2x1000, .f32⟩
  | .local _ .vmem, ⟨0, _⟩ => ⟨S2x197x768, .f32⟩
  | .local _ .vmem, ⟨1, _⟩ => ⟨S1x1x768, .f32⟩
  | .local _ .vmem, ⟨2, _⟩ => ⟨S1x1x768, .f32⟩
  | .local _ .vmem, ⟨3, _⟩ => ⟨S1000x768, .f32⟩
  | .local _ .vmem, ⟨4, _⟩ => ⟨S1x1000, .f32⟩
  | .local _ .vmem, ⟨5, _⟩ => ⟨S2x1000, .f32⟩
  | _, _ => ⟨S2x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x197x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1000x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== HeadRefIdeal.lean ====
abbrev S2x197x768 : Shape := ⟨3, ![2, 197, 768]⟩
abbrev S768 : Shape := ⟨1, ![768]⟩
abbrev S1000x768 : Shape := ⟨2, ![1000, 768]⟩
abbrev S1000 : Shape := ⟨1, ![1000]⟩
abbrev S_ : Shape := ⟨0, ![]⟩
abbrev S2x197 : Shape := ⟨2, ![2, 197]⟩
abbrev S2x197x1 : Shape := ⟨3, ![2, 197, 1]⟩
abbrev S1x1x768 : Shape := ⟨3, ![1, 1, 768]⟩
abbrev S2x768 : Shape := ⟨2, ![2, 768]⟩
abbrev S768x1000 : Shape := ⟨2, ![768, 1000]⟩
abbrev S2x1000 : Shape := ⟨2, ![2, 1000]⟩
abbrev S1x1000 : Shape := ⟨2, ![1, 1000]⟩

abbrev nBuf : Space → Nat
  | .hbm => 59
  | .vmem => 0
  | .smem => 0
  | _ => 0

abbrev bufTy : (tb : Table) → Fin (tcTables nBuf tb) → BufTy
  | .hbm, ⟨0, _⟩ => ⟨S2x197x768, .f32⟩
  | .hbm, ⟨1, _⟩ => ⟨S768, .f32⟩
  | .hbm, ⟨2, _⟩ => ⟨S768, .f32⟩
  | .hbm, ⟨3, _⟩ => ⟨S1000x768, .f32⟩
  | .hbm, ⟨4, _⟩ => ⟨S1000, .f32⟩
  | .hbm, ⟨5, _⟩ => ⟨S_, .f32⟩
  | .hbm, ⟨6, _⟩ => ⟨S2x197, .f32⟩
  | .hbm, ⟨7, _⟩ => ⟨S2x197x1, .f32⟩
  | .hbm, ⟨8, _⟩ => ⟨S_, .f32⟩
  | .hbm, ⟨9, _⟩ => ⟨S2x197x1, .f32⟩
  | .hbm, ⟨10, _⟩ => ⟨S2x197x1, .f32⟩
  | .hbm, ⟨11, _⟩ => ⟨S_, .i32⟩
  | .hbm, ⟨12, _⟩ => ⟨S_, .f32⟩
  | .hbm, ⟨13, _⟩ => ⟨S2x197, .f32⟩
  | .hbm, ⟨14, _⟩ => ⟨S2x197x1, .f32⟩
  | .hbm, ⟨15, _⟩ => ⟨S_, .f32⟩
  | .hbm, ⟨16, _⟩ => ⟨S2x197x1, .f32⟩
  | .hbm, ⟨17, _⟩ => ⟨S2x197x1, .f32⟩
  | .hbm, ⟨18, _⟩ => ⟨S2x197x768, .f32⟩
  | .hbm, ⟨19, _⟩ => ⟨S2x197x768, .f32⟩
  | .hbm, ⟨20, _⟩ => ⟨S2x197x768, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x197, .f32⟩
  | .hbm, ⟨26, _⟩ => ⟨S2x197x1, .f32⟩
  | .hbm, ⟨27, _⟩ => ⟨S2x197x1, .f32⟩
  | .hbm, ⟨28, _⟩ => ⟨S2x197x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2x197x1, .f32⟩
  | .hbm, ⟨34, _⟩ => ⟨S2x197x1, .f32⟩
  | .hbm, ⟨35, _⟩ => ⟨S2x197x768, .f32⟩
  | .hbm, ⟨36, _⟩ => ⟨S2x197x768, .f32⟩
  | .hbm, ⟨37, _⟩ => ⟨S_, .f32⟩
  | .hbm, ⟨38, _⟩ => ⟨S2x197x1, .f32⟩
  | .hbm, ⟨39, _⟩ => ⟨S2x197x1, .f32⟩
  | .hbm, ⟨40, _⟩ => ⟨S2x197x1, .f32⟩
  | .hbm, ⟨41, _⟩ => ⟨S2x197x768, .f32⟩
  | .hbm, ⟨42, _⟩ => ⟨S2x197x768, .f32⟩
  | .hbm, ⟨43, _⟩ => ⟨S1x1x768, .f32⟩
  | .hbm, ⟨44, _⟩ => ⟨S2x197x768, .f32⟩
  | .hbm, ⟨45, _⟩ => ⟨S2x197x768, .f32⟩
  | .hbm, ⟨46, _⟩ => ⟨S1x1x768, .f32⟩
  | .hbm, ⟨47, _⟩ => ⟨S2x197x768, .f32⟩
  | .hbm, ⟨48, _⟩ => ⟨S2x197x768, .f32⟩
  | .hbm, ⟨49, _⟩ => ⟨S_, .f32⟩
  | .hbm, ⟨50, _⟩ => ⟨S2x768, .f32⟩
  | .hbm, ⟨51, _⟩ => ⟨S_, .f32⟩
  | .hbm, ⟨52, _⟩ => ⟨S2x768, .f32⟩
  | .hbm, ⟨53, _⟩ => ⟨S2x768, .f32⟩
  | .hbm, ⟨54, _⟩ => ⟨S768x1000, .f32⟩
  | .hbm, ⟨55, _⟩ => ⟨S2x1000, .f32⟩
  | .hbm, ⟨56, _⟩ => ⟨S1x1000, .f32⟩
  | .hbm, ⟨57, _⟩ => ⟨S2x1000, .f32⟩
  | .hbm, ⟨58, _⟩ => ⟨S2x1000, .f32⟩
  | _, _ => ⟨S2x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]
-- ==== Proof.Basic.lean ====
module

public import Idealize.ShloMosaic.PureOps.Ideal
public import Idealize.ShloMosaic.PureOps.Ideal.Laws

@[expose] public section

noncomputable section

/-! Facts about extended reals that the programs share: the literals' values, a square root in a denominator against the
    reciprocal square root, and what sums and squares are never. -/

namespace Cert.Basic

open Idealize.ShloMosaic

/-- The row length 768. -/
theorem lit_768 : Ideal.ofBits .f32 0x44400000#32 = ((768 : ℝ) : EReal) := by
  simp [Ideal.ofBits, Ideal.ieee, -EReal.coe_mul]; norm_num

/-- The offset under the root, the binary32 number nearest 1e-6. -/
def eps : ℝ := 8796093 / 8796093022208

theorem eps_pos : (0 : ℝ) < eps := by norm_num [eps]

theorem lit_eps : Ideal.ofBits .f32 0x358637BD#32 = ((eps : ℝ) : EReal) := by
  simp [Ideal.ofBits, Ideal.ieee, eps, -EReal.coe_mul]; norm_num

/-- A square is never negative, whatever the number. -/
theorem mul_self_nonneg (x : EReal) : 0 ≤ x * x := by
  induction x using EReal.rec with
  | bot => simp
  | coe r => rw [← EReal.coe_mul]; exact_mod_cast _root_.mul_self_nonneg r
  | top => simp

/-- Dividing by the root of a positive number is multiplying by its reciprocal root. -/
theorem div_sqrt (x y : EReal) (hy : 0 < y) : Ideal.div x (Ideal.sqrt y) = x * Ideal.rsqrt y := by
  induction y using EReal.rec with
  | bot => simp at hy
  | coe r =>
    have hr : 0 < r := by exact_mod_cast hy
    have h0 : Real.sqrt r ≠ 0 := (Real.sqrt_pos.mpr hr).ne'
    rw [Ideal.sqrt_coe, Ideal.rsqrt_coe, if_neg hr.not_gt, if_neg hr.not_gt, if_neg hr.ne', Ideal.div_coe h0, one_div]
  | top => simp [Ideal.div]

/-- The mean of squares with the offset added is positive. -/
theorem var_pos (s : EReal) (hs : 0 ≤ s) : 0 < Ideal.div s ((768 : ℝ) : EReal) + ((eps : ℝ) : EReal) := by
  rw [Ideal.div_coe (by norm_num)]
  refine lt_of_lt_of_le (b := ((eps : ℝ) : EReal)) (by exact_mod_cast eps_pos) ?_
  have : (0 : EReal) ≤ s * ((1 / 768 : ℝ) : EReal) := mul_nonneg hs (by exact_mod_cast (by norm_num : (0 : ℝ) ≤ 1 / 768))
  calc ((eps : ℝ) : EReal) = 0 + ((eps : ℝ) : EReal) := (zero_add _).symm
    _ ≤ _ := add_le_add this le_rfl

/-- A row's variance as the library computes it, with its guard, under the root: the same as the plain reciprocal root. -/
theorem ln_div (d s z : EReal) (hs : 0 ≤ s) :
    Ideal.div d (Ideal.sqrt ((if 0 < Ideal.ofBits .f32 0x44400000#32 - (FloatOps.sitofp .f32 0#32 : Ideal .f32)
        then Ideal.div s (Ideal.ofBits .f32 0x44400000#32 - (FloatOps.sitofp .f32 0#32 : Ideal .f32)) else z) + Ideal.ofBits .f32 0x358637BD#32))
      = d * Ideal.rsqrt (Ideal.div s (Ideal.ofBits .f32 0x44400000#32) + Ideal.ofBits .f32 0x358637BD#32) := by
  have h0 : (FloatOps.sitofp .f32 0#32 : Ideal .f32) = (0 : EReal) := by
    show (((0#32 : BitVec 32).toInt : ℝ) : EReal) = 0
    simp
  rw [h0, lit_768, lit_eps, sub_zero, if_pos (by exact_mod_cast (by norm_num : (0 : ℝ) < 768)), div_sqrt _ _ (var_pos s hs)]

theorem sum_sq_nonneg {n : ℕ} (d : Fin n → EReal) : 0 ≤ ∑ k, d k * d k :=
  Finset.sum_nonneg fun k _ => mul_self_nonneg (d k)

/-- The tanh form of the Gaussian error linear unit, with the literals both programs carry. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

end Cert.Basic

end
-- ==== Proof.RouteBasic.lean ====
module

public import proofs.«01_k».proof.Proof.Basic
public import Idealize.ShloMosaic.Lib.Pointwise
public import Idealize.ShloMosaic.Lib.Claim
public import Idealize.ShloMosaic.Lib.SortNet.Extract

@[expose] public section

set_option maxRecDepth 16384

noncomputable section

/-! The mathematics of choosing experts: the first greatest entry of a row, sums that are natural numbers, and how the words made from them compare. -/

namespace Cert.RouteMath

open Idealize.ShloMosaic

/-! ### The first greatest entry -/

/-- Place `b` is the first one at which `x` is greatest. -/
def First {n : ℕ} (x : Fin n → EReal) (b : Fin n) : Prop := (∀ e, x e ≤ x b) ∧ ∀ e, e < b → x e < x b

theorem exists_first {n : ℕ} [NeZero n] (x : Fin n → EReal) : ∃ b, First x b := by
  classical
  obtain ⟨c, -, hc⟩ := Finset.exists_max_image Finset.univ x ⟨0, Finset.mem_univ _⟩
  have hs : (Finset.univ.filter fun b => ∀ e, x e ≤ x b).Nonempty :=
    ⟨c, Finset.mem_filter.mpr ⟨Finset.mem_univ _, fun e => hc e (Finset.mem_univ _)⟩⟩
  have hb := (Finset.mem_filter.mp (Finset.min'_mem _ hs)).2
  refine ⟨_, hb, fun e he => lt_of_not_ge fun hge => ?_⟩
  exact absurd (Finset.min'_le _ e (Finset.mem_filter.mpr ⟨Finset.mem_univ _, fun k => (hb k).trans hge⟩)) (not_le.mpr he)

/-- A rescaling that keeps the order of the entries keeps the place. -/
theorem First.map {n : ℕ} {x : Fin n → EReal} {b : Fin n} (h : First x b) (g : EReal → EReal)
    (hg : ∀ e, x e < x b → g (x e) < g (x b)) : First (fun e => g (x e)) b := by
  refine ⟨fun e => ?_, fun e he => hg e (h.2 e he)⟩
  rcases lt_or_eq_of_le (h.1 e) with hlt | heq
  · exact (hg e hlt).le
  · exact (congrArg g heq).le

theorem First.fold_max {n : ℕ} {x : Fin n → EReal} {b : Fin n} (h : First x b) : Finset.univ.fold max ⊥ x = x b :=
  le_antisymm (Finset.fold_max_le _ |>.mpr ⟨bot_le, fun e _ => h.1 e⟩) (Finset.le_fold_max _ |>.mpr (Or.inr ⟨b, Finset.mem_univ _, le_rfl⟩))

/-- The signed minimum over a set is the word that is least and is met. -/
theorem fold_minsi_eq {ι : Type} (g : ι → BitVec 32) (s : Finset ι) (init v : BitVec 32) (hi : v.toInt ≤ init.toInt)
    (hle : ∀ i ∈ s, v.toInt ≤ (g i).toInt) (hm : ∃ i ∈ s, g i = v) : s.fold IntOp.minsi init g = v := by
  obtain ⟨k, hk, hv⟩ := hm
  refine BitVec.eq_of_toInt_eq ?_
  rw [← Finset.fold_hom (op' := min) (m := BitVec.toInt) SortNet.toInt_minsi]
  exact le_antisymm (Finset.fold_min_le _ |>.mpr (Or.inr ⟨k, hk, by rw [hv]⟩)) (Finset.le_fold_min _ |>.mpr ⟨hi, hle⟩)

/-- Pair `r` is at least as good as pair `y`: a greater value, or the same value at no later a place. -/
def Beats (r y : EReal × BitVec 32) : Prop := y.1 < r.1 ∨ y.1 = r.1 ∧ r.2.toInt ≤ y.2.toInt

theorem Beats.refl (r : EReal × BitVec 32) : Beats r r := Or.inr ⟨rfl, le_rfl⟩

theorem Beats.trans {a b c : EReal × BitVec 32} (h : Beats a b) (k : Beats b c) : Beats a c := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- A fold that keeps the better of two pairs ends with one of the pairs, better than every one of them. -/
theorem foldl_beats {ι : Type} (f : EReal × BitVec 32 → EReal × BitVec 32 → EReal × BitVec 32)
    (hf : ∀ r y, (f r y = r ∨ f r y = y) ∧ Beats (f r y) r ∧ Beats (f r y) y) (g : ι → EReal × BitVec 32) (L : List ι) (init : EReal × BitVec 32) :
    (L.foldl (fun r n => f r (g n)) init = init ∨ ∃ n ∈ L, L.foldl (fun r n => f r (g n)) init = g n)
      ∧ Beats (L.foldl (fun r n => f r (g n)) init) init ∧ ∀ n ∈ L, Beats (L.foldl (fun r n => f r (g n)) init) (g n) := by
  induction L generalizing init with
  | nil => exact ⟨Or.inl rfl, Beats.refl _, fun n hn => absurd hn List.not_mem_nil⟩
  | cons a L ih =>
    obtain ⟨hm, hi, hb⟩ := ih (f init (g a))
    obtain ⟨h0, h1, h2⟩ := hf init (g a)
    rw [List.foldl_cons]
    refine ⟨?_, hi.trans h1, fun n hn => ?_⟩
    · rcases hm with hm | ⟨n, hn, hm⟩
      · rcases h0 with h0 | h0
        · exact Or.inl (hm.trans h0)
        · exact Or.inr ⟨a, List.mem_cons_self, hm.trans h0⟩
      · exact Or.inr ⟨n, List.mem_cons_of_mem _ hn, hm⟩
    · rcases List.mem_cons.mp hn with rfl | hn
      · exact hi.trans h2
      · exact hb n hn

theorem toInt_ofNat (k : ℕ) (hk : k < 2 ^ 31) : (BitVec.ofNat 32 k).toInt = (k : ℤ) := by
  rw [BitVec.toInt_eq_toNat_cond, BitVec.toNat_ofNat, Nat.mod_eq_of_lt (by omega), if_pos (by omega)]

/-- The pair that beats every entry of a row, and is one of them, names the row's first greatest entry. -/
theorem First.beats {x : Fin 8 → EReal} {b : Fin 8} (h : First x b) (r : EReal × BitVec 32) (hr : ∃ e : Fin 8, r = (x e, BitVec.ofNat 32 e))
    (hb : ∀ e : Fin 8, Beats r (x e, BitVec.ofNat 32 e)) : r.2 = BitVec.ofNat 32 b := by
  obtain ⟨e, rfl⟩ := hr
  rcases hb b with hlt | ⟨heq, hle⟩
  · exact absurd (h.1 e) (not_le.mpr hlt)
  · rw [toInt_ofNat _ (by omega), toInt_ofNat _ (by omega)] at hle
    have hle' : e ≤ b := by exact_mod_cast hle
    rcases lt_or_eq_of_le hle' with hlt | rfl
    · exact absurd heq (ne_of_gt (h.2 e hlt))
    · rfl

/-! ### Bits as numbers -/

theorem bit_signed (P : Prop) [Decidable P] : (FloatOps.sitofp .f32 (BitVec.setWidth 32 (BitVec.ofBool (decide P))) : Ideal .f32) = if P then (1 : EReal) else 0 := by
  by_cases h : P
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

theorem bit_unsigned (P : Prop) [Decidable P] : (FloatOps.uitofp .f32 (BitVec.ofBool (decide P)) : Ideal .f32) = if P then (1 : EReal) else 0 := by
  by_cases h : P
  · rw [if_pos h, decide_eq_true h]
    show (((BitVec.ofBool true).toNat : ℝ) : EReal) = 1
    rw [show (BitVec.ofBool true).toNat = 1 from by decide]
    norm_num
  · rw [if_neg h, decide_eq_false h]
    show (((BitVec.ofBool false).toNat : ℝ) : EReal) = 0
    rw [show (BitVec.ofBool false).toNat = 0 from by decide]
    norm_num

theorem eq_bit (a b : BitVec 32) : IntOp.cmpi .eq a b = BitVec.ofBool (decide (a = b)) := by
  show BitVec.ofBool (a == b) = _
  exact congrArg BitVec.ofBool (beq_eq_decide a b)

theorem slt_bit (a b : BitVec 32) : IntOp.cmpi .slt a b = BitVec.ofBool (decide (a.toInt < b.toInt)) := rfl

theorem and_bit (P Q : Prop) [Decidable P] [Decidable Q] : IntOp.andi (BitVec.ofBool (decide P)) (BitVec.ofBool (decide Q)) = BitVec.ofBool (decide (P ∧ Q)) := by
  by_cases hp : P <;> by_cases hq : Q <;> simp [IntOp.andi, hp, hq]

/-- A bit made of two, times a weight, is the first bit times the weight times the second bit. -/
theorem split_bit (P Q : Prop) [Decidable P] [Decidable Q] (w : EReal) :
    (if P ∧ Q then (1 : EReal) else 0) * w = (if P then 1 else 0) * w * (if Q then 1 else 0) := by
  by_cases hp : P <;> by_cases hq : Q <;> simp [hp, hq]

/-! ### Natural numbers among the extended reals -/

/-- `x` is a natural number no greater than `B`. -/
def Upto (B : ℕ) (x : EReal) : Prop := ∃ n : ℕ, n ≤ B ∧ x = ((n : ℝ) : EReal)

theorem Upto.bit (P : Prop) [Decidable P] : Upto 1 (if P then (1 : EReal) else 0) := by
  by_cases h : P
  · exact ⟨1, le_rfl, by rw [if_pos h]; norm_num⟩
  · exact ⟨0, Nat.zero_le _, by rw [if_neg h]; norm_num⟩

theorem Upto.add {A B : ℕ} {x y : EReal} (h : Upto A x) (k : Upto B y) : Upto (A + B) (x + y) := by
  obtain ⟨n, hn, rfl⟩ := h
  obtain ⟨p, hp, rfl⟩ := k
  exact ⟨n + p, by omega, by push_cast; rfl⟩

theorem Upto.mul {A B : ℕ} {x y : EReal} (h : Upto A x) (k : Upto B y) : Upto (A * B) (x * y) := by
  obtain ⟨n, hn, rfl⟩ := h
  obtain ⟨p, hp, rfl⟩ := k
  exact ⟨n * p, Nat.mul_le_mul hn hp, by push_cast; rfl⟩

theorem Upto.sum {B : ℕ} {ι : Type} (s : Finset ι) (x : ι → EReal) (h : ∀ k, Upto B (x k)) : Upto (s.card * B) (∑ k ∈ s, x k) := by
  classical
  induction s using Finset.induction_on with
  | empty => exact ⟨0, Nat.zero_le _, by simp⟩
  | insert a s ha ih =>
    rw [Finset.sum_insert ha, Finset.card_insert_of_notMem ha, add_mul, one_mul, Nat.add_comm]
    exact (h a).add ih

theorem Upto.real {B : ℕ} {x : EReal} (h : Upto B x) : ∃ r : ℝ, x = (r : EReal) := let ⟨n, _, e⟩ := h; ⟨n, e⟩

theorem fptosi_nat (n : ℕ) (hn : n < 2 ^ 31) : (FloatOps.fptosi (F := Ideal) (φ := .f32) 32 ((n : ℝ) : EReal)) = BitVec.ofNat 32 n := by
  show BitVec.ofInt 32 (Ideal.toIntClamped _ _ _) = _
  rw [Ideal.toIntClamped_coe, if_pos (Nat.cast_nonneg _), Int.floor_natCast, max_eq_right (by norm_num; try omega), min_eq_right (by norm_num; omega)]
  exact BitVec.ofInt_natCast ..

theorem lit_122 : Ideal.ofBits .f32 0x42F40000#32 = ((122 : ℝ) : EReal) := by
  simp [Ideal.ofBits, Ideal.ieee, -EReal.coe_mul]; norm_num

/-- Comparing a natural number with 122 before or after it is made a word. -/
theorem keep_eq {x : EReal} (h : Upto 100000 x) :
    (x < Ideal.ofBits .f32 0x42F40000#32) ↔ (FloatOps.fptosi (F := Ideal) (φ := .f32) 32 x).toInt < (122#32 : BitVec 32).toInt := by
  obtain ⟨n, hn, rfl⟩ := h
  rw [fptosi_nat _ (by omega), toInt_ofNat _ (by omega), lit_122, EReal.coe_lt_coe_iff, show (122#32 : BitVec 32).toInt = 122 from by decide]
  norm_cast

/-- Clamping a natural number to 0 … 121 before or after it is made a word. -/
theorem clamp_eq {x : EReal} (h : Upto 100000 x) :
    (FloatOps.fptosi (F := Ideal) (φ := .f32) 32 (min (((121#32 : BitVec 32).toInt : ℝ) : EReal) (max (((0#32 : BitVec 32).toInt : ℝ) : EReal) x)))
      = IntOp.minsi 121#32 (IntOp.maxsi 0#32 (FloatOps.fptosi (F := Ideal) (φ := .f32) 32 x)) := by
  obtain ⟨n, hn, rfl⟩ := h
  rw [show (121#32 : BitVec 32).toInt = 121 from by decide, show (0#32 : BitVec 32).toInt = 0 from by decide]
  have e : min (((121 : ℤ) : ℝ) : EReal) (max (((0 : ℤ) : ℝ) : EReal) ((n : ℝ) : EReal)) = (((min 121 n : ℕ) : ℝ) : EReal) := by
    rw [max_eq_right (by norm_num)]
    rcases le_total 121 n with h | h
    · rw [min_eq_left (by rw [EReal.coe_le_coe_iff]; exact_mod_cast h), Nat.min_eq_left h]; norm_num
    · rw [min_eq_right (by rw [EReal.coe_le_coe_iff]; exact_mod_cast h), Nat.min_eq_right h]
  refine BitVec.eq_of_toInt_eq ?_
  rw [e, fptosi_nat _ (by omega), fptosi_nat _ (by omega), toInt_ofNat (min 121 n) (by omega), SortNet.toInt_minsi, SortNet.toInt_maxsi, toInt_ofNat n (by omega),
    show (121#32 : BitVec 32).toInt = 121 from by decide, show (0#32 : BitVec 32).toInt = 0 from by decide]
  omega

/-! ### Running sums -/

theorem foldl_add_sum {ι : Type} (g : ι → EReal) (L : List ι) (a : EReal) : L.foldl (fun r n => r + g n) a = a + (L.map g).sum := by
  induction L generalizing a with
  | nil => simp
  | cons k L ih => rw [List.foldl_cons, ih, List.map_cons, List.sum_cons, add_assoc]

/-- A window that starts 393 places before an entry reads the entries up to it. -/
theorem sum_upto (f : Fin 394 → EReal) (t : Fin 394) :
    (∑ n : Fin 394, if h : 393 ≤ t.val + n.val then f ⟨t.val + n.val - 393, by omega⟩ else 0) = ∑ s : Fin 394, if s ≤ t then f s else 0 := by
  refine Fintype.sum_equiv (Equiv.addRight (t + 1)) _ _ fun n => ?_
  have hv : ((Equiv.addRight (t + 1)) n).val = (n.val + (t.val + 1)) % 394 := by
    simp [Fin.val_add, Nat.add_assoc]
  by_cases h : 393 ≤ t.val + n.val
  · have e : (Equiv.addRight (t + 1)) n = ⟨t.val + n.val - 393, by omega⟩ := Fin.ext (by rw [hv]; show _ = t.val + n.val - 393; omega)
    rw [dif_pos h, e, if_pos (by show t.val + n.val - 393 ≤ t.val; omega)]
  · rw [dif_neg h, if_neg (by rw [Fin.le_def, hv]; omega)]

/-- The entries up to a real one, without it, are the entries before it. -/
theorem sum_before (f : Fin 394 → EReal) (t : Fin 394) (ht : ∃ r : ℝ, f t = (r : EReal)) :
    (∑ s : Fin 394, if s ≤ t then f s else 0) - f t = ∑ s : Fin 394, if s < t then f s else 0 := by
  have e : (∑ s : Fin 394, if s ≤ t then f s else 0) = (∑ s : Fin 394, if s < t then f s else 0) + f t := by
    have hs : ∀ s : Fin 394, (if s ≤ t then f s else 0) = (if s < t then f s else 0) + (if s = t then f s else 0) := fun s => by
      rcases lt_trichotomy s t with h | h | h
      · simp [h, h.le, h.ne]
      · simp [h]
      · simp [h.not_ge, h.not_gt, h.ne']
    rw [Finset.sum_congr rfl fun s _ => hs s, Finset.sum_add_distrib, Finset.sum_ite_eq' Finset.univ t f, if_pos (Finset.mem_univ _)]
  obtain ⟨r, hr⟩ := ht
  rw [e, hr, EReal.add_sub_cancel_right]

/-! ### Real numbers among the extended reals -/

/-- `x` is neither infinity. -/
def IsReal (x : EReal) : Prop := ∃ r : ℝ, x = (r : EReal)

theorem isReal_of_abs {x : EReal} (h : max x (-x) < ⊤) : IsReal x := by
  induction x using EReal.rec with
  | bot => simp at h
  | coe r => exact ⟨r, rfl⟩
  | top => simp at h

theorem IsReal.add {x y : EReal} (h : IsReal x) (k : IsReal y) : IsReal (x + y) := by
  obtain ⟨a, rfl⟩ := h
  obtain ⟨b, rfl⟩ := k
  exact ⟨a + b, (EReal.coe_add a b).symm⟩

theorem IsReal.sub {x y : EReal} (h : IsReal x) (k : IsReal y) : IsReal (x - y) := by
  obtain ⟨a, rfl⟩ := h
  obtain ⟨b, rfl⟩ := k
  exact ⟨a - b, (EReal.coe_sub a b).symm⟩

theorem IsReal.mul {x y : EReal} (h : IsReal x) (k : IsReal y) : IsReal (x * y) := by
  obtain ⟨a, rfl⟩ := h
  obtain ⟨b, rfl⟩ := k
  exact ⟨a * b, (EReal.coe_mul a b).symm⟩

theorem IsReal.sum {ι : Type} (s : Finset ι) (x : ι → EReal) (h : ∀ k, IsReal (x k)) : IsReal (∑ k ∈ s, x k) := by
  classical
  induction s using Finset.induction_on with
  | empty => exact ⟨0, by simp⟩
  | insert a s ha ih => rw [Finset.sum_insert ha]; exact (h a).add ih

theorem IsReal.mean {x : EReal} (h : IsReal x) : IsReal (Ideal.div x (Ideal.ofBits .f32 0x44400000#32)) := by
  rw [Cert.Basic.lit_768, Ideal.div_coe (by norm_num)]
  exact h.mul ⟨_, rfl⟩

/-- The reciprocal root of a variance with its offset is a real number. -/
theorem IsReal.scale {s : EReal} (h : IsReal s) (h0 : 0 ≤ s) :
    IsReal (Ideal.rsqrt (Ideal.div s (Ideal.ofBits .f32 0x44400000#32) + Ideal.ofBits .f32 0x358637BD#32)) := by
  have hp := Cert.Basic.var_pos s h0
  obtain ⟨v, hv⟩ : IsReal (Ideal.div s (Ideal.ofBits .f32 0x44400000#32) + Ideal.ofBits .f32 0x358637BD#32) :=
    h.mean.add (Cert.Basic.lit_eps ▸ ⟨_, rfl⟩)
  rw [← Cert.Basic.lit_768, ← Cert.Basic.lit_eps, hv] at hp
  have hr : 0 < v := by exact_mod_cast hp
  rw [hv, Ideal.rsqrt_coe, if_neg hr.not_gt, if_neg hr.ne']
  exact ⟨_, rfl⟩

/-- A row of real numbers and the row of its shares after exponentials have their first greatest entry at one place, and no share is the lowest number. -/
theorem First.shares {x : Fin 8 → EReal} {b : Fin 8} (h : First x b) (hx : ∀ e, IsReal (x e)) (M : EReal) (hM : IsReal M) :
    First (fun e => Ideal.div (Ideal.exp (x e - M)) (∑ k, Ideal.exp (x k - M))) b := by
  have hpos : ∀ k, ∃ r : ℝ, 0 < r ∧ Ideal.exp (x k - M) = (r : EReal) := fun k => by
    obtain ⟨v, hv⟩ := (hx k).sub hM
    exact ⟨Real.exp v, Real.exp_pos v, by rw [hv]; rfl⟩
  choose r hr he using hpos
  have hsum : (∑ k, Ideal.exp (x k - M)) = ((∑ k, r k : ℝ) : EReal) := by
    rw [Finset.sum_congr rfl fun k _ => he k]
    exact (map_sum (⟨⟨fun a : ℝ => (a : EReal), EReal.coe_zero⟩, EReal.coe_add⟩ : ℝ →+ EReal) r Finset.univ).symm
  have hS : 0 < ∑ k, r k := Finset.sum_pos (fun k _ => hr k) ⟨0, Finset.mem_univ _⟩
  refine h.map (fun y => Ideal.div (Ideal.exp (y - M)) (∑ k, Ideal.exp (x k - M))) fun e hlt => ?_
  show Ideal.div (Ideal.exp (x e - M)) _ < Ideal.div (Ideal.exp (x b - M)) _
  have hlt' : r e < r b := by
    obtain ⟨a, ha⟩ := hx e
    obtain ⟨c, hc⟩ := hx b
    obtain ⟨d, hd⟩ := hM
    have h1 := he e
    have h2 := he b
    rw [ha, hd, ← EReal.coe_sub] at h1
    rw [hc, hd, ← EReal.coe_sub] at h2
    rw [ha, hc, EReal.coe_lt_coe_iff] at hlt
    rw [← EReal.coe_lt_coe_iff, ← h1, ← h2]
    show ((Real.exp (a - d) : ℝ) : EReal) < ((Real.exp (c - d) : ℝ) : EReal)
    rw [EReal.coe_lt_coe_iff]
    exact Real.exp_lt_exp.mpr (by linarith)
  rw [hsum, Ideal.div_coe hS.ne', Ideal.div_coe hS.ne', he, he, ← EReal.coe_mul, ← EReal.coe_mul, EReal.coe_lt_coe_iff]
  exact mul_lt_mul_of_pos_right hlt' (one_div_pos.mpr hS)

end Cert.RouteMath

end
-- ==== Proof.Mixing.lean ====
module

public import proofs.«01_k».proof.Proof.RouteBasic

@[expose] public section

noncomputable section

/-! Sums against one-hot weights: a row sent to one cell of a table and read back from it, over the extended reals. -/

namespace Cert.Mixing

/-- A weighted cell pair: the first cell's bit times its weight and the second cell's bit times its weight. -/
def weight (P Q : Prop) [Decidable P] [Decidable Q] (u v : EReal) : EReal := (if P then (1 : EReal) else 0) * u + (if Q then (1 : EReal) else 0) * v

theorem bit_mul_nonneg (P : Prop) [Decidable P] {u : EReal} (hu : 0 ≤ u) : 0 ≤ (if P then (1 : EReal) else 0) * u := by
  by_cases h : P
  · rw [if_pos h, one_mul]; exact hu
  · rw [if_neg h, zero_mul]

theorem weight_mul (P Q : Prop) [Decidable P] [Decidable Q] {u v : EReal} (hu : 0 ≤ u) (hv : 0 ≤ v) (x : EReal) :
    weight P Q u v * x = (if P then x * u else 0) + (if Q then x * v else 0) := by
  have one (R : Prop) [Decidable R] (w : EReal) : (if R then (1 : EReal) else 0) * w * x = if R then x * w else 0 := by
    by_cases h : R
    · rw [if_pos h, if_pos h, one_mul, mul_comm]
    · rw [if_neg h, if_neg h, zero_mul, zero_mul]
  rw [weight, EReal.right_distrib_of_nonneg (bit_mul_nonneg P hu) (bit_mul_nonneg Q hv), one, one]

/-- Rows sent with both of their weights are the rows sent with the first and the rows sent with the second. -/
theorem sent {n : ℕ} (P Q : Fin n → Prop) [DecidablePred P] [DecidablePred Q] (u v x : Fin n → EReal) (hu : ∀ t, 0 ≤ u t) (hv : ∀ t, 0 ≤ v t) :
    ∑ t, weight (P t) (Q t) (u t) (v t) * x t = (∑ t, if P t then x t * u t else 0) + ∑ t, if Q t then x t * v t else 0 := by
  rw [← Finset.sum_add_distrib]
  exact Finset.sum_congr rfl fun t _ => weight_mul _ _ (hu t) (hv t) _

theorem one_cell {n k : ℕ} (e : Fin n) (p : Fin k) (f : Fin n → Fin k → EReal) : ∑ x, ∑ q, (if x = e ∧ q = p then f x q else 0) = f e p := by
  rw [Finset.sum_eq_single e, Finset.sum_eq_single p]
  · exact if_pos ⟨rfl, rfl⟩
  · intro q _ hq; exact if_neg fun h => hq h.2
  · intro h; exact absurd (Finset.mem_univ _) h
  · intro x _ hx; exact Finset.sum_eq_zero fun q _ => if_neg fun h => hx h.1
  · intro h; exact absurd (Finset.mem_univ _) h

/-- Reading back the two cells is the sum over all cells against the weights. -/
theorem back {n k : ℕ} (e e' : Fin n) (p p' : Fin k) (u v : EReal) (hu : 0 ≤ u) (hv : 0 ≤ v) (y : Fin n → Fin k → EReal) :
    ∑ x, ∑ q, weight (x = e ∧ q = p) (x = e' ∧ q = p') u v * y x q = y e p * u + y e' p' * v := by
  have step (x : Fin n) (q : Fin k) := weight_mul (x = e ∧ q = p) (x = e' ∧ q = p') hu hv (y x q)
  rw [Finset.sum_congr rfl fun x _ => Finset.sum_congr rfl fun q _ => step x q]
  rw [Finset.sum_congr rfl fun x _ => Finset.sum_add_distrib, Finset.sum_add_distrib, one_cell e p fun x q => y x q * u, one_cell e' p' fun x q => y x q * v]

end Cert.Mixing

end
-- ==== Proof.Indexed.lean ====
module

public import proofs.«01_k».proof.Proof.RouteBasic
public import proofs.«01_k».proof.Proof.Gen.ExpertsRefIdeal.Read
public import Idealize.ShloMosaic.Lib.Pipeline.ValueKit
public import Idealize.ShloMosaic.Lib.Pointwise
public import Idealize.ShloMosaic.Lib.Routing.OpsPair

@[expose] public section

set_option maxRecDepth 16384

noncomputable section

/-! The reference's indexed adds and reads, for indices that lie in the table: row `t` is added to, and read back from, the cell its pair of indices names. -/

namespace Cert.ExpertsRefIdeal.Indexed

open Idealize.ShloMosaic
open Cert.ExpertsRefIdeal Cert.ExpertsRefIdeal.Gen Cert.ExpertsRefIdeal.Read

/-- The two index vectors name expert `e t` and slot `p t` for row `t`. -/
def Names (x y : IVec S394 32) (e : Fin 394 → Fin 8) (p : Fin 394 → Fin 122) : Prop :=
  (∀ t, x (ix1 t) = BitVec.ofNat 32 (e t).val) ∧ ∀ t, y (ix1 t) = BitVec.ofNat 32 (p t).val

theorem unwrapped (x a : BitVec 32) (n : ℕ) (hn : n < 2 ^ 31) (h : x = BitVec.ofNat 32 n) : Scalar.select (IntOp.cmpi .slt x 0#32) a x = BitVec.ofNat 32 n := by
  rw [Routing.wrap_of_lt x a (by rw [h, BitVec.toNat_ofNat]; omega), h]

/-- The pair of index words the reference makes for row `t`. -/
theorem pair_words (x y : IVec S394 32) (e : Fin 394 → Fin 8) (p : Fin 394 → Fin 122) (h : Names x y e p) (t : Fin 394) :
    val_main_v16 (F := Ideal) x y (ix2 t (0 : Fin 2)) = BitVec.ofNat 32 (e t).val ∧ val_main_v16 (F := Ideal) x y (ix2 t (1 : Fin 2)) = BitVec.ofNat 32 (p t).val := by
  have h0 : val_main_v16 (F := Ideal) x y (ix2 t (0 : Fin 2)) = val_main_v14 (F := Ideal) x (ix2 t (0 : Fin 1)) :=
    concatenate_pair_apply_left (t := S394x2) (s₁ := S394x1) (s₂ := S394x1) 1 _ _ _ (ix2 t (0 : Fin 2)) rfl (ix2 t (0 : Fin 1)) fun b => match b with
      | ⟨0, _⟩ => rfl
      | ⟨1, _⟩ => rfl
  have h1 : val_main_v16 (F := Ideal) x y (ix2 t (1 : Fin 2)) = val_main_v15 (F := Ideal) y (ix2 t (0 : Fin 1)) :=
    concatenate_pair_apply_right (t := S394x2) (s₁ := S394x1) (s₂ := S394x1) 1 _ _ _ (ix2 t (1 : Fin 2)) rfl rfl (ix2 t (0 : Fin 1)) (fun b => match b with
      | ⟨0, _⟩ => fun _ => rfl
      | ⟨1, _⟩ => fun hb => absurd rfl hb) rfl
  rw [h0, h1]
  constructor
  · refine Eq.trans ?_ (unwrapped (x (ix1 t)) (IntOp.addi (x (ix1 t)) 8#32) _ (by have := (e t).isLt; omega) (h.1 t))
    pointwise [val_main_v14, val_main_v8, val_main_v7, val_main_v6, val_main_v5, val_main_v4, val_main_c, val_main_c_0]
  · refine Eq.trans ?_ (unwrapped (y (ix1 t)) (IntOp.addi (y (ix1 t)) 122#32) _ (by have := (p t).isLt; omega) (h.2 t))
    pointwise [val_main_v15, val_main_v13, val_main_v12, val_main_v11, val_main_v10, val_main_v9, val_main_c_1, val_main_c_2]

theorem window_zero (j : S394x768.Idx) : scatter_S8x122x768_S394x2_S394x768_1_01_01_1.window j 0 = 0
    ∧ scatter_S8x122x768_S394x2_S394x768_1_01_01_1.window j 1 = 0 ∧ scatter_S8x122x768_S394x2_S394x768_1_01_01_1.window j 2 = (j 1).val := ⟨rfl, rfl, rfl⟩

theorem starts (i : IVec S394x2 32) (j : S394x768.Idx) : scatter_S8x122x768_S394x2_S394x768_1_01_01_1.start j i 0 = (i (ix2 (j 0) (0 : Fin 2))).toInt
    ∧ scatter_S8x122x768_S394x2_S394x768_1_01_01_1.start j i 1 = (i (ix2 (j 0) (1 : Fin 2))).toInt ∧ scatter_S8x122x768_S394x2_S394x768_1_01_01_1.start j i 2 = 0 := by
  refine ⟨?_, ?_, rfl⟩
  · refine congrArg (fun k => (i k).toInt) (funext fun b => ?_)
    fin_cases b <;> rfl
  · refine congrArg (fun k => (i k).toInt) (funext fun b => ?_)
    fin_cases b <;> rfl

/-- Row `t`'s number at column `k` lands in cell `(e, c)` exactly when the row's indices are `e` and `c`. -/
theorem lands (i : IVec S394x2 32) (j : S394x768.Idx) (e : Fin 8) (c : Fin 122) (d : Fin 768) :
    scatter_S8x122x768_S394x2_S394x768_1_01_01_1.resultIdx? j i = some (ix3 e c d)
      ↔ (i (ix2 (j 0) (0 : Fin 2))).toInt = e.val ∧ (i (ix2 (j 0) (1 : Fin 2))).toInt = c.val ∧ (j 1) = d := by
  rw [Routing.resultIdx?_eq_some]
  obtain ⟨s0, s1, s2⟩ := starts i j
  obtain ⟨w0, w1, w2⟩ := window_zero j
  constructor
  · intro h
    have h0 := h 0
    have h1 := h 1
    have h2 := h 2
    rw [s0, w0] at h0
    rw [s1, w1] at h1
    rw [s2, w2] at h2
    refine ⟨by simpa using h0, by simpa using h1, Fin.ext ?_⟩
    have : (((j 1).val : ℕ) : ℤ) = (d.val : ℤ) := by simpa using h2
    exact_mod_cast this
  · rintro ⟨h0, h1, h2⟩ a
    match a with
    | ⟨0, _⟩ => exact (by rw [s0, w0, h0]; rfl : scatter_S8x122x768_S394x2_S394x768_1_01_01_1.start j i 0 + (scatter_S8x122x768_S394x2_S394x768_1_01_01_1.window j 0 : ℤ) = (e.val : ℤ))
    | ⟨1, _⟩ => exact (by rw [s1, w1, h1]; rfl : scatter_S8x122x768_S394x2_S394x768_1_01_01_1.start j i 1 + (scatter_S8x122x768_S394x2_S394x768_1_01_01_1.window j 1 : ℤ) = (c.val : ℤ))
    | ⟨2, _⟩ => exact (by rw [s2, w2, h2]; exact zero_add _ : scatter_S8x122x768_S394x2_S394x768_1_01_01_1.start j i 2 + (scatter_S8x122x768_S394x2_S394x768_1_01_01_1.window j 2 : ℤ) = (d.val : ℤ))

theorem toInt_small (n : ℕ) (hn : n < 1000) (k : ℕ) : (BitVec.ofNat 32 n).toInt = (k : ℤ) ↔ n = k := by
  rw [Cert.RouteMath.toInt_ofNat n (by omega)]
  exact Int.natCast_inj

/-- An indexed add, read at a cell: what stood there and the sum of the rows whose indices name it. -/
theorem added (b : FVec Ideal S8x122x768 .f32) (i : IVec S394x2 32) (u : FVec Ideal S394x768 .f32) (e : Fin 394 → Fin 8) (p : Fin 394 → Fin 122)
    (h : ∀ t, i (ix2 t (0 : Fin 2)) = BitVec.ofNat 32 (e t).val ∧ i (ix2 t (1 : Fin 2)) = BitVec.ofNat 32 (p t).val) (x : Fin 8) (c : Fin 122) (d : Fin 768) :
    Host.scatterAdd (F := Ideal) scatter_S8x122x768_S394x2_S394x768_1_01_01_1 b i u (ix3 x c d)
      = b (ix3 x c d) + ∑ t : Fin 394, if x = e t ∧ c = p t then u (ix2 t d) else 0 := by
  rw [← Finset.sum_filter]
  refine congrArg (b (ix3 x c d) + ·) ?_
  have key : ∀ j : S394x768.Idx, scatter_S8x122x768_S394x2_S394x768_1_01_01_1.resultIdx? j i = some (ix3 x c d) ↔ (x = e (j 0) ∧ c = p (j 0)) ∧ j 1 = d := fun j => by
    rw [lands, (h (j 0)).1, (h (j 0)).2, toInt_small _ (by have := (e (j 0)).isLt; omega), toInt_small _ (by have := (p (j 0)).isLt; omega), Fin.ext_iff (a := x), Fin.ext_iff (a := c)]
    constructor
    · rintro ⟨h0, h1, h2⟩; exact ⟨⟨h0.symm, h1.symm⟩, h2⟩
    · rintro ⟨⟨h0, h1⟩, h2⟩; exact ⟨h0.symm, h1.symm, h2⟩
  refine Finset.sum_nbij' (fun j => j 0) (fun t => ix2 t d) ?_ ?_ ?_ ?_ ?_
  · intro j hj
    exact Finset.mem_filter.2 ⟨Finset.mem_univ _, ((key j).1 (Finset.mem_filter.1 hj).2).1⟩
  · intro t ht
    exact Finset.mem_filter.2 ⟨Finset.mem_univ _, (key (ix2 t d)).2 ⟨(Finset.mem_filter.1 ht).2, rfl⟩⟩
  · intro j hj
    have := ((key j).1 (Finset.mem_filter.1 hj).2).2
    funext a
    match a with
    | ⟨0, _⟩ => rfl
    | ⟨1, _⟩ => exact this.symm
  · intro t ht
    rfl
  · intro j hj
    have := ((key j).1 (Finset.mem_filter.1 hj).2).2
    refine congrArg u (funext fun a => ?_)
    match a with
    | ⟨0, _⟩ => rfl
    | ⟨1, _⟩ => exact this

/-- An indexed read: row `t` of the result is the row of the cell its indices name. -/
theorem taken (b : FVec Ideal S8x122x768 .f32) (i : IVec S394x2 32) (e : Fin 394 → Fin 8) (p : Fin 394 → Fin 122)
    (h : ∀ t, i (ix2 t (0 : Fin 2)) = BitVec.ofNat 32 (e t).val ∧ i (ix2 t (1 : Fin 2)) = BitVec.ofNat 32 (p t).val) (t : Fin 394) (d : Fin 768) :
    Host.gather gather_S8x122x768_S394x2_S394x768_1_01_n_n_01_1_11768 b i (ix2 t d) = b (ix3 (e t) (p t) d) := by
  refine congrArg b (funext fun a => Fin.ext ?_)
  have s0 : gather_S8x122x768_S394x2_S394x768_1_01_n_n_01_1_11768.start (ix2 t d) i 0 = min (i (ix2 t (0 : Fin 2))).toInt.toNat 7 :=
    congrArg (fun k => min (i k).toInt.toNat 7) (funext fun b => by fin_cases b <;> rfl)
  have s1 : gather_S8x122x768_S394x2_S394x768_1_01_n_n_01_1_11768.start (ix2 t d) i 1 = min (i (ix2 t (1 : Fin 2))).toInt.toNat 121 :=
    congrArg (fun k => min (i k).toInt.toNat 121) (funext fun b => by fin_cases b <;> rfl)
  have he := (e t).isLt
  have hp := (p t).isLt
  match a with
  | ⟨0, _⟩ =>
    show gather_S8x122x768_S394x2_S394x768_1_01_n_n_01_1_11768.start (ix2 t d) i 0 + 0 + 0 = (e t).val
    rw [s0, (h t).1, Cert.RouteMath.toInt_ofNat _ (by omega), Int.toNat_natCast]
    omega
  | ⟨1, _⟩ =>
    show gather_S8x122x768_S394x2_S394x768_1_01_n_n_01_1_11768.start (ix2 t d) i 1 + 0 + 0 = (p t).val
    rw [s1, (h t).2, Cert.RouteMath.toInt_ofNat _ (by omega), Int.toNat_natCast]
    omega
  | ⟨2, _⟩ =>
    show gather_S8x122x768_S394x2_S394x768_1_01_n_n_01_1_11768.start (ix2 t d) i 2 + 0 + d.val = d.val
    show 0 + 0 + d.val = d.val
    omega

/-! ### The reference's lines -/

section

variable (x0 : FVec Ideal S394x768 .f32) (x1 x2 : IVec S394 32) (x3 x4 : FVec Ideal S394 .f32) (x5 x6 : IVec S394 32) (x7 x8 : FVec Ideal S394 .f32)
  (x9 : FVec Ideal S8x768x3072 .f32) (x10 : FVec Ideal S8x3072 .f32) (x11 : FVec Ideal S8x3072x768 .f32) (x12 : FVec Ideal S8x768 .f32) (x13 : FVec Ideal S394x768 .f32)
  (e e' : Fin 394 → Fin 8) (p p' : Fin 394 → Fin 122)

/-- The table of rows sent to the experts. -/
theorem table (h : Names x1 x2 e p) (h' : Names x5 x6 e' p') (x : Fin 8) (c : Fin 122) (d : Fin 768) :
    val_main_v34 (F := Ideal) x0 x1 x2 x3 x5 x6 x7 (ix3 x c d)
      = (∑ t : Fin 394, if x = e t ∧ c = p t then x0 (ix2 t d) * x3 (ix1 t) else 0) + ∑ t : Fin 394, if x = e' t ∧ c = p' t then x0 (ix2 t d) * x7 (ix1 t) else 0 := by
  have hz : val_main_v0 (F := Ideal) (ix3 x c d) = 0 := by
    pointwise [val_main_v0, val_main_cst]
  have hu : ∀ t : Fin 394, val_main_v3 (F := Ideal) x0 x3 (ix2 t d) = x0 (ix2 t d) * x3 (ix1 t) := fun t => by
    pointwise [val_main_v3, val_main_v2, val_main_v1]
  have hv : ∀ t : Fin 394, val_main_v20 (F := Ideal) x0 x7 (ix2 t d) = x0 (ix2 t d) * x7 (ix1 t) := fun t => by
    pointwise [val_main_v20, val_main_v19, val_main_v18]
  refine (added _ (val_main_v16 (F := Ideal) x5 x6) _ e' p' (pair_words x5 x6 e' p' h') x c d).trans ?_
  refine congrArg₂ (· + ·) ((added _ _ _ e p (pair_words x1 x2 e p h) x c d).trans ?_) ?_
  · rw [hz, zero_add]
    exact Finset.sum_congr rfl fun t _ => by rw [hu]
  · exact Finset.sum_congr rfl fun t _ => by rw [hv]

/-- An expert's row, from the table. -/
theorem expert_row (x : Fin 8) (c : Fin 122) (d : Fin 768) :
    val_main_v55 (F := Ideal) x0 x1 x2 x3 x5 x6 x7 x9 x10 x11 x12 (ix3 x c d)
      = (∑ f : Fin 3072, Cert.Basic.gelu ((∑ k : Fin 768, val_main_v34 (F := Ideal) x0 x1 x2 x3 x5 x6 x7 (ix3 x c k) * x9 (ix3 x k f)) + x10 (ix2 x f)) * x11 (ix3 x f d))
        + x12 (ix2 x d) := by
  pointwise [val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_7, val_main_cst_8, val_main_cst_9, val_main_cst_10, Cert.Basic.gelu]
  simp only [mul_assoc]

/-- The reference's result at row `t`, column `d`. -/
theorem result (h : Names x1 x2 e p) (h' : Names x5 x6 e' p') (t : Fin 394) (d : Fin 768) :
    val_main_v91 (F := Ideal) x0 x1 x2 x3 x4 x5 x6 x7 x8 x9 x10 x11 x12 x13 (ix2 t d) = x13 (ix2 t d)
      + (val_main_v55 (F := Ideal) x0 x1 x2 x3 x5 x6 x7 x9 x10 x11 x12 (ix3 (e t) (p t) d) * x4 (ix1 t)
        + val_main_v55 (F := Ideal) x0 x1 x2 x3 x5 x6 x7 x9 x10 x11 x12 (ix3 (e' t) (p' t) d) * x8 (ix1 t)) := by
  have hu : val_main_v71 (F := Ideal) x4 (ix2 t d) = x4 (ix1 t) := by
    pointwise [val_main_v71, val_main_v70]
  have hv : val_main_v88 (F := Ideal) x8 (ix2 t d) = x8 (ix1 t) := by
    pointwise [val_main_v88, val_main_v87]
  have hr : val_main_v69 (F := Ideal) x0 x1 x2 x3 x5 x6 x7 x9 x10 x11 x12 (ix2 t d) = val_main_v55 (F := Ideal) x0 x1 x2 x3 x5 x6 x7 x9 x10 x11 x12 (ix3 (e t) (p t) d) :=
    taken _ _ e p (pair_words x1 x2 e p h) t d
  have hr' : val_main_v86 (F := Ideal) x0 x1 x2 x3 x5 x6 x7 x9 x10 x11 x12 (ix2 t d) = val_main_v55 (F := Ideal) x0 x1 x2 x3 x5 x6 x7 x9 x10 x11 x12 (ix3 (e' t) (p' t) d) :=
    taken _ _ e' p' (pair_words x5 x6 e' p' h') t d
  rw [← hu, ← hv, ← hr, ← hr']
  rfl

end

end Cert.ExpertsRefIdeal.Indexed

end
-- ==== Proof.ExpertsValue.lean ====
module

public import proofs.«01_k».proof.Proof.Basic
public import proofs.«01_k».proof.Proof.Mixing
public import proofs.«01_k».proof.Proof.Indexed
public import proofs.«01_k».proof.Proof.Gen.ExpertsIdeal.Value
public import proofs.«01_k».proof.Proof.Gen.Pre_routed
public import Idealize.ShloMosaic.Lib.Pipeline.ValueKit
public import Idealize.ShloMosaic.Lib.Pointwise
public import Idealize.ShloMosaic.Lib.Claim

@[expose] public section

set_option maxRecDepth 16384

noncomputable section

/-! The experts' call from index vectors: its two arrays over experts, rows and slots hold each row's two weights at the two cells its indices name,
    so that sums against them are the reference's indexed adds and reads. -/

namespace Cert.ExpertsIdeal.Value

open Idealize.ShloMosaic Idealize.ShloMosaic.TcCoe Idealize.SL.Sem
open Idealize.ShloMosaic.Pipeline (Dat)
open Cert.ExpertsIdeal Cert.ExpertsIdeal.Gen Cert.Basic Cert.Mixing
open Cert.ExpertsRefIdeal.Indexed (Names)

variable (m : (ℓ : Loc nD τ sig) → Buf (Elt Ideal) ℓ)

/-- The slot of the call that stands for slot `q` of the reference's table. -/
def slot (q : Fin 122) : Fin 128 := ⟨q.val, by omega⟩

theorem slot_inj (a b : Fin 122) : slot a = slot b ↔ a = b := by
  rw [Fin.ext_iff, Fin.ext_iff]; rfl

theorem word_eq (n k : ℕ) (hn : n < 1000) (hk : k < 1000) : BitVec.ofNat 32 n = BitVec.ofNat 32 k ↔ n = k := by
  constructor
  · intro h
    have := congrArg BitVec.toNat h
    rw [BitVec.toNat_ofNat, BitVec.toNat_ofNat] at this
    omega
  · rintro rfl; rfl

/-- One bit of the call's arrays: whether expert `x` and slot `q` are the two that the words name. -/
theorem cell_bit (x e : Fin 8) (q : Fin 128) (p : Fin 122) :
    (FloatOps.uitofp .f32 (IntOp.andi (IntOp.cmpi .eq (BitVec.ofNat 32 x.val) (BitVec.ofNat 32 e.val)) (IntOp.cmpi .eq (BitVec.ofNat 32 q.val) (BitVec.ofNat 32 p.val))) : Ideal .f32)
      = if x = e ∧ q = slot p then (1 : EReal) else 0 := by
  rw [Cert.RouteMath.eq_bit, Cert.RouteMath.eq_bit, Cert.RouteMath.and_bit, Cert.RouteMath.bit_unsigned]
  refine if_congr ?_ rfl rfl
  have := x.isLt
  have := e.isLt
  have := q.isLt
  have := p.isLt
  rw [word_eq _ _ (by omega) (by omega), word_eq _ _ (by omega) (by omega), Fin.ext_iff, Fin.ext_iff]
  rfl

section

variable (c : Dev nD) (e e' : Fin 394 → Fin 8) (p p' : Fin 394 → Fin 122)
  (h : Names (m ((c : Thread nD τ).loc main_arg1)) (m ((c : Thread nD τ).loc main_arg2)) e p)
  (h' : Names (m ((c : Thread nD τ).loc main_arg5)) (m ((c : Thread nD τ).loc main_arg6)) e' p')

include h h'

theorem sends (x : Fin 8) (t : Fin 394) (q : Fin 128) : V m c main_v24 (ix3 x t q)
    = weight (x = e t ∧ q = slot (p t)) (x = e' t ∧ q = slot (p' t)) ((m ((c : Thread nD τ).loc main_arg3) : FVec Ideal S394 .f32) (ix1 t)) ((m ((c : Thread nD τ).loc main_arg7) : FVec Ideal S394 .f32) (ix1 t)) := by
  show StableHlo.after hostOps0 _ main_v24 (ix3 x t q) = _
  entry_read
  rw [weight, ← cell_bit, ← cell_bit, ← h.1 t, ← h.2 t, ← h'.1 t, ← h'.2 t]
  pointwise

theorem gathers (x : Fin 8) (t : Fin 394) (q : Fin 128) : V m c main_v31 (ix3 x t q)
    = weight (x = e t ∧ q = slot (p t)) (x = e' t ∧ q = slot (p' t)) ((m ((c : Thread nD τ).loc main_arg4) : FVec Ideal S394 .f32) (ix1 t)) ((m ((c : Thread nD τ).loc main_arg8) : FVec Ideal S394 .f32) (ix1 t)) := by
  show StableHlo.after hostOps0 _ main_v31 (ix3 x t q) = _
  entry_read
  rw [weight, ← cell_bit, ← cell_bit, ← h.1 t, ← h.2 t, ← h'.1 t, ← h'.2 t]
  pointwise

end

theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![0, 0] ∧ win0_8.index t = ![0, 0] :=
  (by decide +kernel : ∀ t : Fin grid0.N, _)

theorem first (y : FVec Ideal S128x768 .f32) (x6 : FVec Ideal S1x394x128 .f32) (x7 : FVec Ideal S394x768 .f32) (j : S394x768.Idx) :
    k0_pay2 (F := Ideal) y x6 x7 j = x7 j + ∑ p : Fin 128, x6 (ix3 0 (j 0) p) * y (ix2 p (j 1)) := by
  pointwise! [k0_pay2, k0_pay1]

theorem next (y : FVec Ideal S128x768 .f32) (x6 : FVec Ideal S1x394x128 .f32) (x7 : FVec Ideal S394x768 .f32) (j : S394x768.Idx) :
    k0_pay3 (F := Ideal) y x6 x7 j = x7 j + ∑ p : Fin 128, x6 (ix3 0 (j 0) p) * y (ix2 p (j 1)) := by
  pointwise! [k0_pay3, k0_pay1]

theorem expert (x0 : FVec Ideal S394x768 .f32) (x1 : FVec Ideal S1x394x128 .f32) (x2 : FVec Ideal S1x768x3072 .bf16) (x3 : FVec Ideal S1x1x3072 .f32)
    (x4 : FVec Ideal S1x3072x768 .bf16) (x5 : FVec Ideal S1x1x768 .f32) (p : Fin 128) (d : Fin 768) :
    k0_pay4 (F := Ideal) x0 x1 x2 x3 x4 x5 (ix2 p d) =
      (∑ f : Fin 3072, gelu ((∑ k : Fin 768, (∑ t : Fin 394, x1 (ix3 0 t p) * x0 (ix2 t k)) * x2 (ix3 0 k f)) + x3 (ix3 0 0 f)) * x4 (ix3 0 f d))
        + x5 (ix3 0 0 d) := by
  pointwise! [k0_pay4, gelu]

/-- An expert's row for slot `q`, from the rows sent to it. -/
def made (d : FVec Ideal S8x394x128 .f32) (x0 : FVec Ideal S394x768 .f32) (x9 : FVec Ideal S8x768x3072 .f32) (x10 : FVec Ideal S8x3072 .f32) (x11 : FVec Ideal S8x3072x768 .f32)
    (x12 : FVec Ideal S8x768 .f32) (x : Fin 8) (q : Fin 128) (k : Fin 768) : EReal :=
  (∑ f : Fin 3072, gelu ((∑ l : Fin 768, (∑ t : Fin 394, d (ix3 x t q) * x0 (ix2 t l)) * x9 (ix3 x l f)) + x10 (ix2 x f)) * x11 (ix3 x f k)) + x12 (ix2 x k)

/-- The hidden state and, for every cell, its row at its weight. -/
def mixed (d w : FVec Ideal S8x394x128 .f32) (x0 : FVec Ideal S394x768 .f32) (x9 : FVec Ideal S8x768x3072 .f32) (x10 : FVec Ideal S8x3072 .f32) (x11 : FVec Ideal S8x3072x768 .f32)
    (x12 : FVec Ideal S8x768 .f32) (x13 : FVec Ideal S394x768 .f32) : FVec Ideal S394x768 .f32 := fun j =>
  x13 j + ∑ x : Fin 8, ∑ q : Fin 128, w (ix3 x (j 0) q) * made d x0 x9 x10 x11 x12 x q (j 1)

/-- No entry is negative. -/
def Nonneg (v : FVec Ideal S394 .f32) : Prop := ∀ t : Fin 394, 0 ≤ v (ix1 t)

/-- A grid point's row is its expert's. -/
theorem made_block (c : Dev nD) (x : Fin cfg0.N) (e : Fin 8) (hx : e.val = x.val) (q : Fin 128) (d : Fin 768) :
    k0_pay4 (F := Ideal) (iblk m c 0 x) (iblk m c 1 x) (iblk m c 2 x) (iblk m c 3 x) (iblk m c 4 x) (iblk m c 5 x) (ix2 q d) = made (V m c main_v24) (m ((c : Thread nD τ).loc main_arg0)) (m ((c : Thread nD τ).loc main_arg9)) (m ((c : Thread nD τ).loc main_arg10)) (m ((c : Thread nD τ).loc main_arg11)) (m ((c : Thread nD τ).loc main_arg12)) e q d := by
  obtain rfl : e = ⟨x.val, lt_of_lt_of_eq x.isLt N_0⟩ := Fin.ext hx
  refine (expert _ _ _ _ _ _ q d).trans ?_
  rw [made]
  blk_point [iblk, idx x]

theorem back_block (c : Dev nD) (x : Fin cfg0.N) (e : Fin 8) (hx : e.val = x.val) (r : Fin 394) (q : Fin 128) : iblk m c 6 x (ix3 0 r q) = V m c main_v31 (ix3 e r q) := by
  obtain rfl : e = ⟨x.val, lt_of_lt_of_eq x.isLt N_0⟩ := Fin.ext hx
  blk_point [iblk, idx x]

/-- The call's result. -/
theorem total (c : Dev nD) : (dats m 0 c).arrAt 8 (cfgs 0).N = mixed (V m c main_v24) (V m c main_v31) (m ((c : Thread nD τ).loc main_arg0)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_after_last 8 t0_7 (by decide +kernel) _ fun j => ?_
  blk_simp
  rw [after0_8, Pipeline.eq_sum_fin_of_reset_step_apply_last (fun n h => outsAt0 m c n h) 8 (m ((c : Thread nD τ).loc main_arg13)) _
    (fun t h j => by
      have h7 : iblk m c 7 t = m ((c : Thread nD τ).loc main_arg13) := by blk_ext! [iblk, V, idx t]
      rw [outsAt0_A m c t h (by have := lt_of_lt_of_eq t.isLt N_0; omega)]; frame_out; rw [first, h7])
    (fun t h j => by rw [outsAt0_B m c t h (by omega)]; frame_out; rw [next])
    (le_of_eq N_0) t0_7 rfl j]
  refine congrArg₂ (· + ·) rfl ?_
  refine Fin.sum_fin_congr fun x => ?_
  refine Fin.sum_fin_congr fun q => ?_
  exact congrArg₂ (· * ·) (back_block m c _ _ rfl _ _) (made_block m c _ _ rfl _ _)

section

variable (c : Dev nD) (e e' : Fin 394 → Fin 8) (p p' : Fin 394 → Fin 122)
  (h : Names (m ((c : Thread nD τ).loc main_arg1)) (m ((c : Thread nD τ).loc main_arg2)) e p)
  (h' : Names (m ((c : Thread nD τ).loc main_arg5)) (m ((c : Thread nD τ).loc main_arg6)) e' p')
  (h3 : Nonneg (m ((c : Thread nD τ).loc main_arg3))) (h4 : Nonneg (m ((c : Thread nD τ).loc main_arg4))) (h7 : Nonneg (m ((c : Thread nD τ).loc main_arg7))) (h8 : Nonneg (m ((c : Thread nD τ).loc main_arg8)))

include h h'

include h3 h7 in
/-- The call's table of rows, in the cells the reference's has. -/
theorem table_eq (x : Fin 8) (k : Fin 122) (d : Fin 768) :
    (∑ t : Fin 394, (show FVec Ideal S8x394x128 .f32 from V m c main_v24) (ix3 x t (slot k)) * (show FVec Ideal S394x768 .f32 from (m ((c : Thread nD τ).loc main_arg0))) (ix2 t d))
      = Cert.ExpertsRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (ix3 x k d) := by
  rw [Cert.ExpertsRefIdeal.Indexed.table _ _ _ _ _ _ _ e e' p p' h h' x k d]
  refine Eq.trans ?_ (sent (fun t => x = e t ∧ k = p t) (fun t => x = e' t ∧ k = p' t) _ _ (fun t => (show FVec Ideal S394x768 .f32 from (m ((c : Thread nD τ).loc main_arg0))) (ix2 t d)) h3 h7)
  refine Finset.sum_congr rfl fun t _ => congrArg₂ (· * ·) ((sends m c e e' p p' h h' x t (slot k)).trans ?_) rfl
  simp only [slot_inj]

include h3 h7 in
/-- In a cell of the reference's table the call makes the reference's row. -/
theorem made_eq (x : Fin 8) (k : Fin 122) (d : Fin 768) : made (V m c main_v24) (m ((c : Thread nD τ).loc main_arg0)) (m ((c : Thread nD τ).loc main_arg9)) (m ((c : Thread nD τ).loc main_arg10)) (m ((c : Thread nD τ).loc main_arg11)) (m ((c : Thread nD τ).loc main_arg12)) x (slot k) d
    = Cert.ExpertsRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (ix3 x k d) := by
  rw [Cert.ExpertsRefIdeal.Indexed.expert_row, made]
  refine congrArg₂ (· + ·) (Finset.sum_congr rfl fun f _ => congrArg₂ (· * ·) (congrArg gelu (congrArg₂ (· + ·) (Finset.sum_congr rfl fun l _ => congrArg₂ (· * ·) ?_ rfl) rfl)) rfl) rfl
  exact table_eq m c e e' p p' h h' h3 h7 x k l

include h3 h4 h7 h8 in
theorem final : (dats m 0 c).arrAt 8 (cfgs 0).N = Cert.ExpertsRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [total]
  funext j
  obtain ⟨t, d, rfl⟩ : ∃ (t : Fin 394) (d : Fin 768), j = ix2 t d := ⟨j 0, j 1, by funext a; fin_cases a <;> rfl⟩
  rw [Cert.ExpertsRefIdeal.Indexed.result _ _ _ _ _ _ _ _ _ _ _ _ _ _ e e' p p' h h' t d]
  refine congrArg₂ (· + ·) rfl ?_
  rw [← made_eq m c e e' p p' h h' h3 h7, ← made_eq m c e e' p p' h h' h3 h7]
  refine Eq.trans ?_ (back (e t) (e' t) (slot (p t)) (slot (p' t)) _ _ (h4 t) (h8 t) fun x q => made (V m c main_v24) (m ((c : Thread nD τ).loc main_arg0)) (m ((c : Thread nD τ).loc main_arg9)) (m ((c : Thread nD τ).loc main_arg10)) (m ((c : Thread nD τ).loc main_arg11)) (m ((c : Thread nD τ).loc main_arg12)) x q d)
  exact Finset.sum_congr rfl fun x _ => Finset.sum_congr rfl fun q _ => congrArg₂ (· * ·) (gathers m c e e' p p' h h' x t q) rfl

end

end Cert.ExpertsIdeal.Value

namespace Cert.Pre_routed

open Idealize.ShloMosaic

theorem bit_true (P : Prop) [Decidable P] (h : BitVec.ofBool (decide P) = 1#1) : P := by
  by_contra hn
  rw [decide_eq_false hn] at h
  exact absurd h (by decide)

/-- A word that is not negative and lies below `n` is the word of a number below `n`. -/
theorem word_below (n : ℕ) (hn : n < 1000) (x : BitVec 32) (h0 : IntOp.cmpi .sge x 0#32 = 1#1) (h1 : IntOp.cmpi .slt x (BitVec.ofNat 32 n) = 1#1) :
    ∃ k : Fin n, x = BitVec.ofNat 32 k.val := by
  have a0 : (0#32 : BitVec 32).toInt ≤ x.toInt := bit_true _ h0
  have a1 : x.toInt < (BitVec.ofNat 32 n).toInt := bit_true _ h1
  rw [Cert.RouteMath.toInt_ofNat n (by omega)] at a1
  have a2 : (0 : ℤ) ≤ x.toInt := a0
  refine ⟨⟨x.toInt.toNat, by omega⟩, BitVec.eq_of_toInt_eq ?_⟩
  rw [Cert.RouteMath.toInt_ofNat _ (by show x.toInt.toNat < _; omega)]
  show x.toInt = (x.toInt.toNat : ℤ)
  omega

theorem nonneg_of (x : EReal) (h : FloatOps.cmpf (F := Ideal) (φ := .f32) .oge x (Ideal.ofBits .f32 0x00000000#32) = 1#1) : 0 ≤ x := by
  have h0 : Ideal.ofBits .f32 0x00000000#32 ≤ x := bit_true _ h
  rwa [show Ideal.ofBits .f32 0x00000000#32 = (0 : EReal) from by simp [Ideal.ofBits, Ideal.ieee]] at h0

section

variable (x0 : FVec Ideal S394x768 .f32) (x1 x2 : IVec S394 32) (x3 x4 : FVec Ideal S394 .f32) (x5 x6 : IVec S394 32) (x7 x8 : FVec Ideal S394 .f32)
  (x9 : FVec Ideal S8x768x3072 .f32) (x10 : FVec Ideal S8x3072 .f32) (x11 : FVec Ideal S8x3072x768 .f32) (x12 : FVec Ideal S8x768 .f32) (x13 : FVec Ideal S394x768 .f32)

theorem names_of (x y : IVec S394 32) (h0 : ∀ i, IntOp.cmpi .sge (x i) 0#32 = 1#1) (h1 : ∀ i, IntOp.cmpi .slt (x i) 8#32 = 1#1)
    (h2 : ∀ i, IntOp.cmpi .sge (y i) 0#32 = 1#1) (h3 : ∀ i, IntOp.cmpi .slt (y i) 122#32 = 1#1) : ∃ e p, Cert.ExpertsRefIdeal.Indexed.Names x y e p := by
  choose e he using fun t : Fin 394 => word_below 8 (by omega) (x (ix1 t)) (h0 _) (h1 _)
  choose p hp using fun t : Fin 394 => word_below 122 (by omega) (y (ix1 t)) (h2 _) (h3 _)
  exact ⟨e, p, he, hp⟩

/-- What the precondition's bits say of the indices and of the weights. -/
theorem routed_of (h0 : ∀ i, (fn (F := Ideal) x0 x1 x2 x3 x4 x5 x6 x7 x8 x9 x10 x11 x12 x13).1 i = 1#1) (h1 : ∀ i, (fn (F := Ideal) x0 x1 x2 x3 x4 x5 x6 x7 x8 x9 x10 x11 x12 x13).2.1 i = 1#1) (h2 : ∀ i, (fn (F := Ideal) x0 x1 x2 x3 x4 x5 x6 x7 x8 x9 x10 x11 x12 x13).2.2.1 i = 1#1) (h3 : ∀ i, (fn (F := Ideal) x0 x1 x2 x3 x4 x5 x6 x7 x8 x9 x10 x11 x12 x13).2.2.2.1 i = 1#1) (h4 : ∀ i, (fn (F := Ideal) x0 x1 x2 x3 x4 x5 x6 x7 x8 x9 x10 x11 x12 x13).2.2.2.2.1 i = 1#1) (h5 : ∀ i, (fn (F := Ideal) x0 x1 x2 x3 x4 x5 x6 x7 x8 x9 x10 x11 x12 x13).2.2.2.2.2.1 i = 1#1) (h6 : ∀ i, (fn (F := Ideal) x0 x1 x2 x3 x4 x5 x6 x7 x8 x9 x10 x11 x12 x13).2.2.2.2.2.2.1 i = 1#1) (h7 : ∀ i, (fn (F := Ideal) x0 x1 x2 x3 x4 x5 x6 x7 x8 x9 x10 x11 x12 x13).2.2.2.2.2.2.2.1 i = 1#1) (h8 : ∀ i, (fn (F := Ideal) x0 x1 x2 x3 x4 x5 x6 x7 x8 x9 x10 x11 x12 x13).2.2.2.2.2.2.2.2.1 i = 1#1) (h9 : ∀ i, (fn (F := Ideal) x0 x1 x2 x3 x4 x5 x6 x7 x8 x9 x10 x11 x12 x13).2.2.2.2.2.2.2.2.2.1 i = 1#1) (h10 : ∀ i, (fn (F := Ideal) x0 x1 x2 x3 x4 x5 x6 x7 x8 x9 x10 x11 x12 x13).2.2.2.2.2.2.2.2.2.2.1 i = 1#1) (h11 : ∀ i, (fn (F := Ideal) x0 x1 x2 x3 x4 x5 x6 x7 x8 x9 x10 x11 x12 x13).2.2.2.2.2.2.2.2.2.2.2 i = 1#1) :
    (∃ e p, Cert.ExpertsRefIdeal.Indexed.Names x1 x2 e p) ∧ (∃ e p, Cert.ExpertsRefIdeal.Indexed.Names x5 x6 e p) ∧ Cert.ExpertsIdeal.Value.Nonneg x3
      ∧ Cert.ExpertsIdeal.Value.Nonneg x4 ∧ Cert.ExpertsIdeal.Value.Nonneg x7 ∧ Cert.ExpertsIdeal.Value.Nonneg x8 :=
  ⟨names_of x1 x2 h0 h1 h2 h3, names_of x5 x6 h6 h7 h8 h9, fun t => nonneg_of _ (h4 _), fun t => nonneg_of _ (h5 _), fun t => nonneg_of _ (h10 _), fun t => nonneg_of _ (h11 _)⟩

end

end Cert.Pre_routed

end
-- ==== Proof.HeadValue.lean ====
module

public import proofs.«01_k».proof.Proof.Basic
public import proofs.«01_k».proof.Proof.Gen.HeadIdeal.Value
public import proofs.«01_k».proof.Proof.Gen.HeadRefIdeal.Read
public import Idealize.ShloMosaic.Lib.Pipeline.ValueKit
public import Idealize.ShloMosaic.Lib.Pointwise
public import Idealize.ShloMosaic.Lib.Claim

@[expose] public section

set_option maxRecDepth 16384

noncomputable section

/-! The classification head: the kernel's one grid point writes the whole logits array, and each logit is the reference's. -/

namespace Cert.HeadIdeal.Value

open Idealize.ShloMosaic Idealize.ShloMosaic.TcCoe Idealize.SL.Sem
open Idealize.ShloMosaic.Pipeline (Dat)
open Cert.HeadIdeal Cert.HeadIdeal.Gen

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0]
    ∧ win0_4.index t = ![0, 0] ∧ win0_5.index t = ![0, 0] := (by decide +kernel : ∀ t : Fin grid0.N, _)

theorem final (c : Dev nD) : (dats m 0 c).arrAt 5 (cfgs 0).N
    = k0_pay1 (F := Ideal) (m ((c : Thread nD τ).loc main_arg0)) (V m c main_v0) (V m c main_v1) (m ((c : Thread nD τ).loc main_arg3)) (V m c main_v2) := by
  refine (dats m 0 c).arrAt_eq_of_after_last 5 t0_0 (by decide +kernel) _ fun j => ?_
  blk_simp
  rw [after0_5]
  frame_out
  have e0 : iblk m c 0 t0_0 = m ((c : Thread nD τ).loc main_arg0) := by blk_ext! [iblk, V, idx t0_0]
  have e1 : iblk m c 1 t0_0 = V m c main_v0 := by blk_ext! [iblk, idx t0_0]
  have e2 : iblk m c 2 t0_0 = V m c main_v1 := by blk_ext! [iblk, idx t0_0]
  have e3 : iblk m c 3 t0_0 = m ((c : Thread nD τ).loc main_arg3) := by blk_ext! [iblk, V, idx t0_0]
  have e4 : iblk m c 4 t0_0 = V m c main_v2 := by blk_ext! [iblk, idx t0_0]
  rw [e0, e1, e2, e3, e4]

theorem reshaped (c : Dev nD) : V m c main_v0 = shapeCast S1x1x768 (m ((c : Thread nD τ).loc main_arg1)) shapeCasts_S768_S1x1x768
    ∧ V m c main_v1 = shapeCast S1x1x768 (m ((c : Thread nD τ).loc main_arg2)) shapeCasts_S768_S1x1x768
    ∧ V m c main_v2 = shapeCast S1x1000 (m ((c : Thread nD τ).loc main_arg4)) shapeCasts_S1000_S1x1000 := by
  refine ⟨?_, ?_, ?_⟩ <;> (entry_read; rfl)

theorem value (x0 : FVec Ideal S2x197x768 .f32) (x1 x2 : FVec Ideal S768 .f32) (x3 : FVec Ideal S1000x768 .f32) (x4 : FVec Ideal S1000 .f32) :
    k0_pay1 (F := Ideal) x0 (shapeCast S1x1x768 x1 shapeCasts_S768_S1x1x768) (shapeCast S1x1x768 x2 shapeCasts_S768_S1x1x768) x3
      (shapeCast S1x1000 x4 shapeCasts_S1000_S1x1000)
    = Cert.HeadRefIdeal.Read.val_main_v25 (F := Ideal) x0 x1 x2 x3 x4 := by
  rw [← Cert.HeadRefIdeal.Read.val_main_v25_eq]
  funext i
  pointwise! [k0_pay1]
  refine congrArg₂ _ (Finset.sum_congr rfl fun x _ => congrArg₂ _ (congrArg₂ _ (Finset.sum_congr rfl fun t _ => ?_) rfl) rfl) rfl
  rw [Cert.Basic.ln_div _ _ _ (Cert.Basic.sum_sq_nonneg _)]

end Cert.HeadIdeal.Value

end
-- ==== Proof.MoeValue.lean ====
module

public import proofs.«01_k».proof.Proof.Basic
public import proofs.«01_k».proof.Proof.Gen.MoeIdeal.Value
public import proofs.«01_k».proof.Proof.Gen.MoeRefIdeal.Read
public import Idealize.ShloMosaic.Lib.Pipeline.ValueKit
public import Idealize.ShloMosaic.Lib.Pointwise
public import Idealize.ShloMosaic.Lib.Claim

@[expose] public section

set_option maxRecDepth 16384

noncomputable section

/-! The experts' call: the eight grid points add one expert's contribution each to the hidden state, and the sum is the
    reference's sum over the experts. -/

namespace Cert.MoeIdeal.Value

open Idealize.ShloMosaic Idealize.ShloMosaic.TcCoe Idealize.SL.Sem
open Idealize.ShloMosaic.Pipeline (Dat)
open Cert.MoeIdeal Cert.MoeIdeal.Gen Cert.Basic

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![0, 0] ∧ win0_8.index t = ![0, 0] :=
  (by decide +kernel : ∀ t : Fin grid0.N, _)

theorem first (y : FVec Ideal S128x768 .f32) (x6 : FVec Ideal S1x394x128 .f32) (x7 : FVec Ideal S394x768 .f32) (j : S394x768.Idx) :
    k0_pay2 (F := Ideal) y x6 x7 j = x7 j + ∑ p : Fin 128, x6 (ix3 0 (j 0) p) * y (ix2 p (j 1)) := by
  pointwise! [k0_pay2, k0_pay1]

theorem next (y : FVec Ideal S128x768 .f32) (x6 : FVec Ideal S1x394x128 .f32) (x7 : FVec Ideal S394x768 .f32) (j : S394x768.Idx) :
    k0_pay3 (F := Ideal) y x6 x7 j = x7 j + ∑ p : Fin 128, x6 (ix3 0 (j 0) p) * y (ix2 p (j 1)) := by
  pointwise! [k0_pay3, k0_pay1]

theorem expert (x0 : FVec Ideal S394x768 .f32) (x1 : FVec Ideal S1x394x128 .f32) (x2 : FVec Ideal S1x768x3072 .bf16) (x3 : FVec Ideal S1x1x3072 .f32)
    (x4 : FVec Ideal S1x3072x768 .bf16) (x5 : FVec Ideal S1x1x768 .f32) (p : Fin 128) (d : Fin 768) :
    k0_pay4 (F := Ideal) x0 x1 x2 x3 x4 x5 (ix2 p d) =
      (∑ f : Fin 3072, gelu ((∑ k : Fin 768, (∑ t : Fin 394, x1 (ix3 0 t p) * x0 (ix2 t k)) * x2 (ix3 0 k f)) + x3 (ix3 0 0 f)) * x4 (ix3 0 f d))
        + x5 (ix3 0 0 d) := by
  pointwise! [k0_pay4, gelu]

/-- The reference's result at an index. -/
theorem ref_at (x0 : FVec Ideal S394x768 .f32) (x1 : FVec Ideal S8x394x128 .f32) (x2 : FVec Ideal S8x768x3072 .f32) (x3 : FVec Ideal S8x3072 .f32)
    (x4 : FVec Ideal S8x3072x768 .f32) (x5 : FVec Ideal S8x768 .f32) (x6 : FVec Ideal S8x394x128 .f32) (x7 : FVec Ideal S394x768 .f32) (j : S394x768.Idx) :
    Cert.MoeRefIdeal.Read.val_main_v23 (F := Ideal) x0 x1 x2 x3 x4 x5 x6 x7 j = x7 j + ∑ e : Fin 8, ∑ p : Fin 128, x6 (ix3 e (j 0) p) *
      ((∑ f : Fin 3072, gelu ((∑ k : Fin 768, (∑ t : Fin 394, x1 (ix3 e t p) * x0 (ix2 t k)) * x2 (ix3 e k f)) + x3 (ix2 e f)) * x4 (ix3 e f (j 1)))
        + x5 (ix2 e (j 1))) := by
  rw [← Cert.MoeRefIdeal.Read.val_main_v23_eq]
  pointwise [gelu]
  simp only [mul_assoc]

theorem final (c : Dev nD) : (dats m 0 c).arrAt 8 (cfgs 0).N
    = Cert.MoeRefIdeal.Read.val_main_v23 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_after_last 8 t0_7 (by decide +kernel) _ fun j => ?_
  blk_simp
  rw [after0_8, Pipeline.eq_sum_fin_of_reset_step_apply_last (fun n h => outsAt0 m c n h) 8 (m ((c : Thread nD τ).loc main_arg7)) _
    (fun t h j => by
      have h7 : iblk m c 7 t = m ((c : Thread nD τ).loc main_arg7) := by blk_ext! [iblk, V, idx t]
      rw [outsAt0_A m c t h (by have := lt_of_lt_of_eq t.isLt N_0; omega)]; frame_out; rw [first, h7])
    (fun t h j => by rw [outsAt0_B m c t h (by omega)]; frame_out; rw [next])
    (le_of_eq N_0) t0_7 rfl j]
  rw [ref_at]
  refine congrArg₂ (· + ·) rfl ?_
  refine Fin.sum_fin_congr fun p => ?_
  refine Fin.sum_fin_congr fun q => ?_
  refine (congrArg₂ (· * ·) rfl (expert _ _ _ _ _ _ q (j 1))).trans ?_
  blk_point [iblk, V, idx p]

end Cert.MoeIdeal.Value

end
-- ==== Proof.AttnQkv.lean ====
module

public import proofs.«01_k».proof.Proof.Basic
public import proofs.«01_k».proof.Proof.Gen.AttnIdeal.Frame
public import proofs.«01_k».proof.Proof.Gen.AttnRefIdeal.Read
public import Idealize.ShloMosaic.Lib.Pipeline.ValueKit
public import Idealize.ShloMosaic.Lib.Pointwise
public import Idealize.ShloMosaic.Lib.Claim

@[expose] public section

set_option maxRecDepth 16384

noncomputable section

/-! The normalisation and the query, key and value product: the first region's output is the reference's, row by row. -/

namespace Cert.AttnIdeal.Value

open Idealize.ShloMosaic Idealize.ShloMosaic.TcCoe Idealize.SL.Sem
open Idealize.ShloMosaic.Pipeline (Dat)
open Cert.AttnIdeal Cert.AttnIdeal.Gen Cert.Basic

variable (m : (ℓ : Loc nD τ sig) → Buf (Elt Ideal) ℓ) (ρ : Dev nD → PrngReg)

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem final0 (c : Dev nD) : (dat0 (V1 m ρ) c).arrAt 5 cfg0.N
    = k0_pay1 (F := Ideal) (V1 m ρ c main_v0) (V1 m ρ c main_v3) (V1 m ρ c main_v4) (V1 m ρ c main_v1) (V1 m ρ c main_v5) := by
  refine (dat0 (V1 m ρ) c).arrAt_eq_of_after_last 5 t0_0 (by decide +kernel) _ fun j => ?_
  blk_simp
  rw [after0_5]
  frame_out
  have e0 : iblk0 (V1 m ρ) c 0 t0_0 = V1 m ρ c main_v0 := by blk_ext! [iblk0, idx0 t0_0]
  have e1 : iblk0 (V1 m ρ) c 1 t0_0 = V1 m ρ c main_v3 := by blk_ext! [iblk0, idx0 t0_0]
  have e2 : iblk0 (V1 m ρ) c 2 t0_0 = V1 m ρ c main_v4 := by blk_ext! [iblk0, idx0 t0_0]
  have e3 : iblk0 (V1 m ρ) c 3 t0_0 = V1 m ρ c main_v1 := by blk_ext! [iblk0, idx0 t0_0]
  have e4 : iblk0 (V1 m ρ) c 4 t0_0 = V1 m ρ c main_v5 := by blk_ext! [iblk0, idx0 t0_0]
  rw [e0, e1, e2, e3, e4]

theorem entry1 (c : Dev nD) : V1 m ρ c main_v0 = shapeCast S394x768 (m ((c : Thread nD τ).loc main_arg0)) shapeCasts_S2x197x768_S394x768
    ∧ V1 m ρ c main_v1 = m ((c : Thread nD τ).loc main_arg1)
    ∧ V1 m ρ c main_v2 = m ((c : Thread nD τ).loc main_arg3)
    ∧ V1 m ρ c main_v3 = shapeCast S1x768 (m ((c : Thread nD τ).loc main_arg5)) shapeCasts_S768_S1x768
    ∧ V1 m ρ c main_v4 = shapeCast S1x768 (m ((c : Thread nD τ).loc main_arg6)) shapeCasts_S768_S1x768
    ∧ V1 m ρ c main_v5 = shapeCast S1x2304 (m ((c : Thread nD τ).loc main_arg2)) shapeCasts_S2304_S1x2304 := by
  refine ⟨?_, ?_, ?_, ?_, ?_, ?_⟩
  · show StableHlo.after hostOps0 (W0 m ρ c) main_v0 = _; entry_read; rfl
  · show StableHlo.after hostOps0 (W0 m ρ c) main_v1 = _; entry_read; rfl
  · show StableHlo.after hostOps0 (W0 m ρ c) main_v2 = _; entry_read; rfl
  · show StableHlo.after hostOps0 (W0 m ρ c) main_v3 = _; entry_read; rfl
  · show StableHlo.after hostOps0 (W0 m ρ c) main_v4 = _; entry_read; rfl
  · show StableHlo.after hostOps0 (W0 m ρ c) main_v5 = _; entry_read; rfl

/-- The product's rows against the reference's. -/
theorem qkv (x0 : FVec Ideal S2x197x768 .f32) (x1 : FVec Ideal S768x2304 .f32) (x2 : FVec Ideal S2304 .f32) (x5 x6 : FVec Ideal S768 .f32) :
    shapeCast AttnRefIdeal.S2x197x2304 (k0_pay1 (F := Ideal) (shapeCast S394x768 x0 shapeCasts_S2x197x768_S394x768) (shapeCast S1x768 x5 shapeCasts_S768_S1x768)
      (shapeCast S1x768 x6 shapeCasts_S768_S1x768) x1 (shapeCast S1x2304 x2 shapeCasts_S2304_S1x2304)) (by decide)
    = Cert.AttnRefIdeal.Read.val_main_v21 (F := Ideal) x0 x1 x2 x5 x6 := by
  funext i
  unfold Cert.AttnRefIdeal.Read.val_main_v21 Cert.AttnRefIdeal.Read.val_main_v20 Cert.AttnRefIdeal.Read.val_main_v19 Cert.AttnRefIdeal.Read.val_main_v18 Cert.AttnRefIdeal.Read.val_main_v17 Cert.AttnRefIdeal.Read.val_main_v16 Cert.AttnRefIdeal.Read.val_main_v15 Cert.AttnRefIdeal.Read.val_main_v14 Cert.AttnRefIdeal.Read.val_main_v13 Cert.AttnRefIdeal.Read.val_main_v12 Cert.AttnRefIdeal.Read.val_main_v11 Cert.AttnRefIdeal.Read.val_main_v10 Cert.AttnRefIdeal.Read.val_main_v9 Cert.AttnRefIdeal.Read.val_main_v8 Cert.AttnRefIdeal.Read.val_main_v7 Cert.AttnRefIdeal.Read.val_main_cst_1 Cert.AttnRefIdeal.Read.val_main_v6 Cert.AttnRefIdeal.Read.val_main_v5 Cert.AttnRefIdeal.Read.val_main_v4 Cert.AttnRefIdeal.Read.val_main_call0_call0_v1 Cert.AttnRefIdeal.Read.val_main_call0_call0_v0 Cert.AttnRefIdeal.Read.val_main_call0_cst_4 Cert.AttnRefIdeal.Read.val_main_call0_v13 Cert.AttnRefIdeal.Read.val_main_call0_cst_3 Cert.AttnRefIdeal.Read.val_main_call0_v12 Cert.AttnRefIdeal.Read.val_main_call0_v11 Cert.AttnRefIdeal.Read.val_main_call0_v10 Cert.AttnRefIdeal.Read.val_main_call0_v9 Cert.AttnRefIdeal.Read.val_main_call0_cst_2 Cert.AttnRefIdeal.Read.val_main_call0_v8 Cert.AttnRefIdeal.Read.val_main_call0_cst_1 Cert.AttnRefIdeal.Read.val_main_call0_v7 Cert.AttnRefIdeal.Read.val_main_call0_v6 Cert.AttnRefIdeal.Read.val_main_call0_v5 Cert.AttnRefIdeal.Read.val_main_call0_v4 Cert.AttnRefIdeal.Read.val_main_call0_v3 Cert.AttnRefIdeal.Read.val_main_call0_v2 Cert.AttnRefIdeal.Read.val_main_call0_cst_0 Cert.AttnRefIdeal.Read.val_main_call0_v1 Cert.AttnRefIdeal.Read.val_main_call0_v0 Cert.AttnRefIdeal.Read.val_main_call0_cst Cert.AttnRefIdeal.Read.val_main_c Cert.AttnRefIdeal.Read.val_main_v3 Cert.AttnRefIdeal.Read.val_main_v2 Cert.AttnRefIdeal.Read.val_main_cst_0 Cert.AttnRefIdeal.Read.val_main_v1 Cert.AttnRefIdeal.Read.val_main_v0 Cert.AttnRefIdeal.Read.val_main_cst
  pointwise! [k0_pay1]
  refine congrArg₂ _ (Finset.sum_congr rfl fun x _ => congrArg₂ _ (congrArg₂ _ (congrArg₂ _ ?_ rfl) rfl) rfl) rfl
  rw [ln_div _ _ _ (sum_sq_nonneg _)]

theorem left0 (c : Dev nD) : W2 m ρ c (Proc.devRef .tc main_v6) = k0_pay1 (F := Ideal) (shapeCast S394x768 (m ((c : Thread nD τ).loc main_arg0)) shapeCasts_S2x197x768_S394x768)
    (shapeCast S1x768 (m ((c : Thread nD τ).loc main_arg5)) shapeCasts_S768_S1x768) (shapeCast S1x768 (m ((c : Thread nD τ).loc main_arg6)) shapeCasts_S768_S1x768)
    (m ((c : Thread nD τ).loc main_arg1)) (shapeCast S1x2304 (m ((c : Thread nD τ).loc main_arg2)) shapeCasts_S2304_S1x2304) := by
  obtain ⟨h0, h1, _, h3, h4, h5⟩ := entry1 m ρ c
  refine (W2_arr m ρ c 5).trans ((final0 m ρ c).trans ?_)
  rw [h0, h1, h3, h4, h5]

/-- The product cut into batches, positions, thirds, heads and entries. -/
theorem cut (c : Dev nD) : shapeCast S2x197x3x12x64 (W2 m ρ c (Proc.devRef .tc main_v6)) shapeCasts_S394x2304_S2x197x3x12x64
    = Cert.AttnRefIdeal.Read.val_main_v22 (F := Ideal) (m ((c : Thread nD τ).loc main_arg0)) (m ((c : Thread nD τ).loc main_arg1)) (m ((c : Thread nD τ).loc main_arg2))
      (m ((c : Thread nD τ).loc main_arg5)) (m ((c : Thread nD τ).loc main_arg6)) := by
  rw [left0]
  unfold Cert.AttnRefIdeal.Read.val_main_v22
  rw [← qkv]
  exact (shapeCast_comp _ _ _).symm

theorem query (c : Dev nD) : V3 m ρ c main_v10
    = Cert.AttnRefIdeal.Read.val_main_v25 (F := Ideal) (m ((c : Thread nD τ).loc main_arg0)) (m ((c : Thread nD τ).loc main_arg1)) (m ((c : Thread nD τ).loc main_arg2))
      (m ((c : Thread nD τ).loc main_arg5)) (m ((c : Thread nD τ).loc main_arg6)) := by
  show StableHlo.after hostOps1 (W2 m ρ c) main_v10 = _
  unfold Cert.AttnRefIdeal.Read.val_main_v25 Cert.AttnRefIdeal.Read.val_main_v24 Cert.AttnRefIdeal.Read.val_main_v23
  rw [← cut]
  entry_read
  rfl

theorem key (c : Dev nD) : V3 m ρ c main_v12
    = Cert.AttnRefIdeal.Read.val_main_v27 (F := Ideal) (m ((c : Thread nD τ).loc main_arg0)) (m ((c : Thread nD τ).loc main_arg1)) (m ((c : Thread nD τ).loc main_arg2))
      (m ((c : Thread nD τ).loc main_arg5)) (m ((c : Thread nD τ).loc main_arg6)) := by
  show StableHlo.after hostOps1 (W2 m ρ c) main_v12 = _
  unfold Cert.AttnRefIdeal.Read.val_main_v27 Cert.AttnRefIdeal.Read.val_main_v26 Cert.AttnRefIdeal.Read.val_main_v23
  rw [← cut]
  entry_read
  rfl

theorem value (c : Dev nD) : V3 m ρ c main_v14
    = Cert.AttnRefIdeal.Read.val_main_v29 (F := Ideal) (m ((c : Thread nD τ).loc main_arg0)) (m ((c : Thread nD τ).loc main_arg1)) (m ((c : Thread nD τ).loc main_arg2))
      (m ((c : Thread nD τ).loc main_arg5)) (m ((c : Thread nD τ).loc main_arg6)) := by
  show StableHlo.after hostOps1 (W2 m ρ c) main_v14 = _
  unfold Cert.AttnRefIdeal.Read.val_main_v29 Cert.AttnRefIdeal.Read.val_main_v28 Cert.AttnRefIdeal.Read.val_main_v23
  rw [← cut]
  entry_read
  rfl

theorem weight (c : Dev nD) : V3 m ρ c main_v2 = m ((c : Thread nD τ).loc main_arg3) :=
  (W3_of m ρ c main_v2 (by decide)).trans ((W2_of m ρ c main_v2 (by decide +kernel)).trans (entry1 m ρ c).2.2.1)

theorem hidden (c : Dev nD) : V3 m ρ c main_v15 = m ((c : Thread nD τ).loc main_arg0) := by
  have h : W2 m ρ c (Proc.devRef .tc main_v0) = _ := (W2_of m ρ c main_v0 (by decide +kernel)).trans (entry1 m ρ c).1
  show StableHlo.after hostOps1 (W2 m ρ c) main_v15 = _
  entry_read
  rw [h]
  exact shapeCast_shapeCast _ _ _

theorem bias (c : Dev nD) : V3 m ρ c main_v16 = shapeCast S1x768 (m ((c : Thread nD τ).loc main_arg4)) shapeCasts_S768_S1x768 := by
  have h : W2 m ρ c (Proc.devRef .tc main_arg4) = _ := W2_args m ρ c main_arg4 (by decide)
  show StableHlo.after hostOps1 (W2 m ρ c) main_v16 = _
  entry_read
  rw [h]
  rfl

end Cert.AttnIdeal.Value

end
-- ==== Proof.AttnHeads.lean ====
module

public import proofs.«01_k».proof.Proof.Basic
public import proofs.«01_k».proof.Proof.Gen.AttnIdeal.Frame
public import proofs.«01_k».proof.Proof.Gen.AttnRefIdeal.Read
public import Idealize.ShloMosaic.Lib.Pipeline.ValueKit
public import Idealize.ShloMosaic.Lib.Pointwise
public import Idealize.ShloMosaic.Lib.Claim

@[expose] public section

set_option maxRecDepth 16384

noncomputable section

/-! One head's softmax, context and output product, and the twelve heads added up. -/

namespace Cert.AttnIdeal.Value

open Idealize.ShloMosaic Idealize.ShloMosaic.TcCoe Idealize.SL.Sem
open Idealize.ShloMosaic.Pipeline (Dat)
open Cert.AttnIdeal Cert.AttnIdeal.Gen Cert.Basic

/-- One head's contribution added to what was there: every head of the body is this function of its operands. -/
def head (q k v : Vec Ideal S1x1x197x64 .f32) (o : Vec Ideal S1x197x768 .f32) (w : Vec Ideal S64x768 .bf16) : FVec Ideal S1x197x768 .f32 :=
  k1_pay1 (k1_pay40 (k1_pay39 q) k v o w)

/-- A row of scores through the softmax. -/
def soft (a : Fin 197 → EReal) (t : Fin 197) : EReal :=
  Ideal.div (Ideal.exp (a t - max (Ideal.ofBits .f32 0xFF800000#32) (Finset.fold max (Ideal.ofBits .f32 0xFF800000#32) a Finset.univ)))
    (∑ u, Ideal.exp (a u - max (Ideal.ofBits .f32 0xFF800000#32) (Finset.fold max (Ideal.ofBits .f32 0xFF800000#32) a Finset.univ)))

/-- One entry of a head's context: the values averaged with the softmax of the scaled scores. -/
def ctx (q : Fin 64 → EReal) (k v : Fin 197 → Fin 64 → EReal) (e : Fin 64) : EReal :=
  ∑ t, soft (fun u => (∑ f, q f * k u f) * Ideal.ofBits .f32 0x3E000000#32) t * v t e

theorem head_at (q k v : Vec Ideal S1x1x197x64 .f32) (o : Vec Ideal S1x197x768 .f32) (w : Vec Ideal S64x768 .bf16) (s : Fin 197) (d : Fin 768) :
    head q k v o w (ix3 0 s d) = o (ix3 0 s d)
      + ∑ e : Fin 64, ctx (fun f => q (ix4 0 0 s f)) (fun t f => k (ix4 0 0 t f)) (fun t f => v (ix4 0 0 t f)) e * w (ix2 e d) := by
  pointwise! [head, k1_pay1, k1_pay40, k1_pay39, ctx, soft]

/-- Head `n` of a block of heads. -/
def slice (x : Vec Ideal S1x12x197x64 .f32) (n : ℕ) : Vec Ideal S1x1x197x64 .f32 := fun y => x (ix4 0 (Fin.ofNat 12 n) (y 2) (y 3))

/-- Sixty-four rows of the output weight. -/
def rows (x : Vec Ideal S768x768 .bf16) (n : ℕ) : Vec Ideal S64x768 .bf16 := fun y => x (ix2 (Fin.ofNat 768 (n + (y 0).val)) (y 1))

theorem ld_slice (x : Vec Ideal S1x12x197x64 .f32) (n : ℕ) (inb : ∀ a, (![0, n, 0, 0] : Fin 4 → Nat) a + S1x1x197x64.size a ≤ S1x12x197x64.size a) :
    View.ld x (Rect.unit (s := S1x12x197x64) ![0, n, 0, 0] S1x1x197x64.size inb) = slice x n := by
  have hn : n + 1 ≤ 12 := inb 1
  funext y
  refine View.ld_unit_apply_of _ _ _ _ _ _ ?_
  intro a
  fin_cases a
  · have : (y 0).val < 1 := (y 0).isLt
    simp [ix4]
  · have : (y 1).val < 1 := (y 1).isLt
    simp [ix4]; omega
  · simp [ix4]
  · simp [ix4]

theorem ld_rows (x : Vec Ideal S768x768 .bf16) (n : ℕ) (inb : ∀ a, (![n, 0] : Fin 2 → Nat) a + S64x768.size a ≤ S768x768.size a) :
    View.ld x (Rect.unit (s := S768x768) ![n, 0] S64x768.size inb) = rows x n := by
  have hn : n + 64 ≤ 768 := inb 0
  funext y
  refine View.ld_unit_apply_of _ _ _ _ _ _ ?_
  intro a
  fin_cases a
  · have : (y 0).val < 64 := (y 0).isLt
    simp [ix2]; omega
  · simp [ix2]

/-- What the output holds after the first `n` heads. -/
def acc (q k v : Vec Ideal S1x12x197x64 .f32) (w : Vec Ideal S768x768 .bf16) (o : Vec Ideal S1x197x768 .f32) : ℕ → Vec Ideal S1x197x768 .f32
  | 0 => o
  | n + 1 => head (slice q n) (slice k n) (slice v n) (acc q k v w o n) (rows w (n * 64))

theorem acc_at (q k v : Vec Ideal S1x12x197x64 .f32) (w : Vec Ideal S768x768 .bf16) (o : Vec Ideal S1x197x768 .f32) (n : ℕ) (s : Fin 197) (d : Fin 768) :
    acc q k v w o n (ix3 0 s d) = o (ix3 0 s d)
      + ∑ h ∈ Finset.range n, ∑ e : Fin 64, ctx (fun f => q (ix4 0 (Fin.ofNat 12 h) s f)) (fun t f => k (ix4 0 (Fin.ofNat 12 h) t f)) (fun t f => v (ix4 0 (Fin.ofNat 12 h) t f)) e
          * w (ix2 (Fin.ofNat 768 (h * 64 + e.val)) d) := by
  induction n with
  | zero => simp [acc]
  | succ n ih => rw [acc, head_at, ih, Finset.sum_range_succ, ← add_assoc]; rfl

/-- One more head: whatever the body calls it, a head of the blocks' slices carries the sum one head further. -/
theorem step (q k v : Vec Ideal S1x12x197x64 .f32) (w : Vec Ideal S768x768 .bf16) (o p : Vec Ideal S1x197x768 .f32) (n r : ℕ)
    (P : Vec Ideal S1x1x197x64 .f32 → Vec Ideal S1x1x197x64 .f32 → Vec Ideal S1x1x197x64 .f32 → Vec Ideal S1x197x768 .f32 → Vec Ideal S64x768 .bf16 → Vec Ideal S1x197x768 .f32)
    (hP : ∀ a b c d e, P a b c d e = head a b c d e) (hr : r = n * 64)
    (i1 i2 i3 : ∀ a, (![0, n, 0, 0] : Fin 4 → Nat) a + S1x1x197x64.size a ≤ S1x12x197x64.size a)
    (i4 : ∀ a, (![r, 0] : Fin 2 → Nat) a + S64x768.size a ≤ S768x768.size a) (hp : p = acc q k v w o n) :
    P (View.ld q (Rect.unit (s := S1x12x197x64) ![0, n, 0, 0] S1x1x197x64.size i1)) (View.ld k (Rect.unit (s := S1x12x197x64) ![0, n, 0, 0] S1x1x197x64.size i2))
      (View.ld v (Rect.unit (s := S1x12x197x64) ![0, n, 0, 0] S1x1x197x64.size i3)) p (View.ld w (Rect.unit (s := S768x768) ![r, 0] S64x768.size i4))
      = acc q k v w o (n + 1) := by
  rw [hP, ld_slice, ld_slice, ld_slice, ld_rows, hp, hr, acc]

end Cert.AttnIdeal.Value

end
-- ==== Proof.AttnBody.lean ====
module

public import proofs.«01_k».proof.Proof.AttnHeads
public import proofs.«01_k».proof.Proof.Gen.AttnIdeal.Frame
public import proofs.«01_k».proof.Proof.Gen.AttnRefIdeal.Read
public import Idealize.ShloMosaic.Lib.Pipeline.ValueKit
public import Idealize.ShloMosaic.Lib.Pointwise
public import Idealize.ShloMosaic.Lib.Claim

@[expose] public section

set_option maxRecDepth 16384

noncomputable section

/-! The body of the attention call leaves the twelve heads added up. -/

namespace Cert.AttnIdeal.Value

open Idealize.ShloMosaic Idealize.ShloMosaic.TcCoe Idealize.SL.Sem
open Idealize.ShloMosaic.Pipeline (Dat)
open Cert.AttnIdeal Cert.AttnIdeal.Gen Cert.Basic

set_option maxHeartbeats 1000000 in
theorem left1 (c : Dev nD) (i : grid1.Coords) (arg1 : Memref sig .tc .vmem S1x12x197x64 .f32) (harg1 : arg1.IsWhole) (arg2 : Memref sig .tc .vmem S1x12x197x64 .f32) (harg2 : arg2.IsWhole) (arg3 : Memref sig .tc .vmem S1x12x197x64 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S1x197x768 .f32) (harg6 : arg6.IsWhole) (arg7 : Memref sig .tc .vmem S1x197x768 .f32) (harg7 : arg7.IsWhole)
    (x0 : Vec Ideal S1x12x197x64 .f32) (x1 : Vec Ideal S1x12x197x64 .f32) (x2 : Vec Ideal S1x12x197x64 .f32) (x3 : Vec Ideal S768x768 .bf16) (x4 : Vec Ideal S1x768 .f32) (x5 : Vec Ideal S1x197x768 .f32) :
    out1_A_6 (F := Ideal) c i arg1 harg1 arg2 harg2 arg3 harg3 arg4 harg4 arg5 harg5 arg6 harg6 arg7 harg7 x0 x1 x2 x3 x4 x5 = acc x0 x1 x2 x3 (k1_pay2 x5 x4) 12 := by
  unfold out1_A_6
  frame_out
  refine step _ _ _ _ _ _ 11 704 (fun q k v o w => k1_pay1 (k1_pay40 (k1_pay39 q) k v o w)) (fun _ _ _ _ _ => rfl) rfl _ _ _ _ ?_
  refine step _ _ _ _ _ _ 10 640 (fun q k v o w => k1_pay38 (k1_pay37 q) k v o w) (fun _ _ _ _ _ => rfl) rfl _ _ _ _ ?_
  refine step _ _ _ _ _ _ 9 576 (fun q k v o w => k1_pay36 (k1_pay34 q) (k1_pay35 k) v o w) (fun _ _ _ _ _ => rfl) rfl _ _ _ _ ?_
  refine step _ _ _ _ _ _ 8 512 (fun q k v o w => k1_pay33 (k1_pay31 q) (k1_pay32 k) v o w) (fun _ _ _ _ _ => rfl) rfl _ _ _ _ ?_
  refine step _ _ _ _ _ _ 7 448 (fun q k v o w => k1_pay30 (k1_pay27 q) (k1_pay28 k) (k1_pay29 v) o w) (fun _ _ _ _ _ => rfl) rfl _ _ _ _ ?_
  refine step _ _ _ _ _ _ 6 384 (fun q k v o w => k1_pay26 (k1_pay24 v) (k1_pay25 q k) o w) (fun _ _ _ _ _ => rfl) rfl _ _ _ _ ?_
  refine step _ _ _ _ _ _ 5 320 (fun q k v o w => k1_pay23 (k1_pay21 v) (k1_pay22 q k) o w) (fun _ _ _ _ _ => rfl) rfl _ _ _ _ ?_
  refine step _ _ _ _ _ _ 4 256 (fun q k v o w => k1_pay20 (k1_pay17 v) (k1_pay18 q k) (k1_pay19 q k) (Scalar.ofBits .f32 0xFF800000#32) o w) (fun _ _ _ _ _ => rfl) rfl _ _ _ _ ?_
  refine step _ _ _ _ _ _ 3 192 (fun q k v o w => k1_pay16 (k1_pay13 v) (k1_pay14 q k) (k1_pay15 q k) o w) (fun _ _ _ _ _ => rfl) rfl _ _ _ _ ?_
  refine step _ _ _ _ _ _ 2 128 (fun q k v o w => k1_pay12 (k1_pay10 v) (k1_pay11 q k) o w) (fun _ _ _ _ _ => rfl) rfl _ _ _ _ ?_
  refine step _ _ _ _ _ _ 1 64 (fun q k v o w => k1_pay9 (k1_pay6 v) (k1_pay7 q k) (k1_pay8 q k) o w) (fun _ _ _ _ _ => rfl) rfl _ _ _ _ ?_
  refine step _ _ _ _ _ _ 0 0 (fun q k v o w => k1_pay5 (k1_pay3 v) (k1_pay4 q k) o w) (fun _ _ _ _ _ => rfl) rfl _ _ _ _ ?_
  rfl

theorem body (V : (c : Dev nD) → (b : Ref sig .tc) → Buf (Elt Ideal) ((c : Thread nD τ).loc b)) (c : Dev nD) (t : Fin cfg1.N) : outsAt1 V c t
    = acc (iblk1 V c 0 t) (iblk1 V c 1 t) (iblk1 V c 2 t) (iblk1 V c 3 t) (k1_pay2 (iblk1 V c 5 t) (iblk1 V c 4 t)) 12 :=
  left1 ..

end Cert.AttnIdeal.Value

end
-- ==== Proof.AttnRef.lean ====
module

public import proofs.«01_k».proof.Proof.AttnHeads
public import proofs.«01_k».proof.Proof.Gen.AttnIdeal.Frame
public import proofs.«01_k».proof.Proof.Gen.AttnRefIdeal.Read
public import Idealize.ShloMosaic.Lib.Pipeline.ValueKit
public import Idealize.ShloMosaic.Lib.Pointwise
public import Idealize.ShloMosaic.Lib.Claim

@[expose] public section

set_option maxRecDepth 16384

noncomputable section

/-! The reference's attention written over its queries, keys and values, head by head. -/

namespace Cert.AttnIdeal.Value

open Idealize.ShloMosaic Idealize.ShloMosaic.TcCoe Idealize.SL.Sem
open Idealize.ShloMosaic.Pipeline (Dat)
open Cert.AttnIdeal Cert.AttnIdeal.Gen Cert.Basic

theorem lit_8 : Ideal.ofBits .f32 0x41000000#32 = ((8 : ℝ) : EReal) := by
  simp [Ideal.ofBits, Ideal.ieee, -EReal.coe_mul]; norm_num

theorem lit_eighth : Ideal.ofBits .f32 0x3E000000#32 = ((1 / 8 : ℝ) : EReal) := by
  simp [Ideal.ofBits, Ideal.ieee, -EReal.coe_mul]; norm_num

/-- Dividing by eight is multiplying by an eighth. -/
theorem div_8 (x : EReal) : Ideal.div x (Ideal.ofBits .f32 0x41000000#32) = x * Ideal.ofBits .f32 0x3E000000#32 := by
  rw [lit_8, lit_eighth, Ideal.div_coe (by norm_num)]

/-- The reference's result from its queries, keys and values. -/
theorem ref_at (x0 : FVec Ideal S2x197x768 .f32) (x1 : FVec Ideal S768x2304 .f32) (x2 : FVec Ideal S2304 .f32) (x3 : FVec Ideal S768x768 .f32) (x4 x5 x6 : FVec Ideal S768 .f32) (i : S2x197x768.Idx) :
    Cert.AttnRefIdeal.Read.val_main_v51 (F := Ideal) x0 x1 x2 x3 x4 x5 x6 i = x0 i
      + ((∑ h : Fin 12, ∑ e : Fin 64, ctx (fun f => Cert.AttnRefIdeal.Read.val_main_v25 (F := Ideal) x0 x1 x2 x5 x6 (ix4 (i 0) h (i 1) f))
            (fun t f => Cert.AttnRefIdeal.Read.val_main_v27 (F := Ideal) x0 x1 x2 x5 x6 (ix4 (i 0) h t f))
            (fun t f => Cert.AttnRefIdeal.Read.val_main_v29 (F := Ideal) x0 x1 x2 x5 x6 (ix4 (i 0) h t f)) e
          * x3 (ix2 (Fin.ofNat 768 (h.val * 64 + e.val)) (i 2))) + x4 (ix1 (i 2))) := by
  unfold Cert.AttnRefIdeal.Read.val_main_v51 Cert.AttnRefIdeal.Read.val_main_v50 Cert.AttnRefIdeal.Read.val_main_v49 Cert.AttnRefIdeal.Read.val_main_v48 Cert.AttnRefIdeal.Read.val_main_v47 Cert.AttnRefIdeal.Read.val_main_v46 Cert.AttnRefIdeal.Read.val_main_v45 Cert.AttnRefIdeal.Read.val_main_v44 Cert.AttnRefIdeal.Read.val_main_v43 Cert.AttnRefIdeal.Read.val_main_v42 Cert.AttnRefIdeal.Read.val_main_v41 Cert.AttnRefIdeal.Read.val_main_v40 Cert.AttnRefIdeal.Read.val_main_cst_5 Cert.AttnRefIdeal.Read.val_main_v39 Cert.AttnRefIdeal.Read.val_main_v38 Cert.AttnRefIdeal.Read.val_main_v37 Cert.AttnRefIdeal.Read.val_main_v36 Cert.AttnRefIdeal.Read.val_main_v35 Cert.AttnRefIdeal.Read.val_main_v34 Cert.AttnRefIdeal.Read.val_main_cst_4 Cert.AttnRefIdeal.Read.val_main_v33 Cert.AttnRefIdeal.Read.val_main_cst_3 Cert.AttnRefIdeal.Read.val_main_v32 Cert.AttnRefIdeal.Read.val_main_v31 Cert.AttnRefIdeal.Read.val_main_cst_2 Cert.AttnRefIdeal.Read.val_main_v30
  generalize Cert.AttnRefIdeal.Read.val_main_v25 (F := Ideal) x0 x1 x2 x5 x6 = q
  generalize Cert.AttnRefIdeal.Read.val_main_v27 (F := Ideal) x0 x1 x2 x5 x6 = k
  generalize Cert.AttnRefIdeal.Read.val_main_v29 (F := Ideal) x0 x1 x2 x5 x6 = v
  pointwise! []
  simp only [div_8]
  refine congrArg₂ _ rfl (congrArg₂ _ ((Fin.sum_univ_tiles 12 64 rfl _).trans ?_) rfl)
  refine Finset.sum_congr rfl fun h _ => Finset.sum_congr rfl fun e _ => ?_
  have hh : ∀ p, (⟨(h.val * 64 + e.val) / 64, p⟩ : Fin 12) = h := fun p => Fin.ext (by have := e.isLt; show (h.val * 64 + e.val) / 64 = h.val; omega)
  have he : ∀ p, (⟨(h.val * 64 + e.val) % 64, p⟩ : Fin 64) = e := fun p => Fin.ext (by have := e.isLt; show (h.val * 64 + e.val) % 64 = e.val; omega)
  have hr : ∀ p, (⟨h.val * 64 + e.val, p⟩ : Fin 768) = Fin.ofNat 768 (h.val * 64 + e.val) := fun p => Fin.ext (Nat.mod_eq_of_lt p).symm
  simp only [hh, he, hr]
  rfl

end Cert.AttnIdeal.Value

end
-- ==== Proof.AttnRun.lean ====
module

public import proofs.«01_k».proof.Proof.Gen.AttnIdeal.Frame

@[expose] public section

set_option maxRecDepth 16384

noncomputable section

/-! The attention program's run with its result: the last region's output array, as its write-backs leave it, beside the
    arguments unchanged. -/

namespace Cert.AttnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result the last region leaves. -/
def result (c : Dev nD) : Buf (Elt F) ((c.tc : Thread nD τ).loc main_v17) := (dat1 (V3 m ρ) c).arrAt 6 cfg1.N

set_option backward.isDefEq.respectTransparency.types false in
theorem run : θ_run defs (onTc (τ := τ) (main (F := F))) ⟨m, fun _ => 0, ρ⟩ (fun r => ∀ c : Dev nD,
      r.2.mem ((c.tc : Thread nD τ).loc main_v17) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v17 (by decide))).trans (W4_arr m ρ c 6),
       (h c _ (mem_uc main_arg0 (by decide))).trans (W4_args m ρ c main_arg0 (by decide)),
       (h c _ (mem_uc main_arg1 (by decide))).trans (W4_args m ρ c main_arg1 (by decide)),
       (h c _ (mem_uc main_arg2 (by decide))).trans (W4_args m ρ c main_arg2 (by decide)),
       (h c _ (mem_uc main_arg3 (by decide))).trans (W4_args m ρ c main_arg3 (by decide)),
       (h c _ (mem_uc main_arg4 (by decide))).trans (W4_args m ρ c main_arg4 (by decide)),
       (h c _ (mem_uc main_arg5 (by decide))).trans (W4_args m ρ c main_arg5 (by decide)),
       (h c _ (mem_uc main_arg6 (by decide))).trans (W4_args m ρ c main_arg6 (by decide))⟩)

end Cert.AttnIdeal.Value

end
-- ==== Proof.AttnValue.lean ====
module

public import proofs.«01_k».proof.Proof.AttnQkv
public import proofs.«01_k».proof.Proof.AttnBody
public import proofs.«01_k».proof.Proof.AttnRef
public import proofs.«01_k».proof.Proof.AttnRun
public import proofs.«01_k».proof.Proof.Gen.AttnIdeal.Frame
public import proofs.«01_k».proof.Proof.Gen.AttnRefIdeal.Read
public import Idealize.ShloMosaic.Lib.Pipeline.ValueKit
public import Idealize.ShloMosaic.Lib.Pointwise
public import Idealize.ShloMosaic.Lib.Claim

@[expose] public section

set_option maxRecDepth 16384

noncomputable section

/-! The attention program's result is the reference's. -/

namespace Cert.AttnIdeal.Value

open Idealize.ShloMosaic Idealize.ShloMosaic.TcCoe Idealize.SL.Sem
open Idealize.ShloMosaic.Pipeline (Dat)
open Cert.AttnIdeal Cert.AttnIdeal.Gen Cert.Basic

variable (m : (ℓ : Loc nD τ sig) → Buf (Elt Ideal) ℓ) (ρ : Dev nD → PrngReg)

theorem idx1 : ∀ t : Fin cfg1.N, win1_0.index t = ![t.val, 0, 0, 0] ∧ win1_1.index t = ![t.val, 0, 0, 0] ∧ win1_2.index t = ![t.val, 0, 0, 0]
    ∧ win1_3.index t = ![0, 0] ∧ win1_4.index t = ![0, 0] ∧ win1_5.index t = ![t.val, 0, 0] ∧ win1_6.index t = ![t.val, 0, 0] :=
  (by decide +kernel : ∀ t : Fin grid1.N, _)

theorem first_at (o : Vec Ideal S1x197x768 .f32) (b : Vec Ideal S1x768 .f32) (s : Fin 197) (d : Fin 768) :
    k1_pay2 (F := Ideal) o b (ix3 0 s d) = o (ix3 0 s d) + b (ix2 0 d) := by
  pointwise! [k1_pay2]

theorem point (c : Dev nD) (t : Fin cfg1.N) (ht : t.val < 2) (s : Fin 197) (d : Fin 768) :
    acc (iblk1 (V3 m ρ) c 0 t) (iblk1 (V3 m ρ) c 1 t) (iblk1 (V3 m ρ) c 2 t) (iblk1 (V3 m ρ) c 3 t) (k1_pay2 (iblk1 (V3 m ρ) c 5 t) (iblk1 (V3 m ρ) c 4 t)) 12 (ix3 0 s d)
      = Cert.AttnRefIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 ⟨t.val, ht⟩ s d) := by
  have q : ∀ h s f, iblk1 (V3 m ρ) c 0 t (ix4 0 h s f) = Cert.AttnRefIdeal.Read.val_main_v25 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 ⟨t.val, ht⟩ h s f) := fun h s f =>
    (show _ = V3 m ρ c main_v10 (ix4 ⟨t.val, ht⟩ h s f) by blk_point [iblk1, idx1 t]).trans (congrFun (query m ρ c) _)
  have k : ∀ h s f, iblk1 (V3 m ρ) c 1 t (ix4 0 h s f) = Cert.AttnRefIdeal.Read.val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 ⟨t.val, ht⟩ h s f) := fun h s f =>
    (show _ = V3 m ρ c main_v12 (ix4 ⟨t.val, ht⟩ h s f) by blk_point [iblk1, idx1 t]).trans (congrFun (key m ρ c) _)
  have v : ∀ h s f, iblk1 (V3 m ρ) c 2 t (ix4 0 h s f) = Cert.AttnRefIdeal.Read.val_main_v29 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 ⟨t.val, ht⟩ h s f) := fun h s f =>
    (show _ = V3 m ρ c main_v14 (ix4 ⟨t.val, ht⟩ h s f) by blk_point [iblk1, idx1 t]).trans (congrFun (value m ρ c) _)
  have w : ∀ r d, iblk1 (V3 m ρ) c 3 t (ix2 r d) = m ((c : Thread nD τ).loc main_arg3) (ix2 r d) := fun r d =>
    (show _ = V3 m ρ c main_v2 (ix2 r d) by blk_point [iblk1, idx1 t]).trans (congrFun (weight m ρ c) _)
  have b : ∀ d, iblk1 (V3 m ρ) c 4 t (ix2 0 d) = m ((c : Thread nD τ).loc main_arg4) (ix1 d) := fun d =>
    (show _ = V3 m ρ c main_v16 (ix2 0 d) by blk_point [iblk1, idx1 t]).trans ((congrFun (bias m ρ c) _).trans (by pointwise! []))
  have o : ∀ s d, iblk1 (V3 m ρ) c 5 t (ix3 0 s d) = m ((c : Thread nD τ).loc main_arg0) (ix3 ⟨t.val, ht⟩ s d) := fun s d =>
    (show _ = V3 m ρ c main_v15 (ix3 ⟨t.val, ht⟩ s d) by blk_point [iblk1, idx1 t]).trans (congrFun (hidden m ρ c) _)
  rw [acc_at, first_at, ref_at, Finset.sum_range]
  simp only [q, k, v, w, b, o, Fin.ofNat_val_eq_self]
  rw [add_assoc]
  exact congrArg₂ (fun a b : EReal => a + b) rfl (add_comm (G := EReal) _ _)

theorem final (c : Dev nD) : result m ρ c
    = Cert.AttnRefIdeal.Read.val_main_v51 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dat1 (V3 m ρ) c).arrAt_eq_of_covers 6 _ (by decide +kernel) fun t hf y => ?_
  blk_simp
  rw [after1_6, body]
  have ht : t.val < 2 := lt_of_lt_of_eq t.isLt N_1
  have hy : y = (ix3 0 (y 1) (y 2) : S1x197x768.Idx) := by
    funext a
    fin_cases a
    · exact Subsingleton.elim (α := Fin 1) _ _
    · rfl
    · rfl
  have hj : (win1_6.blk t).view.emb y = (ix3 ⟨t.val, ht⟩ (y 1) (y 2) : S2x197x768.Idx) := by
    blk_ext [idx1 t]
  exact (congrArg _ hy).trans ((point m ρ c t ht (y 1) (y 2)).trans (congrArg _ hj.symm))

end Cert.AttnIdeal.Value

end
-- ==== Proof.EmbedValue.lean ====
module

public import proofs.«01_k».proof.Proof.Basic
public import proofs.«01_k».proof.Proof.Gen.EmbedIdeal.Run
public import proofs.«01_k».proof.Proof.Gen.EmbedRefIdeal.Read
public import Idealize.ShloMosaic.Lib.Pipeline.ValueKit
public import Idealize.ShloMosaic.Lib.Pointwise
public import Idealize.ShloMosaic.Lib.Claim

@[expose] public section

set_option maxRecDepth 16384

noncomputable section

/-! The patch embedding: the kernel's one grid point writes the product of all 392 patches, and with the class token in front
    and the positions added each entry is the reference's. -/

namespace Cert.EmbedIdeal.Value

open Idealize.ShloMosaic Idealize.ShloMosaic.TcCoe Idealize.SL.Sem
open Idealize.ShloMosaic.Pipeline (Dat)
open Cert.EmbedIdeal Cert.EmbedIdeal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] := (by decide +kernel : ∀ t : Fin grid0.N, _)

theorem final (c : Dev nD) : reg_main_v4 m c
    = k0_pay1 (F := Ideal) (V m c main_v2) (m ((c : Thread nD τ).loc main_arg1)) (V m c main_v3) := by
  refine (dats m 0 c).arrAt_eq_of_after_last 3 t0_0 (by decide +kernel) _ fun j => ?_
  blk_simp
  rw [after0_3]
  frame_out
  have e0 : iblk m c 0 t0_0 = V m c main_v2 := by blk_ext! [iblk, idx t0_0]
  have e1 : iblk m c 1 t0_0 = m ((c : Thread nD τ).loc main_arg1) := by blk_ext! [iblk, V, idx t0_0]
  have e2 : iblk m c 2 t0_0 = V m c main_v3 := by blk_ext! [iblk, idx t0_0]
  rw [e0, e1, e2]

theorem reshaped (c : Dev nD) : V m c main_v2 = shapeCast S392x768 (transpose S2x14x14x3x16x16 [0, 2, 4, 1, 3, 5] (shapeCast S2x3x14x16x14x16 (m ((c : Thread nD τ).loc main_arg0)) shapeCasts_S2x3x224x224_S2x3x14x16x14x16) transposes_S2x3x14x16x14x16_S2x14x14x3x16x16_0_2_4_1_3_5) shapeCasts_S2x14x14x3x16x16_S392x768
    ∧ V m c main_v3 = shapeCast S1x768 (m ((c : Thread nD τ).loc main_arg2)) shapeCasts_S768_S1x768 := by
  refine ⟨?_, ?_⟩ <;> (entry_read; try rfl)

theorem value (x0 : FVec Ideal S2x3x224x224 .f32) (x1 : FVec Ideal S768x768 .f32) (x2 : FVec Ideal S768 .f32) (x3 : FVec Ideal S1x1x768 .f32)
    (x4 : FVec Ideal S1x197x768 .f32) :
    addf (concatenate S2x197x768 1 [⟨S2x1x768, (broadcastInDim S2x1x768 ![0, 1, 2] bcast_S1x1x768_S2x1x768_0_1_2 x3)⟩, ⟨S2x196x768, (shapeCast _ (k0_pay1 (F := Ideal) (shapeCast S392x768 (transpose S2x14x14x3x16x16 [0, 2, 4, 1, 3, 5] (shapeCast S2x3x14x16x14x16 x0 shapeCasts_S2x3x224x224_S2x3x14x16x14x16) transposes_S2x3x14x16x14x16_S2x14x14x3x16x16_0_2_4_1_3_5) shapeCasts_S2x14x14x3x16x16_S392x768) x1 (shapeCast S1x768 x2 shapeCasts_S768_S1x768)) shapeCasts_S392x768_S2x196x768)⟩] concatenates_S2x1x768_S2x196x768_S2x197x768_d1) (broadcastInDim S2x197x768 ![0, 1, 2] bcast_S1x197x768_S2x197x768_0_1_2 x4)
    = Cert.EmbedRefIdeal.Read.val_main_v10 (F := Ideal) x0 x1 x2 x3 x4 := by
  rw [← Cert.EmbedRefIdeal.Read.val_main_v10_eq]
  funext i
  pointwise! [k0_pay1]
  idx_vars i
  refine congrArg₂ _ ?_ rfl
  refine dite_congr rfl (fun _ => rfl) fun h => ?_
  · refine (congrArg₂ _ (Finset.sum_congr rfl fun x _ => congrArg₂ _ (congrArg x0 ?_) rfl) rfl)
    funext a
    apply Fin.ext
    fin_cases a <;> simp [ix4] <;> omega

end Cert.EmbedIdeal.Value

end
-- ==== Proof.RouteRun.lean ====
module

public import proofs.«01_k».proof.Proof.Gen.RouteRefIdeal
public import Idealize.ShloMosaic.Lib.StableHlo.Run
public import Idealize.ShloMosaic.Lib.Pipeline.Frame

@[expose] public section

set_option Elab.async false

noncomputable section

/-! The routing reference as one list of operations cut into eight groups, each group's results as terms of what it reads, and
    the run of the whole: its three results and its arguments kept. -/

namespace Cert.RouteRefIdeal.Hand

open Cert.RouteRefIdeal Cert.RouteRefIdeal.Gen Idealize.ShloMosaic Idealize.ShloMosaic.TcCoe Idealize.SL.Sem Idealize.ShloMosaic.StableHlo

variable {F : FTy → Type} [FloatOps F]

/-! ### The reference's stages -/

/-- Each row minus its mean. -/
def centred (h : FVec F S2x197x768 .f32) : FVec F S2x197x768 .f32 :=
  subf h (broadcastInDim S2x197x768 ![0, 1, 2] bcast_S2x197x1_S2x197x768_0_1_2 (Host.divf (broadcastInDim S2x197x1 ![0, 1] bcast_S2x197_S2x197x1_0_1 (Host.reduceAdd h (constant S_ .f32 0x00000000#32) reducesTo_S2x197x768_S2x197_d2 h_S_)) (broadcastInDim S2x197x1 ![] bcast_S_S2x197x1 (constant S_ .f32 0x44400000#32))))

/-- The number a variance is divided by. -/
def width : FVec F S_ .f32 := subf (constant S_ .f32 0x44400000#32) (sitofp .f32 (constantI S_ 32 0#32))

/-- Each row's variance. -/
def variance (h : FVec F S2x197x768 .f32) : FVec F S2x197x1 .f32 :=
  select (broadcastInDim S2x197x1 ![] bcast_S_S2x197x1 (cmpf .ogt (width (F := F)) (constant S_ .f32 0x00000000#32)))
    (Host.divf (broadcastInDim S2x197x1 ![0, 1] bcast_S2x197_S2x197x1_0_1 (Host.reduceAdd (mulf (centred h) (centred h)) (constant S_ .f32 0x00000000#32) reducesTo_S2x197x768_S2x197_d2 h_S_)) (broadcastInDim S2x197x1 ![] bcast_S_S2x197x1 (width (F := F))))
    (broadcastInDim S2x197x1 ![] bcast_S_S2x197x1 (constant S_ .f32 0x7FC00000#32))

/-- The normed rows. -/
def normed (h : FVec F S2x197x768 .f32) (g b : FVec F S768 .f32) : FVec F S394x768 .f32 :=
  shapeCast S394x768 (addf (mulf (Host.divf (centred h) (broadcastInDim S2x197x768 ![0, 1, 2] bcast_S2x197x1_S2x197x768_0_1_2
      (Host.sqrt (addf (variance h) (broadcastInDim S2x197x1 ![] bcast_S_S2x197x1 (constant S_ .f32 0x358637BD#32))))))
      (broadcastInDim S2x197x768 ![0, 1, 2] bcast_S1x1x768_S2x197x768_0_1_2 (broadcastInDim S1x1x768 ![2] bcast_S768_S1x1x768_2 g)))
    (broadcastInDim S2x197x768 ![0, 1, 2] bcast_S1x1x768_S2x197x768_0_1_2 (broadcastInDim S1x1x768 ![2] bcast_S768_S1x1x768_2 b))) shapeCasts_S2x197x768_S394x768

/-- The logits. -/
def logits (x : FVec F S394x768 .f32) (w : FVec F S768x8 .f32) : FVec F S394x8 .f32 :=
  Host.dotGeneral dot_S394x768_S768x8_S394x8_1_0_0_1_n_n none x w

/-- A number a row beside each of the row's eight. -/
def wide (x : FVec F S394 .f32) : FVec F S394x8 .f32 :=
  broadcastInDim S394x8 ![0, 1] bcast_S394x1_S394x8_0_1 (broadcastInDim S394x1 ![0] bcast_S394_S394x1_0 x)

/-- A row's sum. -/
def rowSum (x : FVec F S394x8 .f32) : FVec F S394 .f32 :=
  Host.reduceAdd x (constant S_ .f32 0x00000000#32) reducesTo_S394x8_S394_d1 h_S_

/-- The exponentials of the logits less the row's greatest. -/
def expo (l : FVec F S394x8 .f32) : FVec F S394x8 .f32 :=
  Host.exp (subf l (wide (maximumf (broadcastInDim S394 ![] bcast_S_S394 (constant S_ .f32 0xFF800000#32))
    (Host.reduce FloatOps.maximumf l (constant S_ .f32 0xFF800000#32) reducesTo_S394x8_S394_d1 h_S_))))

/-- The softmax of the logits. -/
def probs (l : FVec F S394x8 .f32) : FVec F S394x8 .f32 := Host.divf (expo l) (wide (rowSum (expo l)))

/-- The index of each row's greatest. -/
def argmax (p : FVec F S394x8 .f32) : IVec S394 32 := fun j =>
  (Host.argReduce reducer_argmax_f32_i32 p (iotaInDim S394x8 32 1) (constant S_ .f32 0xFF800000#32) (constantI S_ 32 0#32) reducesTo_S394x8_S394_d1 h_S_ j).2

/-- One at an index and zero elsewhere, over the eight experts. -/
def hot (i : IVec S394 32) : FVec F S394x8 .f32 :=
  uitofp .f32 (cmpi .eq (broadcastInDim S394x8 ![0, 1] bcast_S394x1_S394x8_0_1 (broadcastInDim S394x1 ![0] bcast_S394_S394x1_0 i))
    (broadcastInDim S394x8 ![0, 1] bcast_S1x8_S394x8_0_1 (iotaInDim S1x8 32 1)))

/-- The logits with the first choice put out of the way. -/
def masked (h : FVec F S394x8 .f32) (l : FVec F S394x8 .f32) : FVec F S394x8 .f32 :=
  select (cmpf .ogt h (broadcastInDim S394x8 ![] bcast_S_S394x8 (constant S_ .f32 0x00000000#32)))
    (broadcastInDim S394x8 ![] bcast_S_S394x8 (constant S_ .f32 0xCE6E6B28#32)) l

/-- How many rows above a row, without it, chose each expert. -/
def before (h : FVec F S394x8 .f32) : FVec F S394x8 .f32 :=
  subf (Host.reduceWindowAdd ![394, 1] ![1, 1] ![393, 0] ![0, 0] h (broadcastInDim S_ ![] bcast_S_S_ (constant S_ .f32 0x00000000#32)) reduceWindows_S394x8_S394x8_w394s1p393_0_w1s1p0_0 h_S_) h

/-- How many rows chose each expert first. -/
def total (h : FVec F S394x8 .f32) : FVec F S394x8 .f32 :=
  broadcastInDim S394x8 ![0, 1] bcast_S1x8_S394x8_0_1 (broadcastInDim S1x8 ![1] bcast_S8_S1x8_1
    (Host.reduceAdd h (constant S_ .f32 0x00000000#32) reducesTo_S394x8_S8_d0 h_S_))

/-- The place a row takes in its expert's queue. -/
def place (n h : FVec F S394x8 .f32) : IVec S394 32 := fptosi 32 (rowSum (mulf n h))

/-- One where the place is within the expert's capacity. -/
def keep (p : IVec S394 32) : FVec F S394 .f32 := uitofp .f32 (cmpi .slt p (broadcastInDim S394 ![] bcast_S_S394 (constantI S_ 32 122#32)))

/-- The probability of the choice, where it is kept. -/
def raw (p h : FVec F S394x8 .f32) (k : FVec F S394 .f32) : FVec F S394 .f32 := mulf (rowSum (mulf p h)) k

/-- What the two probabilities are divided by. -/
def denom (a b : FVec F S394 .f32) : FVec F S394 .f32 :=
  select (cmpf .ogt (addf a b) (broadcastInDim S394 ![] bcast_S_S394 (constant S_ .f32 0x00000000#32))) (addf a b)
    (broadcastInDim S394 ![] bcast_S_S394 (constant S_ .f32 0x3F800000#32))

/-- One at the place, kept within the capacity, and zero elsewhere, over the slots. -/
def slot (p : IVec S394 32) : FVec F S394x128 .f32 :=
  uitofp .f32 (cmpi .eq (broadcastInDim S394x128 ![0, 1] bcast_S394x1_S394x128_0_1 (broadcastInDim S394x1 ![0] bcast_S394_S394x1_0
      (minsi (broadcastInDim S394 ![] bcast_S_S394 (constantI S_ 32 121#32)) (maxsi (broadcastInDim S394 ![] bcast_S_S394 (constantI S_ 32 0#32)) p))))
    (broadcastInDim S394x128 ![0, 1] bcast_S1x128_S394x128_0_1 (iotaInDim S1x128 32 1)))

/-- A choice times its weight, expert first. -/
def across (h : FVec F S394x8 .f32) (w : FVec F S394 .f32) : FVec F S8x394x1 .f32 :=
  broadcastInDim S8x394x1 ![0, 1] bcast_S8x394_S8x394x1_0_1 (transpose S8x394 [1, 0] (mulf h (wide w)) transposes_S394x8_S8x394_1_0)

/-- A choice's array over expert, row and slot. -/
def spread (s : FVec F S394x128 .f32) (h : FVec F S394x8 .f32) (w : FVec F S394 .f32) : FVec F S8x394x128 .f32 :=
  mulf (broadcastInDim S8x394x128 ![0, 1, 2] bcast_S8x394x1_S8x394x128_0_1_2 (across h w))
    (broadcastInDim S8x394x128 ![0, 1, 2] bcast_S1x394x128_S8x394x128_0_1_2 (broadcastInDim S1x394x128 ![1, 2] bcast_S394x128_S1x394x128_1_2 s))

/-! ### The operations -/

/-- The norm and the logits. -/
abbrev opsA : List (HloOp τ sig (Elt F)) :=
  [ nullary main_cst (constant S_ .f32 0x00000000#32),
    binary main_arg0 main_cst main_v0 ((fun x v => Host.reduceAdd x v reducesTo_S2x197x768_S2x197_d2 h_S_) : (⟨S2x197x768, .f32⟩ : BufTy).Contents (Elt F) → (⟨S_, .f32⟩ : BufTy).Contents (Elt F) → (⟨S2x197, .f32⟩ : BufTy).Contents (Elt F)),
    unary main_v0 main_v1 (broadcastInDim S2x197x1 ![0, 1] bcast_S2x197_S2x197x1_0_1 : (⟨S2x197, .f32⟩ : BufTy).Contents (Elt F) → (⟨S2x197x1, .f32⟩ : BufTy).Contents (Elt F)),
    nullary main_cst_0 (constant S_ .f32 0x44400000#32),
    unary main_cst_0 main_v2 (broadcastInDim S2x197x1 ![] bcast_S_S2x197x1 : (⟨S_, .f32⟩ : BufTy).Contents (Elt F) → (⟨S2x197x1, .f32⟩ : BufTy).Contents (Elt F)),
    binary main_v1 main_v2 main_v3 (Host.divf : (⟨S2x197x1, .f32⟩ : BufTy).Contents (Elt F) → (⟨S2x197x1, .f32⟩ : BufTy).Contents (Elt F) → (⟨S2x197x1, .f32⟩ : BufTy).Contents (Elt F)),
    nullary main_c (constantI S_ 32 0#32),
    TRef.nullary (TRef.of (T := ⟨S_, .f32⟩) main_call0_cst) (constant S_ .f32 0x00000000#32),
    TRef.binary (TRef.of (T := ⟨S2x197x768, .f32⟩) main_arg0) (TRef.of (T := ⟨S_, .f32⟩) main_call0_cst) (TRef.of (T := ⟨S2x197, .f32⟩) main_call0_v0) (fun x v => Host.reduceAdd x v reducesTo_S2x197x768_S2x197_d2 h_S_),
    TRef.unary (TRef.of (T := ⟨S2x197, .f32⟩) main_call0_v0) (TRef.of (T := ⟨S2x197x1, .f32⟩) main_call0_v1) (broadcastInDim S2x197x1 ![0, 1] bcast_S2x197_S2x197x1_0_1),
    TRef.nullary (TRef.of (T := ⟨S_, .f32⟩) main_call0_cst_0) (constant S_ .f32 0x44400000#32),
    TRef.unary (TRef.of (T := ⟨S_, .f32⟩) main_call0_cst_0) (TRef.of (T := ⟨S2x197x1, .f32⟩) main_call0_v2) (broadcastInDim S2x197x1 ![] bcast_S_S2x197x1),
    TRef.binary (TRef.of (T := ⟨S2x197x1, .f32⟩) main_call0_v1) (TRef.of (T := ⟨S2x197x1, .f32⟩) main_call0_v2) (TRef.of (T := ⟨S2x197x1, .f32⟩) main_call0_v3) Host.divf,
    TRef.unary (TRef.of (T := ⟨S2x197x1, .f32⟩) main_call0_v3) (TRef.of (T := ⟨S2x197x768, .f32⟩) main_call0_v4) (broadcastInDim S2x197x768 ![0, 1, 2] bcast_S2x197x1_S2x197x768_0_1_2),
    TRef.binary (TRef.of (T := ⟨S2x197x768, .f32⟩) main_arg0) (TRef.of (T := ⟨S2x197x768, .f32⟩) main_call0_v4) (TRef.of (T := ⟨S2x197x768, .f32⟩) main_call0_v5) subf,
    TRef.binary (TRef.of (T := ⟨S2x197x768, .f32⟩) main_call0_v5) (TRef.of (T := ⟨S2x197x768, .f32⟩) main_call0_v5) (TRef.of (T := ⟨S2x197x768, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x44400000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S2x197x768, .f32⟩) main_call0_v6) (TRef.of (T := ⟨S_, .f32⟩) main_call0_cst_2) (TRef.of (T := ⟨S2x197, .f32⟩) main_call0_v9) (fun x v => Host.reduceAdd x v reducesTo_S2x197x768_S2x197_d2 h_S_),
    TRef.unary (TRef.of (T := ⟨S2x197, .f32⟩) main_call0_v9) (TRef.of (T := ⟨S2x197x1, .f32⟩) main_call0_v10) (broadcastInDim S2x197x1 ![0, 1] bcast_S2x197_S2x197x1_0_1),
    TRef.unary (TRef.of (T := ⟨S_, .f32⟩) main_call0_v8) (TRef.of (T := ⟨S2x197x1, .f32⟩) main_call0_v11) (broadcastInDim S2x197x1 ![] bcast_S_S2x197x1),
    TRef.binary (TRef.of (T := ⟨S2x197x1, .f32⟩) main_call0_v10) (TRef.of (T := ⟨S2x197x1, .f32⟩) main_call0_v11) (TRef.of (T := ⟨S2x197x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S2x197x1, .f32⟩) main_call0_call0_v1) (broadcastInDim S2x197x1 ![] bcast_S_S2x197x1),
    TRef.ternary (TRef.of (T := ⟨S_, .i1⟩) main_call0_v13) (TRef.of (T := ⟨S2x197x1, .f32⟩) main_call0_v12) (TRef.of (T := ⟨S2x197x1, .f32⟩) main_call0_call0_v1) (TRef.of (T := ⟨S2x197x1, .f32⟩) main_v4) (fun p a b => select (broadcastInDim S2x197x1 ![] bcast_S_S2x197x1 p) a b),
    unary main_v3 main_v5 (broadcastInDim S2x197x768 ![0, 1, 2] bcast_S2x197x1_S2x197x768_0_1_2 : (⟨S2x197x1, .f32⟩ : BufTy).Contents (Elt F) → (⟨S2x197x768, .f32⟩ : BufTy).Contents (Elt F)),
    binary main_arg0 main_v5 main_v6 (subf : (⟨S2x197x768, .f32⟩ : BufTy).Contents (Elt F) → (⟨S2x197x768, .f32⟩ : BufTy).Contents (Elt F) → (⟨S2x197x768, .f32⟩ : BufTy).Contents (Elt F)),
    nullary main_cst_1 (constant S_ .f32 0x358637BD#32),
    unary main_cst_1 main_v7 (broadcastInDim S2x197x1 ![] bcast_S_S2x197x1 : (⟨S_, .f32⟩ : BufTy).Contents (Elt F) → (⟨S2x197x1, .f32⟩ : BufTy).Contents (Elt F)),
    binary main_v4 main_v7 main_v8 (addf : (⟨S2x197x1, .f32⟩ : BufTy).Contents (Elt F) → (⟨S2x197x1, .f32⟩ : BufTy).Contents (Elt F) → (⟨S2x197x1, .f32⟩ : BufTy).Contents (Elt F)),
    unary main_v8 main_v9 (Host.sqrt : (⟨S2x197x1, .f32⟩ : BufTy).Contents (Elt F) → (⟨S2x197x1, .f32⟩ : BufTy).Contents (Elt F)),
    unary main_v9 main_v10 (broadcastInDim S2x197x768 ![0, 1, 2] bcast_S2x197x1_S2x197x768_0_1_2 : (⟨S2x197x1, .f32⟩ : BufTy).Contents (Elt F) → (⟨S2x197x768, .f32⟩ : BufTy).Contents (Elt F)),
    binary main_v6 main_v10 main_v11 (Host.divf : (⟨S2x197x768, .f32⟩ : BufTy).Contents (Elt F) → (⟨S2x197x768, .f32⟩ : BufTy).Contents (Elt F) → (⟨S2x197x768, .f32⟩ : BufTy).Contents (Elt F)),
    unary main_arg2 main_v12 (broadcastInDim S1x1x768 ![2] bcast_S768_S1x1x768_2 : (⟨S768, .f32⟩ : BufTy).Contents (Elt F) → (⟨S1x1x768, .f32⟩ : BufTy).Contents (Elt F)),
    unary main_v12 main_v13 (broadcastInDim S2x197x768 ![0, 1, 2] bcast_S1x1x768_S2x197x768_0_1_2 : (⟨S1x1x768, .f32⟩ : BufTy).Contents (Elt F) → (⟨S2x197x768, .f32⟩ : BufTy).Contents (Elt F)),
    binary main_v11 main_v13 main_v14 (mulf : (⟨S2x197x768, .f32⟩ : BufTy).Contents (Elt F) → (⟨S2x197x768, .f32⟩ : BufTy).Contents (Elt F) → (⟨S2x197x768, .f32⟩ : BufTy).Contents (Elt F)),
    unary main_arg3 main_v15 (broadcastInDim S1x1x768 ![2] bcast_S768_S1x1x768_2 : (⟨S768, .f32⟩ : BufTy).Contents (Elt F) → (⟨S1x1x768, .f32⟩ : BufTy).Contents (Elt F)),
    unary main_v15 main_v16 (broadcastInDim S2x197x768 ![0, 1, 2] bcast_S1x1x768_S2x197x768_0_1_2 : (⟨S1x1x768, .f32⟩ : BufTy).Contents (Elt F) → (⟨S2x197x768, .f32⟩ : BufTy).Contents (Elt F)),
    binary main_v14 main_v16 main_v17 (addf : (⟨S2x197x768, .f32⟩ : BufTy).Contents (Elt F) → (⟨S2x197x768, .f32⟩ : BufTy).Contents (Elt F) → (⟨S2x197x768, .f32⟩ : BufTy).Contents (Elt F)),
    reshape main_v17 main_v18 (rfl : (.f32 : EltTy) = .f32) shapeCasts_S2x197x768_S394x768,
    binary main_v18 main_arg1 main_v19 ((fun l r => Host.dotGeneral dot_S394x768_S768x8_S394x8_1_0_0_1_n_n none l r) : (⟨S394x768, .f32⟩ : BufTy).Contents (Elt F) → (⟨S768x8, .f32⟩ : BufTy).Contents (Elt F) → (⟨S394x8, .f32⟩ : BufTy).Contents (Elt F)) ]

/-- The buffers that group writes. -/
abbrev wrA : List (Ref sig .tc) := [main_cst, main_v0, main_v1, main_cst_0, main_v2, main_v3, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4, main_v5, main_v6, main_cst_1, main_v7, main_v8, main_v9, main_v10, main_v11, main_v12, main_v13, main_v14, main_v15, main_v16, main_v17, main_v18, main_v19]

/-- The softmax and the first choice. -/
abbrev opsB : List (HloOp τ sig (Elt F)) :=
  [ nullary main_cst_2 (constant S_ .f32 0xFF800000#32),
    binary main_v19 main_cst_2 main_v20 ((fun x v => Host.reduce FloatOps.maximumf x v reducesTo_S394x8_S394_d1 h_S_) : (⟨S394x8, .f32⟩ : BufTy).Contents (Elt F) → (⟨S_, .f32⟩ : BufTy).Contents (Elt F) → (⟨S394, .f32⟩ : BufTy).Contents (Elt F)),
    nullary main_cst_3 (constant S_ .f32 0xFF800000#32),
    unary main_cst_3 main_v21 (broadcastInDim S394 ![] bcast_S_S394 : (⟨S_, .f32⟩ : BufTy).Contents (Elt F) → (⟨S394, .f32⟩ : BufTy).Contents (Elt F)),
    binary main_v21 main_v20 main_v22 (maximumf : (⟨S394, .f32⟩ : BufTy).Contents (Elt F) → (⟨S394, .f32⟩ : BufTy).Contents (Elt F) → (⟨S394, .f32⟩ : BufTy).Contents (Elt F)),
    unary main_v22 main_v23 (broadcastInDim S394x1 ![0] bcast_S394_S394x1_0 : (⟨S394, .f32⟩ : BufTy).Contents (Elt F) → (⟨S394x1, .f32⟩ : BufTy).Contents (Elt F)),
    unary main_v23 main_v24 (broadcastInDim S394x8 ![0, 1] bcast_S394x1_S394x8_0_1 : (⟨S394x1, .f32⟩ : BufTy).Contents (Elt F) → (⟨S394x8, .f32⟩ : BufTy).Contents (Elt F)),
    binary main_v19 main_v24 main_v25 (subf : (⟨S394x8, .f32⟩ : BufTy).Contents (Elt F) → (⟨S394x8, .f32⟩ : BufTy).Contents (Elt F) → (⟨S394x8, .f32⟩ : BufTy).Contents (Elt F)),
    unary main_v25 main_v26 (Host.exp : (⟨S394x8, .f32⟩ : BufTy).Contents (Elt F) → (⟨S394x8, .f32⟩ : BufTy).Contents (Elt F)),
    nullary main_cst_4 (constant S_ .f32 0x00000000#32),
    binary main_v26 main_cst_4 main_v27 ((fun x v => Host.reduceAdd x v reducesTo_S394x8_S394_d1 h_S_) : (⟨S394x8, .f32⟩ : BufTy).Contents (Elt F) → (⟨S_, .f32⟩ : BufTy).Contents (Elt F) → (⟨S394, .f32⟩ : BufTy).Contents (Elt F)),
    unary main_v27 main_v28 (broadcastInDim S394x1 ![0] bcast_S394_S394x1_0 : (⟨S394, .f32⟩ : BufTy).Contents (Elt F) → (⟨S394x1, .f32⟩ : BufTy).Contents (Elt F)),
    unary main_v28 main_v29 (broadcastInDim S394x8 ![0, 1] bcast_S394x1_S394x8_0_1 : (⟨S394x1, .f32⟩ : BufTy).Contents (Elt F) → (⟨S394x8, .f32⟩ : BufTy).Contents (Elt F)),
    binary main_v26 main_v29 main_v30 (Host.divf : (⟨S394x8, .f32⟩ : BufTy).Contents (Elt F) → (⟨S394x8, .f32⟩ : BufTy).Contents (Elt F) → (⟨S394x8, .f32⟩ : BufTy).Contents (Elt F)),
    TRef.nullary (TRef.of (T := ⟨S394x8, .i32⟩) main_call1_v0) (iotaInDim S394x8 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S394x8, .f32⟩) main_v30) (TRef.of (T := ⟨S394x8, .i32⟩) main_call1_v0) (TRef.of (T := ⟨S_, .f32⟩) main_call1_cst) (TRef.of (T := ⟨S_, .i32⟩) main_call1_c) (TRef.of (T := ⟨S394, .f32⟩) main_call1_v1_0) (fun x y u v j => (Host.argReduce reducer_argmax_f32_i32 x y u v reducesTo_S394x8_S394_d1 h_S_ j).1),
    TRef.quaternary (TRef.of (T := ⟨S394x8, .f32⟩) main_v30) (TRef.of (T := ⟨S394x8, .i32⟩) main_call1_v0) (TRef.of (T := ⟨S_, .f32⟩) main_call1_cst) (TRef.of (T := ⟨S_, .i32⟩) main_call1_c) (TRef.of (T := ⟨S394, .i32⟩) main_v31) (fun x y u v j => (Host.argReduce reducer_argmax_f32_i32 x y u v reducesTo_S394x8_S394_d1 h_S_ j).2),
    TRef.unary (TRef.of (T := ⟨S394, .i32⟩) main_v31) (TRef.of (T := ⟨S394x1, .i32⟩) main_call2_v0) (broadcastInDim S394x1 ![0] bcast_S394_S394x1_0),
    TRef.nullary (TRef.of (T := ⟨S1x8, .i32⟩) main_call2_v1) (iotaInDim S1x8 32 1),
    TRef.unary (TRef.of (T := ⟨S394x1, .i32⟩) main_call2_v0) (TRef.of (T := ⟨S394x8, .i32⟩) main_call2_v2) (broadcastInDim S394x8 ![0, 1] bcast_S394x1_S394x8_0_1),
    TRef.unary (TRef.of (T := ⟨S1x8, .i32⟩) main_call2_v1) (TRef.of (T := ⟨S394x8, .i32⟩) main_call2_v3) (broadcastInDim S394x8 ![0, 1] bcast_S1x8_S394x8_0_1),
    TRef.binary (TRef.of (T := ⟨S394x8, .i32⟩) main_call2_v2) (TRef.of (T := ⟨S394x8, .i32⟩) main_call2_v3) (TRef.of (T := ⟨S394x8, .i1⟩) main_call2_v4) (cmpi .eq),
    TRef.unary (TRef.of (T := ⟨S394x8, .i1⟩) main_call2_v4) (TRef.of (T := ⟨S394x8, .f32⟩) main_v32) (uitofp .f32) ]

/-- The buffers that group writes. -/
abbrev wrB : List (Ref sig .tc) := [main_cst_2, main_v20, main_cst_3, main_v21, main_v22, main_v23, main_v24, main_v25, main_v26, main_cst_4, main_v27, main_v28, main_v29, main_v30, main_call1_v0, main_call1_cst, main_call1_c, main_call1_v1_0, main_v31, main_call2_v0, main_call2_v1, main_call2_v2, main_call2_v3, main_call2_v4, main_v32]

/-- The second choice. -/
abbrev opsC : List (HloOp τ sig (Elt F)) :=
  [ nullary main_cst_5 (constant S_ .f32 0x00000000#32),
    unary main_cst_5 main_v33 (broadcastInDim S394x8 ![] bcast_S_S394x8 : (⟨S_, .f32⟩ : BufTy).Contents (Elt F) → (⟨S394x8, .f32⟩ : BufTy).Contents (Elt F)),
    binary main_v32 main_v33 main_v34 (cmpf .ogt : (⟨S394x8, .f32⟩ : BufTy).Contents (Elt F) → (⟨S394x8, .f32⟩ : BufTy).Contents (Elt F) → (⟨S394x8, .i1⟩ : BufTy).Contents (Elt F)),
    nullary main_cst_6 (constant S_ .f32 0xCE6E6B28#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S394x8, .f32⟩) main_call3_v1) (broadcastInDim S394x8 ![] bcast_S_S394x8),
    TRef.ternary (TRef.of (T := ⟨S394x8, .i1⟩) main_v34) (TRef.of (T := ⟨S394x8, .f32⟩) main_call3_v1) (TRef.of (T := ⟨S394x8, .f32⟩) main_v19) (TRef.of (T := ⟨S394x8, .f32⟩) main_v35) select,
    TRef.nullary (TRef.of (T := ⟨S394x8, .i32⟩) main_call4_v0) (iotaInDim S394x8 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S394x8, .f32⟩) main_v35) (TRef.of (T := ⟨S394x8, .i32⟩) main_call4_v0) (TRef.of (T := ⟨S_, .f32⟩) main_call4_cst) (TRef.of (T := ⟨S_, .i32⟩) main_call4_c) (TRef.of (T := ⟨S394, .f32⟩) main_call4_v1_0) (fun x y u v j => (Host.argReduce reducer_argmax_f32_i32 x y u v reducesTo_S394x8_S394_d1 h_S_ j).1),
    TRef.quaternary (TRef.of (T := ⟨S394x8, .f32⟩) main_v35) (TRef.of (T := ⟨S394x8, .i32⟩) main_call4_v0) (TRef.of (T := ⟨S_, .f32⟩) main_call4_cst) (TRef.of (T := ⟨S_, .i32⟩) main_call4_c) (TRef.of (T := ⟨S394, .i32⟩) main_v36) (fun x y u v j => (Host.argReduce reducer_argmax_f32_i32 x y u v reducesTo_S394x8_S394_d1 h_S_ j).2),
    TRef.unary (TRef.of (T := ⟨S394, .i32⟩) main_v36) (TRef.of (T := ⟨S394x1, .i32⟩) main_call5_v0) (broadcastInDim S394x1 ![0] bcast_S394_S394x1_0),
    TRef.nullary (TRef.of (T := ⟨S1x8, .i32⟩) main_call5_v1) (iotaInDim S1x8 32 1),
    TRef.unary (TRef.of (T := ⟨S394x1, .i32⟩) main_call5_v0) (TRef.of (T := ⟨S394x8, .i32⟩) main_call5_v2) (broadcastInDim S394x8 ![0, 1] bcast_S394x1_S394x8_0_1),
    TRef.unary (TRef.of (T := ⟨S1x8, .i32⟩) main_call5_v1) (TRef.of (T := ⟨S394x8, .i32⟩) main_call5_v3) (broadcastInDim S394x8 ![0, 1] bcast_S1x8_S394x8_0_1),
    TRef.binary (TRef.of (T := ⟨S394x8, .i32⟩) main_call5_v2) (TRef.of (T := ⟨S394x8, .i32⟩) main_call5_v3) (TRef.of (T := ⟨S394x8, .i1⟩) main_call5_v4) (cmpi .eq),
    TRef.unary (TRef.of (T := ⟨S394x8, .i1⟩) main_call5_v4) (TRef.of (T := ⟨S394x8, .f32⟩) main_v37) (uitofp .f32) ]

/-- The buffers that group writes. -/
abbrev wrC : List (Ref sig .tc) := [main_cst_5, main_v33, main_v34, main_cst_6, main_call3_v0, main_call3_v1, main_v35, main_call4_v0, main_call4_cst, main_call4_c, main_call4_v1_0, main_v36, main_call5_v0, main_call5_v1, main_call5_v2, main_call5_v3, main_call5_v4, main_v37]

/-- The counts and the first place. -/
abbrev opsD : List (HloOp τ sig (Elt F)) :=
  [ TRef.nullary (TRef.of (T := ⟨S_, .f32⟩) main_call6_call0_cst) (constant S_ .f32 0x00000000#32),
    TRef.unary (TRef.of (T := ⟨S_, .f32⟩) main_call6_call0_cst) (TRef.of (T := ⟨S_, .f32⟩) main_call6_call0_v0) (broadcastInDim S_ ![] bcast_S_S_),
    TRef.binary (TRef.of (T := ⟨S394x8, .f32⟩) main_v32) (TRef.of (T := ⟨S_, .f32⟩) main_call6_call0_v0) (TRef.of (T := ⟨S394x8, .f32⟩) main_v38) (fun x v => Host.reduceWindowAdd ![394, 1] ![1, 1] ![393, 0] ![0, 0] x v reduceWindows_S394x8_S394x8_w394s1p393_0_w1s1p0_0 h_S_),
    binary main_v38 main_v32 main_v39 (subf : (⟨S394x8, .f32⟩ : BufTy).Contents (Elt F) → (⟨S394x8, .f32⟩ : BufTy).Contents (Elt F) → (⟨S394x8, .f32⟩ : BufTy).Contents (Elt F)),
    TRef.nullary (TRef.of (T := ⟨S_, .f32⟩) main_call7_call0_cst) (constant S_ .f32 0x00000000#32),
    TRef.unary (TRef.of (T := ⟨S_, .f32⟩) main_call7_call0_cst) (TRef.of (T := ⟨S_, .f32⟩) main_call7_call0_v0) (broadcastInDim S_ ![] bcast_S_S_),
    TRef.binary (TRef.of (T := ⟨S394x8, .f32⟩) main_v37) (TRef.of (T := ⟨S_, .f32⟩) main_call7_call0_v0) (TRef.of (T := ⟨S394x8, .f32⟩) main_v40) (fun x v => Host.reduceWindowAdd ![394, 1] ![1, 1] ![393, 0] ![0, 0] x v reduceWindows_S394x8_S394x8_w394s1p393_0_w1s1p0_0 h_S_),
    binary main_v40 main_v37 main_v41 (subf : (⟨S394x8, .f32⟩ : BufTy).Contents (Elt F) → (⟨S394x8, .f32⟩ : BufTy).Contents (Elt F) → (⟨S394x8, .f32⟩ : BufTy).Contents (Elt F)),
    nullary main_cst_7 (constant S_ .f32 0x00000000#32),
    binary main_v32 main_cst_7 main_v42 ((fun x v => Host.reduceAdd x v reducesTo_S394x8_S8_d0 h_S_) : (⟨S394x8, .f32⟩ : BufTy).Contents (Elt F) → (⟨S_, .f32⟩ : BufTy).Contents (Elt F) → (⟨S8, .f32⟩ : BufTy).Contents (Elt F)),
    unary main_v42 main_v43 (broadcastInDim S1x8 ![1] bcast_S8_S1x8_1 : (⟨S8, .f32⟩ : BufTy).Contents (Elt F) → (⟨S1x8, .f32⟩ : BufTy).Contents (Elt F)),
    unary main_v43 main_v44 (broadcastInDim S394x8 ![0, 1] bcast_S1x8_S394x8_0_1 : (⟨S1x8, .f32⟩ : BufTy).Contents (Elt F) → (⟨S394x8, .f32⟩ : BufTy).Contents (Elt F)),
    binary main_v41 main_v44 main_v45 (addf : (⟨S394x8, .f32⟩ : BufTy).Contents (Elt F) → (⟨S394x8, .f32⟩ : BufTy).Contents (Elt F) → (⟨S394x8, .f32⟩ : BufTy).Contents (Elt F)),
    binary main_v39 main_v32 main_v46 (mulf : (⟨S394x8, .f32⟩ : BufTy).Contents (Elt F) → (⟨S394x8, .f32⟩ : BufTy).Contents (Elt F) → (⟨S394x8, .f32⟩ : BufTy).Contents (Elt F)),
    nullary main_cst_8 (constant S_ .f32 0x00000000#32),
    binary main_v46 main_cst_8 main_v47 ((fun x v => Host.reduceAdd x v reducesTo_S394x8_S394_d1 h_S_) : (⟨S394x8, .f32⟩ : BufTy).Contents (Elt F) → (⟨S_, .f32⟩ : BufTy).Contents (Elt F) → (⟨S394, .f32⟩ : BufTy).Contents (Elt F)),
    unary main_v47 main_v48 (fptosi 32 : (⟨S394, .f32⟩ : BufTy).Contents (Elt F) → (⟨S394, .i32⟩ : BufTy).Contents (Elt F)) ]

/-- The buffers that group writes. -/
abbrev wrD : List (Ref sig .tc) := [main_call6_call0_cst, main_call6_call0_v0, main_v38, main_v39, main_call7_call0_cst, main_call7_call0_v0, main_v40, main_v41, main_cst_7, main_v42, main_v43, main_v44, main_v45, main_v46, main_cst_8, main_v47, main_v48]

/-- The second place and the weights. -/
abbrev opsE : List (HloOp τ sig (Elt F)) :=
  [ binary main_v45 main_v37 main_v49 (mulf : (⟨S394x8, .f32⟩ : BufTy).Contents (Elt F) → (⟨S394x8, .f32⟩ : BufTy).Contents (Elt F) → (⟨S394x8, .f32⟩ : BufTy).Contents (Elt F)),
    nullary main_cst_9 (constant S_ .f32 0x00000000#32),
    binary main_v49 main_cst_9 main_v50 ((fun x v => Host.reduceAdd x v reducesTo_S394x8_S394_d1 h_S_) : (⟨S394x8, .f32⟩ : BufTy).Contents (Elt F) → (⟨S_, .f32⟩ : BufTy).Contents (Elt F) → (⟨S394, .f32⟩ : BufTy).Contents (Elt F)),
    unary main_v50 main_v51 (fptosi 32 : (⟨S394, .f32⟩ : BufTy).Contents (Elt F) → (⟨S394, .i32⟩ : BufTy).Contents (Elt F)),
    nullary main_c_10 (constantI S_ 32 122#32),
    unary main_c_10 main_v52 (broadcastInDim S394 ![] bcast_S_S394 : (⟨S_, .i32⟩ : BufTy).Contents (Elt F) → (⟨S394, .i32⟩ : BufTy).Contents (Elt F)),
    binary main_v48 main_v52 main_v53 (cmpi .slt : (⟨S394, .i32⟩ : BufTy).Contents (Elt F) → (⟨S394, .i32⟩ : BufTy).Contents (Elt F) → (⟨S394, .i1⟩ : BufTy).Contents (Elt F)),
    unary main_v53 main_v54 (uitofp .f32 : (⟨S394, .i1⟩ : BufTy).Contents (Elt F) → (⟨S394, .f32⟩ : BufTy).Contents (Elt F)),
    nullary main_c_11 (constantI S_ 32 122#32),
    unary main_c_11 main_v55 (broadcastInDim S394 ![] bcast_S_S394 : (⟨S_, .i32⟩ : BufTy).Contents (Elt F) → (⟨S394, .i32⟩ : BufTy).Contents (Elt F)),
    binary main_v51 main_v55 main_v56 (cmpi .slt : (⟨S394, .i32⟩ : BufTy).Contents (Elt F) → (⟨S394, .i32⟩ : BufTy).Contents (Elt F) → (⟨S394, .i1⟩ : BufTy).Contents (Elt F)),
    unary main_v56 main_v57 (uitofp .f32 : (⟨S394, .i1⟩ : BufTy).Contents (Elt F) → (⟨S394, .f32⟩ : BufTy).Contents (Elt F)),
    binary main_v30 main_v32 main_v58 (mulf : (⟨S394x8, .f32⟩ : BufTy).Contents (Elt F) → (⟨S394x8, .f32⟩ : BufTy).Contents (Elt F) → (⟨S394x8, .f32⟩ : BufTy).Contents (Elt F)),
    nullary main_cst_12 (constant S_ .f32 0x00000000#32),
    binary main_v58 main_cst_12 main_v59 ((fun x v => Host.reduceAdd x v reducesTo_S394x8_S394_d1 h_S_) : (⟨S394x8, .f32⟩ : BufTy).Contents (Elt F) → (⟨S_, .f32⟩ : BufTy).Contents (Elt F) → (⟨S394, .f32⟩ : BufTy).Contents (Elt F)),
    binary main_v59 main_v54 main_v60 (mulf : (⟨S394, .f32⟩ : BufTy).Contents (Elt F) → (⟨S394, .f32⟩ : BufTy).Contents (Elt F) → (⟨S394, .f32⟩ : BufTy).Contents (Elt F)),
    binary main_v30 main_v37 main_v61 (mulf : (⟨S394x8, .f32⟩ : BufTy).Contents (Elt F) → (⟨S394x8, .f32⟩ : BufTy).Contents (Elt F) → (⟨S394x8, .f32⟩ : BufTy).Contents (Elt F)),
    nullary main_cst_13 (constant S_ .f32 0x00000000#32),
    binary main_v61 main_cst_13 main_v62 ((fun x v => Host.reduceAdd x v reducesTo_S394x8_S394_d1 h_S_) : (⟨S394x8, .f32⟩ : BufTy).Contents (Elt F) → (⟨S_, .f32⟩ : BufTy).Contents (Elt F) → (⟨S394, .f32⟩ : BufTy).Contents (Elt F)),
    binary main_v62 main_v57 main_v63 (mulf : (⟨S394, .f32⟩ : BufTy).Contents (Elt F) → (⟨S394, .f32⟩ : BufTy).Contents (Elt F) → (⟨S394, .f32⟩ : BufTy).Contents (Elt F)),
    binary main_v60 main_v63 main_v64 (addf : (⟨S394, .f32⟩ : BufTy).Contents (Elt F) → (⟨S394, .f32⟩ : BufTy).Contents (Elt F) → (⟨S394, .f32⟩ : BufTy).Contents (Elt F)),
    nullary main_cst_14 (constant S_ .f32 0x00000000#32),
    unary main_cst_14 main_v65 (broadcastInDim S394 ![] bcast_S_S394 : (⟨S_, .f32⟩ : BufTy).Contents (Elt F) → (⟨S394, .f32⟩ : BufTy).Contents (Elt F)),
    binary main_v64 main_v65 main_v66 (cmpf .ogt : (⟨S394, .f32⟩ : BufTy).Contents (Elt F) → (⟨S394, .f32⟩ : BufTy).Contents (Elt F) → (⟨S394, .i1⟩ : BufTy).Contents (Elt F)),
    nullary main_cst_15 (constant S_ .f32 0x3F800000#32),
    TRef.unary (TRef.of (T := ⟨S_, .f32⟩) main_cst_15) (TRef.of (T := ⟨S_, .f32⟩) main_call8_v0) id,
    TRef.unary (TRef.of (T := ⟨S_, .f32⟩) main_call8_v0) (TRef.of (T := ⟨S394, .f32⟩) main_call8_v1) (broadcastInDim S394 ![] bcast_S_S394),
    TRef.ternary (TRef.of (T := ⟨S394, .i1⟩) main_v66) (TRef.of (T := ⟨S394, .f32⟩) main_v64) (TRef.of (T := ⟨S394, .f32⟩) main_call8_v1) (TRef.of (T := ⟨S394, .f32⟩) main_v67) select,
    binary main_v60 main_v67 main_v68 (Host.divf : (⟨S394, .f32⟩ : BufTy).Contents (Elt F) → (⟨S394, .f32⟩ : BufTy).Contents (Elt F) → (⟨S394, .f32⟩ : BufTy).Contents (Elt F)),
    binary main_v63 main_v67 main_v69 (Host.divf : (⟨S394, .f32⟩ : BufTy).Contents (Elt F) → (⟨S394, .f32⟩ : BufTy).Contents (Elt F) → (⟨S394, .f32⟩ : BufTy).Contents (Elt F)) ]

/-- The buffers that group writes. -/
abbrev wrE : List (Ref sig .tc) := [main_v49, main_cst_9, main_v50, main_v51, main_c_10, main_v52, main_v53, main_v54, main_c_11, main_v55, main_v56, main_v57, main_v58, main_cst_12, main_v59, main_v60, main_v61, main_cst_13, main_v62, main_v63, main_v64, main_cst_14, main_v65, main_v66, main_cst_15, main_call8_v0, main_call8_v1, main_v67, main_v68, main_v69]

/-- The slots. -/
abbrev opsF : List (HloOp τ sig (Elt F)) :=
  [ nullary main_c_16 (constantI S_ 32 0#32),
    nullary main_c_17 (constantI S_ 32 121#32),
    TRef.unary (TRef.of (T := ⟨S_, .i32⟩) main_c_16) (TRef.of (T := ⟨S_, .i32⟩) main_call9_v0) id,
    TRef.unary (TRef.of (T := ⟨S_, .i32⟩) main_call9_v0) (TRef.of (T := ⟨S394, .i32⟩) main_call9_v1) (broadcastInDim S394 ![] bcast_S_S394),
    TRef.binary (TRef.of (T := ⟨S394, .i32⟩) main_call9_v1) (TRef.of (T := ⟨S394, .i32⟩) main_v48) (TRef.of (T := ⟨S394, .i32⟩) main_call9_v2) maxsi,
    TRef.unary (TRef.of (T := ⟨S_, .i32⟩) main_c_17) (TRef.of (T := ⟨S_, .i32⟩) main_call9_v3) id,
    TRef.unary (TRef.of (T := ⟨S_, .i32⟩) main_call9_v3) (TRef.of (T := ⟨S394, .i32⟩) main_call9_v4) (broadcastInDim S394 ![] bcast_S_S394),
    TRef.binary (TRef.of (T := ⟨S394, .i32⟩) main_call9_v4) (TRef.of (T := ⟨S394, .i32⟩) main_call9_v2) (TRef.of (T := ⟨S394, .i32⟩) main_v70) minsi,
    nullary main_c_18 (constantI S_ 32 0#32),
    nullary main_c_19 (constantI S_ 32 121#32),
    TRef.unary (TRef.of (T := ⟨S_, .i32⟩) main_c_18) (TRef.of (T := ⟨S_, .i32⟩) main_call10_v0) id,
    TRef.unary (TRef.of (T := ⟨S_, .i32⟩) main_call10_v0) (TRef.of (T := ⟨S394, .i32⟩) main_call10_v1) (broadcastInDim S394 ![] bcast_S_S394),
    TRef.binary (TRef.of (T := ⟨S394, .i32⟩) main_call10_v1) (TRef.of (T := ⟨S394, .i32⟩) main_v51) (TRef.of (T := ⟨S394, .i32⟩) main_call10_v2) maxsi,
    TRef.unary (TRef.of (T := ⟨S_, .i32⟩) main_c_19) (TRef.of (T := ⟨S_, .i32⟩) main_call10_v3) id,
    TRef.unary (TRef.of (T := ⟨S_, .i32⟩) main_call10_v3) (TRef.of (T := ⟨S394, .i32⟩) main_call10_v4) (broadcastInDim S394 ![] bcast_S_S394),
    TRef.binary (TRef.of (T := ⟨S394, .i32⟩) main_call10_v4) (TRef.of (T := ⟨S394, .i32⟩) main_call10_v2) (TRef.of (T := ⟨S394, .i32⟩) main_v71) minsi,
    TRef.unary (TRef.of (T := ⟨S394, .i32⟩) main_v70) (TRef.of (T := ⟨S394x1, .i32⟩) main_call11_v0) (broadcastInDim S394x1 ![0] bcast_S394_S394x1_0),
    TRef.nullary (TRef.of (T := ⟨S1x128, .i32⟩) main_call11_v1) (iotaInDim S1x128 32 1),
    TRef.unary (TRef.of (T := ⟨S394x1, .i32⟩) main_call11_v0) (TRef.of (T := ⟨S394x128, .i32⟩) main_call11_v2) (broadcastInDim S394x128 ![0, 1] bcast_S394x1_S394x128_0_1),
    TRef.unary (TRef.of (T := ⟨S1x128, .i32⟩) main_call11_v1) (TRef.of (T := ⟨S394x128, .i32⟩) main_call11_v3) (broadcastInDim S394x128 ![0, 1] bcast_S1x128_S394x128_0_1),
    TRef.binary (TRef.of (T := ⟨S394x128, .i32⟩) main_call11_v2) (TRef.of (T := ⟨S394x128, .i32⟩) main_call11_v3) (TRef.of (T := ⟨S394x128, .i1⟩) main_call11_v4) (cmpi .eq),
    TRef.unary (TRef.of (T := ⟨S394x128, .i1⟩) main_call11_v4) (TRef.of (T := ⟨S394x128, .f32⟩) main_v72) (uitofp .f32),
    TRef.unary (TRef.of (T := ⟨S394, .i32⟩) main_v71) (TRef.of (T := ⟨S394x1, .i32⟩) main_call12_v0) (broadcastInDim S394x1 ![0] bcast_S394_S394x1_0),
    TRef.nullary (TRef.of (T := ⟨S1x128, .i32⟩) main_call12_v1) (iotaInDim S1x128 32 1),
    TRef.unary (TRef.of (T := ⟨S394x1, .i32⟩) main_call12_v0) (TRef.of (T := ⟨S394x128, .i32⟩) main_call12_v2) (broadcastInDim S394x128 ![0, 1] bcast_S394x1_S394x128_0_1),
    TRef.unary (TRef.of (T := ⟨S1x128, .i32⟩) main_call12_v1) (TRef.of (T := ⟨S394x128, .i32⟩) main_call12_v3) (broadcastInDim S394x128 ![0, 1] bcast_S1x128_S394x128_0_1),
    TRef.binary (TRef.of (T := ⟨S394x128, .i32⟩) main_call12_v2) (TRef.of (T := ⟨S394x128, .i32⟩) main_call12_v3) (TRef.of (T := ⟨S394x128, .i1⟩) main_call12_v4) (cmpi .eq),
    TRef.unary (TRef.of (T := ⟨S394x128, .i1⟩) main_call12_v4) (TRef.of (T := ⟨S394x128, .f32⟩) main_v73) (uitofp .f32) ]

/-- The buffers that group writes. -/
abbrev wrF : List (Ref sig .tc) := [main_c_16, main_c_17, main_call9_v0, main_call9_v1, main_call9_v2, main_call9_v3, main_call9_v4, main_v70, main_c_18, main_c_19, main_call10_v0, main_call10_v1, main_call10_v2, main_call10_v3, main_call10_v4, main_v71, main_call11_v0, main_call11_v1, main_call11_v2, main_call11_v3, main_call11_v4, main_v72, main_call12_v0, main_call12_v1, main_call12_v2, main_call12_v3, main_call12_v4, main_v73]

/-- The dispatch array. -/
abbrev opsG : List (HloOp τ sig (Elt F)) :=
  [ unary main_v54 main_v74 (broadcastInDim S394x1 ![0] bcast_S394_S394x1_0 : (⟨S394, .f32⟩ : BufTy).Contents (Elt F) → (⟨S394x1, .f32⟩ : BufTy).Contents (Elt F)),
    unary main_v74 main_v75 (broadcastInDim S394x8 ![0, 1] bcast_S394x1_S394x8_0_1 : (⟨S394x1, .f32⟩ : BufTy).Contents (Elt F) → (⟨S394x8, .f32⟩ : BufTy).Contents (Elt F)),
    binary main_v32 main_v75 main_v76 (mulf : (⟨S394x8, .f32⟩ : BufTy).Contents (Elt F) → (⟨S394x8, .f32⟩ : BufTy).Contents (Elt F) → (⟨S394x8, .f32⟩ : BufTy).Contents (Elt F)),
    unary main_v76 main_v77 ((transpose S8x394 [1, 0] · transposes_S394x8_S8x394_1_0) : (⟨S394x8, .f32⟩ : BufTy).Contents (Elt F) → (⟨S8x394, .f32⟩ : BufTy).Contents (Elt F)),
    unary main_v77 main_v78 (broadcastInDim S8x394x1 ![0, 1] bcast_S8x394_S8x394x1_0_1 : (⟨S8x394, .f32⟩ : BufTy).Contents (Elt F) → (⟨S8x394x1, .f32⟩ : BufTy).Contents (Elt F)),
    unary main_v72 main_v79 (broadcastInDim S1x394x128 ![1, 2] bcast_S394x128_S1x394x128_1_2 : (⟨S394x128, .f32⟩ : BufTy).Contents (Elt F) → (⟨S1x394x128, .f32⟩ : BufTy).Contents (Elt F)),
    unary main_v78 main_v80 (broadcastInDim S8x394x128 ![0, 1, 2] bcast_S8x394x1_S8x394x128_0_1_2 : (⟨S8x394x1, .f32⟩ : BufTy).Contents (Elt F) → (⟨S8x394x128, .f32⟩ : BufTy).Contents (Elt F)),
    unary main_v79 main_v81 (broadcastInDim S8x394x128 ![0, 1, 2] bcast_S1x394x128_S8x394x128_0_1_2 : (⟨S1x394x128, .f32⟩ : BufTy).Contents (Elt F) → (⟨S8x394x128, .f32⟩ : BufTy).Contents (Elt F)),
    binary main_v80 main_v81 main_v82 (mulf : (⟨S8x394x128, .f32⟩ : BufTy).Contents (Elt F) → (⟨S8x394x128, .f32⟩ : BufTy).Contents (Elt F) → (⟨S8x394x128, .f32⟩ : BufTy).Contents (Elt F)),
    unary main_v57 main_v83 (broadcastInDim S394x1 ![0] bcast_S394_S394x1_0 : (⟨S394, .f32⟩ : BufTy).Contents (Elt F) → (⟨S394x1, .f32⟩ : BufTy).Contents (Elt F)),
    unary main_v83 main_v84 (broadcastInDim S394x8 ![0, 1] bcast_S394x1_S394x8_0_1 : (⟨S394x1, .f32⟩ : BufTy).Contents (Elt F) → (⟨S394x8, .f32⟩ : BufTy).Contents (Elt F)),
    binary main_v37 main_v84 main_v85 (mulf : (⟨S394x8, .f32⟩ : BufTy).Contents (Elt F) → (⟨S394x8, .f32⟩ : BufTy).Contents (Elt F) → (⟨S394x8, .f32⟩ : BufTy).Contents (Elt F)),
    unary main_v85 main_v86 ((transpose S8x394 [1, 0] · transposes_S394x8_S8x394_1_0) : (⟨S394x8, .f32⟩ : BufTy).Contents (Elt F) → (⟨S8x394, .f32⟩ : BufTy).Contents (Elt F)),
    unary main_v86 main_v87 (broadcastInDim S8x394x1 ![0, 1] bcast_S8x394_S8x394x1_0_1 : (⟨S8x394, .f32⟩ : BufTy).Contents (Elt F) → (⟨S8x394x1, .f32⟩ : BufTy).Contents (Elt F)),
    unary main_v73 main_v88 (broadcastInDim S1x394x128 ![1, 2] bcast_S394x128_S1x394x128_1_2 : (⟨S394x128, .f32⟩ : BufTy).Contents (Elt F) → (⟨S1x394x128, .f32⟩ : BufTy).Contents (Elt F)),
    unary main_v87 main_v89 (broadcastInDim S8x394x128 ![0, 1, 2] bcast_S8x394x1_S8x394x128_0_1_2 : (⟨S8x394x1, .f32⟩ : BufTy).Contents (Elt F) → (⟨S8x394x128, .f32⟩ : BufTy).Contents (Elt F)),
    unary main_v88 main_v90 (broadcastInDim S8x394x128 ![0, 1, 2] bcast_S1x394x128_S8x394x128_0_1_2 : (⟨S1x394x128, .f32⟩ : BufTy).Contents (Elt F) → (⟨S8x394x128, .f32⟩ : BufTy).Contents (Elt F)),
    binary main_v89 main_v90 main_v91 (mulf : (⟨S8x394x128, .f32⟩ : BufTy).Contents (Elt F) → (⟨S8x394x128, .f32⟩ : BufTy).Contents (Elt F) → (⟨S8x394x128, .f32⟩ : BufTy).Contents (Elt F)),
    unary main_v68 main_v92 (broadcastInDim S394x1 ![0] bcast_S394_S394x1_0 : (⟨S394, .f32⟩ : BufTy).Contents (Elt F) → (⟨S394x1, .f32⟩ : BufTy).Contents (Elt F)),
    unary main_v92 main_v93 (broadcastInDim S394x8 ![0, 1] bcast_S394x1_S394x8_0_1 : (⟨S394x1, .f32⟩ : BufTy).Contents (Elt F) → (⟨S394x8, .f32⟩ : BufTy).Contents (Elt F)),
    binary main_v32 main_v93 main_v94 (mulf : (⟨S394x8, .f32⟩ : BufTy).Contents (Elt F) → (⟨S394x8, .f32⟩ : BufTy).Contents (Elt F) → (⟨S394x8, .f32⟩ : BufTy).Contents (Elt F)),
    unary main_v94 main_v95 ((transpose S8x394 [1, 0] · transposes_S394x8_S8x394_1_0) : (⟨S394x8, .f32⟩ : BufTy).Contents (Elt F) → (⟨S8x394, .f32⟩ : BufTy).Contents (Elt F)),
    unary main_v95 main_v96 (broadcastInDim S8x394x1 ![0, 1] bcast_S8x394_S8x394x1_0_1 : (⟨S8x394, .f32⟩ : BufTy).Contents (Elt F) → (⟨S8x394x1, .f32⟩ : BufTy).Contents (Elt F)),
    unary main_v72 main_v97 (broadcastInDim S1x394x128 ![1, 2] bcast_S394x128_S1x394x128_1_2 : (⟨S394x128, .f32⟩ : BufTy).Contents (Elt F) → (⟨S1x394x128, .f32⟩ : BufTy).Contents (Elt F)) ]

/-- The buffers that group writes. -/
abbrev wrG : List (Ref sig .tc) := [main_v74, main_v75, main_v76, main_v77, main_v78, main_v79, main_v80, main_v81, main_v82, main_v83, main_v84, main_v85, main_v86, main_v87, main_v88, main_v89, main_v90, main_v91, main_v92, main_v93, main_v94, main_v95, main_v96, main_v97]

/-- The combine array. -/
abbrev opsH : List (HloOp τ sig (Elt F)) :=
  [ unary main_v96 main_v98 (broadcastInDim S8x394x128 ![0, 1, 2] bcast_S8x394x1_S8x394x128_0_1_2 : (⟨S8x394x1, .f32⟩ : BufTy).Contents (Elt F) → (⟨S8x394x128, .f32⟩ : BufTy).Contents (Elt F)),
    unary main_v97 main_v99 (broadcastInDim S8x394x128 ![0, 1, 2] bcast_S1x394x128_S8x394x128_0_1_2 : (⟨S1x394x128, .f32⟩ : BufTy).Contents (Elt F) → (⟨S8x394x128, .f32⟩ : BufTy).Contents (Elt F)),
    binary main_v98 main_v99 main_v100 (mulf : (⟨S8x394x128, .f32⟩ : BufTy).Contents (Elt F) → (⟨S8x394x128, .f32⟩ : BufTy).Contents (Elt F) → (⟨S8x394x128, .f32⟩ : BufTy).Contents (Elt F)),
    unary main_v69 main_v101 (broadcastInDim S394x1 ![0] bcast_S394_S394x1_0 : (⟨S394, .f32⟩ : BufTy).Contents (Elt F) → (⟨S394x1, .f32⟩ : BufTy).Contents (Elt F)),
    unary main_v101 main_v102 (broadcastInDim S394x8 ![0, 1] bcast_S394x1_S394x8_0_1 : (⟨S394x1, .f32⟩ : BufTy).Contents (Elt F) → (⟨S394x8, .f32⟩ : BufTy).Contents (Elt F)),
    binary main_v37 main_v102 main_v103 (mulf : (⟨S394x8, .f32⟩ : BufTy).Contents (Elt F) → (⟨S394x8, .f32⟩ : BufTy).Contents (Elt F) → (⟨S394x8, .f32⟩ : BufTy).Contents (Elt F)),
    unary main_v103 main_v104 ((transpose S8x394 [1, 0] · transposes_S394x8_S8x394_1_0) : (⟨S394x8, .f32⟩ : BufTy).Contents (Elt F) → (⟨S8x394, .f32⟩ : BufTy).Contents (Elt F)),
    unary main_v104 main_v105 (broadcastInDim S8x394x1 ![0, 1] bcast_S8x394_S8x394x1_0_1 : (⟨S8x394, .f32⟩ : BufTy).Contents (Elt F) → (⟨S8x394x1, .f32⟩ : BufTy).Contents (Elt F)),
    unary main_v73 main_v106 (broadcastInDim S1x394x128 ![1, 2] bcast_S394x128_S1x394x128_1_2 : (⟨S394x128, .f32⟩ : BufTy).Contents (Elt F) → (⟨S1x394x128, .f32⟩ : BufTy).Contents (Elt F)),
    unary main_v105 main_v107 (broadcastInDim S8x394x128 ![0, 1, 2] bcast_S8x394x1_S8x394x128_0_1_2 : (⟨S8x394x1, .f32⟩ : BufTy).Contents (Elt F) → (⟨S8x394x128, .f32⟩ : BufTy).Contents (Elt F)),
    unary main_v106 main_v108 (broadcastInDim S8x394x128 ![0, 1, 2] bcast_S1x394x128_S8x394x128_0_1_2 : (⟨S1x394x128, .f32⟩ : BufTy).Contents (Elt F) → (⟨S8x394x128, .f32⟩ : BufTy).Contents (Elt F)),
    binary main_v107 main_v108 main_v109 (mulf : (⟨S8x394x128, .f32⟩ : BufTy).Contents (Elt F) → (⟨S8x394x128, .f32⟩ : BufTy).Contents (Elt F) → (⟨S8x394x128, .f32⟩ : BufTy).Contents (Elt F)),
    binary main_v82 main_v91 main_v110 (addf : (⟨S8x394x128, .f32⟩ : BufTy).Contents (Elt F) → (⟨S8x394x128, .f32⟩ : BufTy).Contents (Elt F) → (⟨S8x394x128, .f32⟩ : BufTy).Contents (Elt F)),
    binary main_v100 main_v109 main_v111 (addf : (⟨S8x394x128, .f32⟩ : BufTy).Contents (Elt F) → (⟨S8x394x128, .f32⟩ : BufTy).Contents (Elt F) → (⟨S8x394x128, .f32⟩ : BufTy).Contents (Elt F)) ]

/-- The buffers that group writes. -/
abbrev wrH : List (Ref sig .tc) := [main_v98, main_v99, main_v100, main_v101, main_v102, main_v103, main_v104, main_v105, main_v106, main_v107, main_v108, main_v109, main_v110, main_v111]

theorem keepA (V : Valuation τ sig (Elt F)) (r : Ref sig .tc) (h : r ∉ wrA) : after opsA V (Proc.devRef .tc r) = V (Proc.devRef .tc r) :=
  after_of_writes_sub opsA _ (forall_writes_sub_of_map rfl) h
set_option maxRecDepth 16384 in
set_option maxHeartbeats 2000000 in
theorem readA_v18 (V : Valuation τ sig (Elt F)) : after opsA V (Proc.devRef .tc main_v18) = normed (V (Proc.devRef .tc main_arg0)) (V (Proc.devRef .tc main_arg2)) (V (Proc.devRef .tc main_arg3)) := by
  simp only [opsA, TRef.nullary, TRef.unary, TRef.binary, TRef.ternary, TRef.quaternary, TRef.toBuf, TRef.ofBuf, cast_eq]
  after_results_simp
  try rfl
set_option maxRecDepth 16384 in
set_option maxHeartbeats 2000000 in
theorem readA_v19 (V : Valuation τ sig (Elt F)) : after opsA V (Proc.devRef .tc main_v19) = logits (normed (V (Proc.devRef .tc main_arg0)) (V (Proc.devRef .tc main_arg2)) (V (Proc.devRef .tc main_arg3))) (V (Proc.devRef .tc main_arg1)) := by
  simp only [opsA, TRef.nullary, TRef.unary, TRef.binary, TRef.ternary, TRef.quaternary, TRef.toBuf, TRef.ofBuf, cast_eq]
  after_results_simp
  try rfl

theorem keepB (V : Valuation τ sig (Elt F)) (r : Ref sig .tc) (h : r ∉ wrB) : after opsB V (Proc.devRef .tc r) = V (Proc.devRef .tc r) :=
  after_of_writes_sub opsB _ (forall_writes_sub_of_map rfl) h
set_option maxRecDepth 16384 in
set_option maxHeartbeats 2000000 in
theorem readB_v30 (V : Valuation τ sig (Elt F)) : after opsB V (Proc.devRef .tc main_v30) = probs (V (Proc.devRef .tc main_v19)) := by
  simp only [opsB, TRef.nullary, TRef.unary, TRef.binary, TRef.ternary, TRef.quaternary, TRef.toBuf, TRef.ofBuf, cast_eq]
  after_results_simp
  try rfl
set_option maxRecDepth 16384 in
set_option maxHeartbeats 2000000 in
theorem readB_v31 (V : Valuation τ sig (Elt F)) : after opsB V (Proc.devRef .tc main_v31) = argmax (probs (V (Proc.devRef .tc main_v19))) := by
  simp only [opsB, TRef.nullary, TRef.unary, TRef.binary, TRef.ternary, TRef.quaternary, TRef.toBuf, TRef.ofBuf, cast_eq]
  after_results_simp
  try rfl
set_option maxRecDepth 16384 in
set_option maxHeartbeats 2000000 in
theorem readB_v32 (V : Valuation τ sig (Elt F)) : after opsB V (Proc.devRef .tc main_v32) = hot (argmax (probs (V (Proc.devRef .tc main_v19)))) := by
  simp only [opsB, TRef.nullary, TRef.unary, TRef.binary, TRef.ternary, TRef.quaternary, TRef.toBuf, TRef.ofBuf, cast_eq]
  after_results_simp
  try rfl

theorem keepC (V : Valuation τ sig (Elt F)) (r : Ref sig .tc) (h : r ∉ wrC) : after opsC V (Proc.devRef .tc r) = V (Proc.devRef .tc r) :=
  after_of_writes_sub opsC _ (forall_writes_sub_of_map rfl) h
set_option maxRecDepth 16384 in
set_option maxHeartbeats 2000000 in
theorem readC_v37 (V : Valuation τ sig (Elt F)) : after opsC V (Proc.devRef .tc main_v37) = hot (argmax (masked (V (Proc.devRef .tc main_v32)) (V (Proc.devRef .tc main_v19)))) := by
  simp only [opsC, TRef.nullary, TRef.unary, TRef.binary, TRef.ternary, TRef.quaternary, TRef.toBuf, TRef.ofBuf, cast_eq]
  after_results_simp
  try rfl

theorem keepD (V : Valuation τ sig (Elt F)) (r : Ref sig .tc) (h : r ∉ wrD) : after opsD V (Proc.devRef .tc r) = V (Proc.devRef .tc r) :=
  after_of_writes_sub opsD _ (forall_writes_sub_of_map rfl) h
set_option maxRecDepth 16384 in
set_option maxHeartbeats 2000000 in
theorem readD_v45 (V : Valuation τ sig (Elt F)) : after opsD V (Proc.devRef .tc main_v45) = addf (before (V (Proc.devRef .tc main_v37))) (total (V (Proc.devRef .tc main_v32))) := by
  simp only [opsD, TRef.nullary, TRef.unary, TRef.binary, TRef.ternary, TRef.quaternary, TRef.toBuf, TRef.ofBuf, cast_eq]
  after_results_simp
  try rfl
set_option maxRecDepth 16384 in
set_option maxHeartbeats 2000000 in
theorem readD_v48 (V : Valuation τ sig (Elt F)) : after opsD V (Proc.devRef .tc main_v48) = place (before (V (Proc.devRef .tc main_v32))) (V (Proc.devRef .tc main_v32)) := by
  simp only [opsD, TRef.nullary, TRef.unary, TRef.binary, TRef.ternary, TRef.quaternary, TRef.toBuf, TRef.ofBuf, cast_eq]
  after_results_simp
  try rfl

theorem keepE (V : Valuation τ sig (Elt F)) (r : Ref sig .tc) (h : r ∉ wrE) : after opsE V (Proc.devRef .tc r) = V (Proc.devRef .tc r) :=
  after_of_writes_sub opsE _ (forall_writes_sub_of_map rfl) h
set_option maxRecDepth 16384 in
set_option maxHeartbeats 2000000 in
theorem readE_v51 (V : Valuation τ sig (Elt F)) : after opsE V (Proc.devRef .tc main_v51) = place (V (Proc.devRef .tc main_v45)) (V (Proc.devRef .tc main_v37)) := by
  simp only [opsE, TRef.nullary, TRef.unary, TRef.binary, TRef.ternary, TRef.quaternary, TRef.toBuf, TRef.ofBuf, cast_eq]
  after_results_simp
  try rfl
set_option maxRecDepth 16384 in
set_option maxHeartbeats 2000000 in
theorem readE_v54 (V : Valuation τ sig (Elt F)) : after opsE V (Proc.devRef .tc main_v54) = keep (V (Proc.devRef .tc main_v48)) := by
  simp only [opsE, TRef.nullary, TRef.unary, TRef.binary, TRef.ternary, TRef.quaternary, TRef.toBuf, TRef.ofBuf, cast_eq]
  after_results_simp
  try rfl
set_option maxRecDepth 16384 in
set_option maxHeartbeats 2000000 in
theorem readE_v57 (V : Valuation τ sig (Elt F)) : after opsE V (Proc.devRef .tc main_v57) = keep (place (V (Proc.devRef .tc main_v45)) (V (Proc.devRef .tc main_v37))) := by
  simp only [opsE, TRef.nullary, TRef.unary, TRef.binary, TRef.ternary, TRef.quaternary, TRef.toBuf, TRef.ofBuf, cast_eq]
  after_results_simp
  try rfl
set_option maxRecDepth 16384 in
set_option maxHeartbeats 2000000 in
theorem readE_v68 (V : Valuation τ sig (Elt F)) : after opsE V (Proc.devRef .tc main_v68) = Host.divf (raw (V (Proc.devRef .tc main_v30)) (V (Proc.devRef .tc main_v32)) (keep (V (Proc.devRef .tc main_v48)))) (denom (raw (V (Proc.devRef .tc main_v30)) (V (Proc.devRef .tc main_v32)) (keep (V (Proc.devRef .tc main_v48)))) (raw (V (Proc.devRef .tc main_v30)) (V (Proc.devRef .tc main_v37)) (keep (place (V (Proc.devRef .tc main_v45)) (V (Proc.devRef .tc main_v37)))))) := by
  simp only [opsE, TRef.nullary, TRef.unary, TRef.binary, TRef.ternary, TRef.quaternary, TRef.toBuf, TRef.ofBuf, cast_eq]
  after_results_simp
  try rfl
set_option maxRecDepth 16384 in
set_option maxHeartbeats 2000000 in
theorem readE_v69 (V : Valuation τ sig (Elt F)) : after opsE V (Proc.devRef .tc main_v69) = Host.divf (raw (V (Proc.devRef .tc main_v30)) (V (Proc.devRef .tc main_v37)) (keep (place (V (Proc.devRef .tc main_v45)) (V (Proc.devRef .tc main_v37))))) (denom (raw (V (Proc.devRef .tc main_v30)) (V (Proc.devRef .tc main_v32)) (keep (V (Proc.devRef .tc main_v48)))) (raw (V (Proc.devRef .tc main_v30)) (V (Proc.devRef .tc main_v37)) (keep (place (V (Proc.devRef .tc main_v45)) (V (Proc.devRef .tc main_v37)))))) := by
  simp only [opsE, TRef.nullary, TRef.unary, TRef.binary, TRef.ternary, TRef.quaternary, TRef.toBuf, TRef.ofBuf, cast_eq]
  after_results_simp
  try rfl

theorem keepF (V : Valuation τ sig (Elt F)) (r : Ref sig .tc) (h : r ∉ wrF) : after opsF V (Proc.devRef .tc r) = V (Proc.devRef .tc r) :=
  after_of_writes_sub opsF _ (forall_writes_sub_of_map rfl) h
set_option maxRecDepth 16384 in
set_option maxHeartbeats 2000000 in
theorem readF_v72 (V : Valuation τ sig (Elt F)) : after opsF V (Proc.devRef .tc main_v72) = slot (V (Proc.devRef .tc main_v48)) := by
  simp only [opsF, TRef.nullary, TRef.unary, TRef.binary, TRef.ternary, TRef.quaternary, TRef.toBuf, TRef.ofBuf, cast_eq]
  after_results_simp
  try rfl
set_option maxRecDepth 16384 in
set_option maxHeartbeats 2000000 in
theorem readF_v73 (V : Valuation τ sig (Elt F)) : after opsF V (Proc.devRef .tc main_v73) = slot (V (Proc.devRef .tc main_v51)) := by
  simp only [opsF, TRef.nullary, TRef.unary, TRef.binary, TRef.ternary, TRef.quaternary, TRef.toBuf, TRef.ofBuf, cast_eq]
  after_results_simp
  try rfl

theorem keepG (V : Valuation τ sig (Elt F)) (r : Ref sig .tc) (h : r ∉ wrG) : after opsG V (Proc.devRef .tc r) = V (Proc.devRef .tc r) :=
  after_of_writes_sub opsG _ (forall_writes_sub_of_map rfl) h
set_option maxRecDepth 16384 in
set_option maxHeartbeats 2000000 in
theorem readG_v82 (V : Valuation τ sig (Elt F)) : after opsG V (Proc.devRef .tc main_v82) = spread (V (Proc.devRef .tc main_v72)) (V (Proc.devRef .tc main_v32)) (V (Proc.devRef .tc main_v54)) := by
  simp only [opsG, TRef.nullary, TRef.unary, TRef.binary, TRef.ternary, TRef.quaternary, TRef.toBuf, TRef.ofBuf, cast_eq]
  after_results_simp
  try rfl
set_option maxRecDepth 16384 in
set_option maxHeartbeats 2000000 in
theorem readG_v91 (V : Valuation τ sig (Elt F)) : after opsG V (Proc.devRef .tc main_v91) = spread (V (Proc.devRef .tc main_v73)) (V (Proc.devRef .tc main_v37)) (V (Proc.devRef .tc main_v57)) := by
  simp only [opsG, TRef.nullary, TRef.unary, TRef.binary, TRef.ternary, TRef.quaternary, TRef.toBuf, TRef.ofBuf, cast_eq]
  after_results_simp
  try rfl
set_option maxRecDepth 16384 in
set_option maxHeartbeats 2000000 in
theorem readG_v96 (V : Valuation τ sig (Elt F)) : after opsG V (Proc.devRef .tc main_v96) = across (V (Proc.devRef .tc main_v32)) (V (Proc.devRef .tc main_v68)) := by
  simp only [opsG, TRef.nullary, TRef.unary, TRef.binary, TRef.ternary, TRef.quaternary, TRef.toBuf, TRef.ofBuf, cast_eq]
  after_results_simp
  try rfl
set_option maxRecDepth 16384 in
set_option maxHeartbeats 2000000 in
theorem readG_v97 (V : Valuation τ sig (Elt F)) : after opsG V (Proc.devRef .tc main_v97) = broadcastInDim S1x394x128 ![1, 2] bcast_S394x128_S1x394x128_1_2 (V (Proc.devRef .tc main_v72)) := by
  simp only [opsG, TRef.nullary, TRef.unary, TRef.binary, TRef.ternary, TRef.quaternary, TRef.toBuf, TRef.ofBuf, cast_eq]
  after_results_simp
  try rfl

theorem keepH (V : Valuation τ sig (Elt F)) (r : Ref sig .tc) (h : r ∉ wrH) : after opsH V (Proc.devRef .tc r) = V (Proc.devRef .tc r) :=
  after_of_writes_sub opsH _ (forall_writes_sub_of_map rfl) h
set_option maxRecDepth 16384 in
set_option maxHeartbeats 2000000 in
theorem readH_v110 (V : Valuation τ sig (Elt F)) : after opsH V (Proc.devRef .tc main_v110) = addf (V (Proc.devRef .tc main_v82)) (V (Proc.devRef .tc main_v91)) := by
  simp only [opsH, TRef.nullary, TRef.unary, TRef.binary, TRef.ternary, TRef.quaternary, TRef.toBuf, TRef.ofBuf, cast_eq]
  after_results_simp
  try rfl
set_option maxRecDepth 16384 in
set_option maxHeartbeats 2000000 in
theorem readH_v111 (V : Valuation τ sig (Elt F)) : after opsH V (Proc.devRef .tc main_v111) = addf (mulf (broadcastInDim S8x394x128 ![0, 1, 2] bcast_S8x394x1_S8x394x128_0_1_2 (V (Proc.devRef .tc main_v96))) (broadcastInDim S8x394x128 ![0, 1, 2] bcast_S1x394x128_S8x394x128_0_1_2 (V (Proc.devRef .tc main_v97)))) (spread (V (Proc.devRef .tc main_v73)) (V (Proc.devRef .tc main_v37)) (V (Proc.devRef .tc main_v69))) := by
  simp only [opsH, TRef.nullary, TRef.unary, TRef.binary, TRef.ternary, TRef.quaternary, TRef.toBuf, TRef.ofBuf, cast_eq]
  after_results_simp
  try rfl

/-! ### The whole -/

/-- The first choice. -/
def pickA (l : FVec F S394x8 .f32) : FVec F S394x8 .f32 := hot (argmax (probs l))
/-- The second choice. -/
def pickB (l : FVec F S394x8 .f32) : FVec F S394x8 .f32 := hot (argmax (masked (pickA l) l))
/-- The first choice's place. -/
def placeA (l : FVec F S394x8 .f32) : IVec S394 32 := place (before (pickA l)) (pickA l)
/-- The second choice's place. -/
def placeB (l : FVec F S394x8 .f32) : IVec S394 32 := place (addf (before (pickB l)) (total (pickA l))) (pickB l)
/-- The first choice's probability, where kept. -/
def rawA (l : FVec F S394x8 .f32) : FVec F S394 .f32 := raw (probs l) (pickA l) (keep (placeA l))
/-- The second choice's probability, where kept. -/
def rawB (l : FVec F S394x8 .f32) : FVec F S394 .f32 := raw (probs l) (pickB l) (keep (placeB l))
/-- The dispatch array, from the logits. -/
def dispatch (l : FVec F S394x8 .f32) : FVec F S8x394x128 .f32 :=
  addf (spread (slot (placeA l)) (pickA l) (keep (placeA l))) (spread (slot (placeB l)) (pickB l) (keep (placeB l)))
/-- The combine array, from the logits. -/
def combine (l : FVec F S394x8 .f32) : FVec F S8x394x128 .f32 :=
  addf (spread (slot (placeA l)) (pickA l) (Host.divf (rawA l) (denom (rawA l) (rawB l))))
    (spread (slot (placeB l)) (pickB l) (Host.divf (rawB l) (denom (rawA l) (rawB l))))

/-- The operations of the program's first window, and of its second. -/
def part0 : List (HloOp τ sig (Elt F)) := opsA ++ (opsB ++ (opsC ++ opsD))
@[inherit_doc part0] def part1 : List (HloOp τ sig (Elt F)) := opsE ++ (opsF ++ opsG)
/-- All the operations. -/
abbrev ops : List (HloOp τ sig (Elt F)) := part0 ++ (part1 ++ opsH)

set_option maxRecDepth 16384 in
set_option maxHeartbeats 4000000 in
theorem part0_eq (c : Dev nD) : main_part0 (F := F) c = seq part0 := rfl
set_option maxRecDepth 16384 in
set_option maxHeartbeats 4000000 in
theorem part1_eq (c : Dev nD) : main_part1 (F := F) c = seq part1 := rfl
set_option maxRecDepth 16384 in
theorem part2_eq (c : Dev nD) : main_part2 (F := F) c = seq opsH := rfl
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
set_option maxHeartbeats 8000000 in
theorem ops_sub : (ops : List (HloOp τ sig (Elt F))).Forall fun op => op.bufs ⊆ tcRefs τ sig := by
  simp only [ops, part0, part1, List.cons_append, List.nil_append, List.Forall]
  repeat' apply And.intro
  all_goals first | exact nullary_bufs_sub .. | exact unary_bufs_sub .. | exact binary_bufs_sub .. | exact ternary_bufs_sub .. | exact reshape_bufs_sub .. | exact quaternary_bufs_sub ..
set_option maxRecDepth 16384 in
theorem ops_fresh : ∀ op ∈ (ops : List (HloOp τ sig (Elt F))), op.fresh = ∅ :=
  List.forall_iff_forall_mem.mp (forall_fresh_of_map rfl)

/-- The buffers' contents after all the operations. -/
theorem after_all (V : Valuation τ sig (Elt F)) : after ops V = after opsH (after opsG (after opsF (after opsE (after opsD (after opsC (after opsB (after opsA V))))))) := by
  simp only [ops, part0, part1, after_append]

/-- A buffer no operation writes keeps its contents. -/
theorem keepAll (V : Valuation τ sig (Elt F)) (r : Ref sig .tc) (hA : r ∉ wrA) (hB : r ∉ wrB) (hC : r ∉ wrC) (hD : r ∉ wrD) (hE : r ∉ wrE) (hF : r ∉ wrF)
    (hG : r ∉ wrG) (hH : r ∉ wrH) : after ops V (Proc.devRef .tc r) = V (Proc.devRef .tc r) := by
  rw [after_all, keepH _ r hH, keepG _ r hG, keepF _ r hF, keepE _ r hE, keepD _ r hD, keepC _ r hC, keepB _ r hB, keepA _ r hA]

theorem read_rows (V : Valuation τ sig (Elt F)) : after ops V (Proc.devRef .tc main_v18)
    = normed (V (Proc.devRef .tc main_arg0)) (V (Proc.devRef .tc main_arg2)) (V (Proc.devRef .tc main_arg3)) := by
  rw [after_all, keepH _ main_v18 (by decide), keepG _ main_v18 (by decide), keepF _ main_v18 (by decide), keepE _ main_v18 (by decide),
    keepD _ main_v18 (by decide), keepC _ main_v18 (by decide), keepB _ main_v18 (by decide), readA_v18]

/-- The buffers after the first four groups. -/
theorem read_four (V : Valuation τ sig (Elt F)) :
    after opsD (after opsC (after opsB (after opsA V))) (Proc.devRef .tc main_v30) = probs (after opsA V (Proc.devRef .tc main_v19))
    ∧ after opsD (after opsC (after opsB (after opsA V))) (Proc.devRef .tc main_v32) = pickA (after opsA V (Proc.devRef .tc main_v19))
    ∧ after opsD (after opsC (after opsB (after opsA V))) (Proc.devRef .tc main_v37) = pickB (after opsA V (Proc.devRef .tc main_v19))
    ∧ after opsD (after opsC (after opsB (after opsA V))) (Proc.devRef .tc main_v45)
        = addf (before (pickB (after opsA V (Proc.devRef .tc main_v19)))) (total (pickA (after opsA V (Proc.devRef .tc main_v19))))
    ∧ after opsD (after opsC (after opsB (after opsA V))) (Proc.devRef .tc main_v48) = placeA (after opsA V (Proc.devRef .tc main_v19)) := by
  generalize after opsA V = W
  have h32 : after opsC (after opsB W) (Proc.devRef .tc main_v32) = pickA (W (Proc.devRef .tc main_v19)) := by
    rw [keepC _ main_v32 (by decide), readB_v32]; rfl
  have h37 : after opsC (after opsB W) (Proc.devRef .tc main_v37) = pickB (W (Proc.devRef .tc main_v19)) := by
    rw [readC_v37, readB_v32, keepB _ main_v19 (by decide)]; rfl
  refine ⟨?_, ?_, ?_, ?_, ?_⟩
  · rw [keepD _ main_v30 (by decide), keepC _ main_v30 (by decide), readB_v30]
  · rw [keepD _ main_v32 (by decide), h32]
  · rw [keepD _ main_v37 (by decide), h37]
  · rw [readD_v45, h32, h37]
  · rw [readD_v48, h32]; rfl

/-- The arrays after the last four groups. -/
theorem read_rest (W : Valuation τ sig (Elt F)) (l : FVec F S394x8 .f32) (h30 : W (Proc.devRef .tc main_v30) = probs l)
    (h32 : W (Proc.devRef .tc main_v32) = pickA l) (h37 : W (Proc.devRef .tc main_v37) = pickB l)
    (h45 : W (Proc.devRef .tc main_v45) = addf (before (pickB l)) (total (pickA l))) (h48 : W (Proc.devRef .tc main_v48) = placeA l) :
    after opsH (after opsG (after opsF (after opsE W))) (Proc.devRef .tc main_v110) = dispatch l
    ∧ after opsH (after opsG (after opsF (after opsE W))) (Proc.devRef .tc main_v111) = combine l := by
  have e48 := keepE W main_v48 (by decide)
  have e32 := keepE W main_v32 (by decide)
  have e37 := keepE W main_v37 (by decide)
  have e51 := readE_v51 W
  have e54 := readE_v54 W
  have e57 := readE_v57 W
  have e68 := readE_v68 W
  have e69 := readE_v69 W
  rw [h45, h37] at e51 e57
  rw [h48] at e54 e48
  rw [h30, h32, h48, h45, h37] at e68 e69
  rw [h32] at e32
  rw [h37] at e37
  generalize after opsE W = X at e48 e32 e37 e51 e54 e57 e68 e69
  have f72 : after opsF X (Proc.devRef .tc main_v72) = slot (placeA l) := by rw [readF_v72, e48]
  have f73 : after opsF X (Proc.devRef .tc main_v73) = slot (placeB l) := by rw [readF_v73, e51]; rfl
  refine ⟨?_, ?_⟩
  · rw [readH_v110, readG_v82, readG_v91, f72, f73, keepF _ main_v32 (by decide), keepF _ main_v37 (by decide), keepF _ main_v54 (by decide),
      keepF _ main_v57 (by decide), e32, e37, e54, e57]; rfl
  · rw [readH_v111, readG_v96, readG_v97, keepG _ main_v73 (by decide), keepG _ main_v37 (by decide), keepG _ main_v69 (by decide), f72, f73,
      keepF _ main_v32 (by decide), keepF _ main_v37 (by decide), keepF _ main_v68 (by decide), keepF _ main_v69 (by decide), e32, e37, e68, e69]; rfl

theorem read_arrays (V : Valuation τ sig (Elt F)) :
    after ops V (Proc.devRef .tc main_v110) = dispatch (logits (normed (V (Proc.devRef .tc main_arg0)) (V (Proc.devRef .tc main_arg2)) (V (Proc.devRef .tc main_arg3))) (V (Proc.devRef .tc main_arg1)))
    ∧ after ops V (Proc.devRef .tc main_v111) = combine (logits (normed (V (Proc.devRef .tc main_arg0)) (V (Proc.devRef .tc main_arg2)) (V (Proc.devRef .tc main_arg3))) (V (Proc.devRef .tc main_arg1))) := by
  rw [after_all, ← readA_v19]
  obtain ⟨h30, h32, h37, h45, h48⟩ := read_four V
  exact read_rest _ _ h30 h32 h37 h45 h48

/-- Every run ends with the three results at the stages' terms of the arguments, and the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v18) = normed (m ((c.tc : Thread nD τ).loc main_arg0)) (m ((c.tc : Thread nD τ).loc main_arg2)) (m ((c.tc : Thread nD τ).loc main_arg3))
      ∧ r.2.mem ((c.tc : Thread nD τ).loc main_v110) = dispatch (logits (normed (m ((c.tc : Thread nD τ).loc main_arg0)) (m ((c.tc : Thread nD τ).loc main_arg2)) (m ((c.tc : Thread nD τ).loc main_arg3))) (m ((c.tc : Thread nD τ).loc main_arg1)))
      ∧ r.2.mem ((c.tc : Thread nD τ).loc main_v111) = combine (logits (normed (m ((c.tc : Thread nD τ).loc main_arg0)) (m ((c.tc : Thread nD τ).loc main_arg2)) (m ((c.tc : Thread nD τ).loc main_arg3))) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨(h c main_v18).trans (read_rows (launchContents m c)), (h c main_v110).trans (read_arrays (launchContents m c)).1,
      (h c main_v111).trans (read_arrays (launchContents m c)).2⟩,
      (h c main_arg0).trans (keepAll (launchContents m c) main_arg0 (by decide) (by decide) (by decide) (by decide) (by decide) (by decide) (by decide) (by decide)),
      (h c main_arg1).trans (keepAll (launchContents m c) main_arg1 (by decide) (by decide) (by decide) (by decide) (by decide) (by decide) (by decide) (by decide)),
      (h c main_arg2).trans (keepAll (launchContents m c) main_arg2 (by decide) (by decide) (by decide) (by decide) (by decide) (by decide) (by decide) (by decide)),
      (h c main_arg3).trans (keepAll (launchContents m c) main_arg3 (by decide) (by decide) (by decide) (by decide) (by decide) (by decide) (by decide) (by decide))⟩)
    (run_seq scopedRefs_eq scopedSems_eq defs main (fun _ => ops) main_eq (fun _ => ops_sub) m ρ fun _ => ops_fresh)

end Cert.RouteRefIdeal.Hand

end
-- ==== Proof.RouteRead.lean ====
module

public import proofs.«01_k».proof.Proof.RouteBasic
public import proofs.«01_k».proof.Proof.RouteRun
public import proofs.«01_k».proof.Proof.Gen.RouteIdeal.Value
public import Idealize.ShloMosaic.Lib.Routing.OpsOne

@[expose] public section

set_option maxRecDepth 16384

noncomputable section

/-! The router's arrays entry by entry: the experts chosen, the places in each expert's queue, and the weights, as the kernel computes them and as the reference does. -/

namespace Cert.RouteIdeal.Value

open Idealize.ShloMosaic Idealize.ShloMosaic.TcCoe Idealize.SL.Sem
open Cert.RouteIdeal Cert.RouteIdeal.Gen Cert.RouteMath
open Cert.RouteRefIdeal.Hand (centred width variance normed logits wide rowSum expo probs argmax hot masked before total place keep raw denom slot across spread
  pickA pickB placeA placeB rawA rawB dispatch combine)

/-! ### The place of the first greatest entry -/

theorem lit_bot : Ideal.ofBits .f32 0xFF800000#32 = (⊥ : EReal) := by simp [Ideal.ofBits, Ideal.ieee]

theorem keeps_better (r y : EReal × BitVec 32) :
    (Cert.RouteRefIdeal.reducer_argmax_f32_i32 (F := Ideal) r y = r ∨ Cert.RouteRefIdeal.reducer_argmax_f32_i32 (F := Ideal) r y = y)
      ∧ Beats (Cert.RouteRefIdeal.reducer_argmax_f32_i32 (F := Ideal) r y) r ∧ Beats (Cert.RouteRefIdeal.reducer_argmax_f32_i32 (F := Ideal) r y) y := by
  obtain ⟨a, i⟩ := r
  obtain ⟨b, k⟩ := y
  have e : Cert.RouteRefIdeal.reducer_argmax_f32_i32 (F := Ideal) (a, i) (b, k)
      = (if b < a then a else b, if b < a ∨ (a = b ∧ i.toInt < k.toInt) then i else k) := by
    have hn : ∀ v : EReal, FloatOps.cmpf (F := Ideal) (φ := .f32) .une v v = 0#1 := fun v => by simp [FloatOps.cmpf, Ideal.cmp]
    have hg : FloatOps.cmpf (F := Ideal) (φ := .f32) .ogt a b = BitVec.ofBool (decide (b < a)) := rfl
    have hq : FloatOps.cmpf (F := Ideal) (φ := .f32) .oeq a b = BitVec.ofBool (decide (a = b)) := rfl
    simp only [Cert.RouteRefIdeal.reducer_argmax_f32_i32, hn, hg, hq, slt_bit]
    by_cases h1 : b < a <;> by_cases h2 : a = b <;> by_cases h3 : i.toInt < k.toInt <;> simp [h1, h2, h3, Scalar.select, IntOp.ori, IntOp.andi]
  rw [e]
  rcases lt_trichotomy b a with h | h | h
  · rw [if_pos h, if_pos (Or.inl h)]
    exact ⟨Or.inl rfl, Beats.refl _, Or.inl h⟩
  · subst h
    by_cases hk : i.toInt < k.toInt
    · rw [if_neg (lt_irrefl _), if_pos (Or.inr ⟨rfl, hk⟩)]
      exact ⟨Or.inl rfl, Beats.refl _, Or.inr ⟨rfl, hk.le⟩⟩
    · rw [if_neg (lt_irrefl _), if_neg (by rintro (h | ⟨-, h⟩); exacts [lt_irrefl _ h, hk h])]
      exact ⟨Or.inr rfl, Or.inr ⟨rfl, not_lt.mp hk⟩, Beats.refl _⟩
  · rw [if_neg h.not_gt, if_neg (by rintro (k | ⟨k, -⟩); exacts [h.not_gt k, h.ne' k.symm])]
    exact ⟨Or.inr rfl, Or.inl h, Beats.refl _⟩

theorem ext2 {α : Type} {f g : S394x8.Idx → α} (h : ∀ (t : Fin 394) (e : Fin 8), f (ix2 t e) = g (ix2 t e)) : f = g := by
  funext i
  have e : i = ix2 (i 0) (i 1) := by funext a; match a with | 0 => rfl | 1 => rfl
  exact (congrArg f e).trans ((h _ _).trans (congrArg g e.symm))

theorem drop_reduces (i : S394x8.Idx) : reduces_S394x8_S394.drop i = ix1 (i 0) := by
  funext a; match a with | 0 => rfl

theorem drop_reducesTo (i : S394x8.Idx) : Cert.RouteRefIdeal.Gen.reducesTo_S394x8_S394_d1.drop i = ix1 (i 0) := by
  funext a; match a with | 0 => rfl

/-- The reference's `argmax` names the first greatest entry of a row. -/
theorem argmax_first (p : FVec Ideal S394x8 .f32) (t : Fin 394) (b : Fin 8) (h : First (fun e => p (ix2 t e)) b) : argmax p (ix1 t) = BitVec.ofNat 32 b := by
  unfold argmax
  rw [Ideal.argReduce_eq_reduce2]
  unfold Host.reduce2
  obtain ⟨hm, -, hb⟩ := foldl_beats (Cert.RouteRefIdeal.reducer_argmax_f32_i32 (F := Ideal)) keeps_better
    (fun n => (p (S394x8.rowMajor.symm n), iotaInDim S394x8 32 1 (S394x8.rowMajor.symm n)))
    ((List.finRange S394x8.numel).filter fun n => Cert.RouteRefIdeal.Gen.reducesTo_S394x8_S394_d1.drop (S394x8.rowMajor.symm n) = ix1 t)
    (Ideal.ofBits .f32 0xFF800000#32, 0#32)
  have hb' : ∀ e : Fin 8, Beats _ (p (ix2 t e), BitVec.ofNat 32 e) := fun e => by
    have := hb (S394x8.rowMajor (ix2 t e)) (List.mem_filter.mpr ⟨List.mem_finRange _,
      decide_eq_true (by rw [Equiv.symm_apply_apply]; exact drop_reducesTo _)⟩)
    rw [Equiv.symm_apply_apply] at this
    exact this
  rcases hm with hm | ⟨n, hn, hm⟩
  · have h0 := hb' b
    refine (congrArg Prod.snd hm).trans ?_
    rw [hm, lit_bot] at h0
    rcases h0 with h0 | ⟨h0, -⟩
    · exact absurd h0 not_lt_bot
    · rcases Nat.eq_zero_or_pos b.val with hz | hp
      · rw [hz]
      · have hlt : p (ix2 t 0) < p (ix2 t b) := h.2 0 hp
        exact absurd (lt_of_lt_of_eq hlt h0) not_lt_bot
  · refine h.beats _ ⟨S394x8.rowMajor.symm n 1, hm.trans ?_⟩ hb'
    have hd : Cert.RouteRefIdeal.Gen.reducesTo_S394x8_S394_d1.drop (S394x8.rowMajor.symm n) = ix1 t := of_decide_eq_true (List.mem_filter.mp hn).2
    rw [drop_reducesTo] at hd
    have h0 : S394x8.rowMajor.symm n 0 = t := congrFun hd 0
    have hi : S394x8.rowMajor.symm n = ix2 t (S394x8.rowMajor.symm n 1) := by
      rw [← h0]; funext a; match a with | 0 => rfl | 1 => rfl
    exact Prod.ext (congrArg p hi) rfl

/-- The places of a row's greatest entries, and 8 elsewhere. -/
def mark (l : FVec Ideal S394x8 .f32) : IVec S394x8 32 :=
  select (cmpf .oeq l (broadcastTo S394x8 (shapeCast S394x1 (multiReduction .maximumf [1] S394 l 0xFF800000#32 reduces_S394x8_S394 (.inl rfl) rfl)
    shapeCasts_S394_S394x1) broadcasts_S394x1_S394x8)) (iota .tc S394x8 32 [1] iota_S394x8_d1_w32) (broadcast S394x8 8#32)

/-- The least word of each row. -/
def least (v : IVec S394x8 32) : IVec S394x1 32 :=
  shapeCast S394x1 (multiReductionI .minsi [1] S394 v 2147483647#32 reduces_S394x8_S394 rfl) shapeCasts_S394_S394x1

theorem column (v : IVec S394 32) (i : S394x1.Idx) : shapeCast S394x1 v shapeCasts_S394_S394x1 i = v (ix1 (i 0)) := by
  pointwise! []

theorem mark_entry (l : FVec Ideal S394x8 .f32) (t : Fin 394) (e : Fin 8) :
    mark l (ix2 t e) = if l (ix2 t e) = Finset.fold max (Ideal.ofBits .f32 0xFF800000#32) (fun x => l (ix2 t x)) Finset.univ then BitVec.ofNat 32 e else 8#32 := by
  pointwise! [mark]

/-- So does the kernel's least marked place. -/
theorem least_first (l : FVec Ideal S394x8 .f32) (i : S394x1.Idx) (b : Fin 8) (h : First (fun e => l (ix2 (i 0) e)) b) : least (mark l) i = BitVec.ofNat 32 b := by
  unfold least
  refine (column _ i).trans ((multiReductionI_eq_fold _ _ _ _ _ _).trans ?_)
  have hM : Finset.fold max (Ideal.ofBits .f32 0xFF800000#32) (fun x => l (ix2 (i 0) x)) Finset.univ = l (ix2 (i 0) b) := by
    rw [lit_bot]; exact h.fold_max
  have hrow : ∀ k : S394x8.Idx, k 0 = i 0 → mark l k = if l (ix2 (i 0) (k 1)) = l (ix2 (i 0) b) then BitVec.ofNat 32 (k 1) else 8#32 := fun k hk => by
    have : k = ix2 (i 0) (k 1) := by rw [← hk]; funext a; match a with | 0 => rfl | 1 => rfl
    exact (congrArg (mark l) this).trans ((mark_entry l (i 0) (k 1)).trans (by rw [hM]))
  refine fold_minsi_eq _ _ _ _ ?_ (fun k hk => ?_) ⟨ix2 (i 0) b, Finset.mem_filter.mpr ⟨Finset.mem_univ _, drop_reduces _⟩, ?_⟩
  · rw [toInt_ofNat _ (by omega), show (2147483647#32 : BitVec 32).toInt = 2147483647 from by decide]
    omega
  · have hd := (Finset.mem_filter.mp hk).2
    rw [drop_reduces] at hd
    rw [hrow k (congrFun hd 0), toInt_ofNat _ (by omega)]
    have hk8 : (k 1).val < 8 := (k 1).isLt
    split
    · next heq =>
      rw [toInt_ofNat _ (by omega)]
      by_contra hlt
      exact absurd heq (h.2 (k 1) (by show (k 1).val < b.val; omega)).ne
    · rw [show (8#32 : BitVec 32).toInt = 8 from by decide]
      omega
  · exact (hrow (ix2 (i 0) b) rfl).trans (if_pos rfl)

theorem expo_entry (l : FVec Ideal S394x8 .f32) (t : Fin 394) (e : Fin 8) : expo l (ix2 t e) = Ideal.exp (l (ix2 t e)
    - max (Ideal.ofBits .f32 0xFF800000#32) (Finset.fold max (Ideal.ofBits .f32 0xFF800000#32) (fun x => l (ix2 t x)) Finset.univ)) := by
  pointwise! [expo, wide]

theorem probs_entry (l : FVec Ideal S394x8 .f32) (t : Fin 394) (e : Fin 8) : probs l (ix2 t e) = Ideal.div (expo l (ix2 t e)) (∑ x, expo l (ix2 t x)) := by
  unfold probs
  generalize expo l = z
  pointwise! [rowSum, wide]

/-- Where the logits are real numbers, the shares are greatest where the logits are. -/
theorem probs_first (l : FVec Ideal S394x8 .f32) (hl : ∀ i, IsReal (l i)) (t : Fin 394) (b : Fin 8) (h : First (fun e => l (ix2 t e)) b) :
    First (fun e => probs l (ix2 t e)) b := by
  have hM : max (Ideal.ofBits .f32 0xFF800000#32) (Finset.fold max (Ideal.ofBits .f32 0xFF800000#32) (fun x => l (ix2 t x)) Finset.univ) = l (ix2 t b) := by
    rw [lit_bot, h.fold_max, max_eq_right bot_le]
  have hs := h.shares (fun e => hl _) _ (hl (ix2 t b))
  have e1 : (fun e => probs l (ix2 t e)) = fun e => Ideal.div (Ideal.exp (l (ix2 t e) - l (ix2 t b))) (∑ k, Ideal.exp (l (ix2 t k) - l (ix2 t b))) := by
    funext e
    rw [probs_entry, expo_entry, hM]
    exact congrArg _ (Finset.sum_congr rfl fun k _ => by rw [expo_entry, hM])
  rw [e1]
  exact hs

/-! ### The two experts of a token -/

theorem first_place (l : FVec Ideal S394x8 .f32) (hl : ∀ i, IsReal (l i)) (i : S394x1.Idx) : k0_pay10 (F := Ideal) l i = argmax (probs l) (ix1 (i 0)) := by
  obtain ⟨b, hb⟩ := exists_first fun e => l (ix2 (i 0) e)
  rw [argmax_first _ _ b (probs_first l hl _ b hb)]
  exact least_first l i b hb

theorem hot_entry (z : IVec S394 32) (t : Fin 394) (e : Fin 8) : hot (F := Ideal) z (ix2 t e) = if z (ix1 t) = BitVec.ofNat 32 e.val then (1 : EReal) else 0 := by
  pointwise! [hot]
  rw [eq_bit, bit_unsigned]

theorem pick_first (l : FVec Ideal S394x8 .f32) (hl : ∀ i, IsReal (l i)) : k0_pay11 (F := Ideal) l = pickA l := by
  refine ext2 fun t e => ?_
  unfold pickA
  rw [hot_entry, show argmax (probs l) (ix1 t) = k0_pay10 (F := Ideal) l (ix2 t 0) from (first_place l hl (ix2 t 0)).symm]
  unfold k0_pay11
  generalize k0_pay10 l = z
  pointwise! []
  rw [eq_bit, bit_signed]
  exact if_congr eq_comm rfl rfl

theorem masked_entry (h l : FVec Ideal S394x8 .f32) (i : S394x8.Idx) : masked h l i = if 0 < h i then Ideal.ofBits .f32 0xCE6E6B28#32 else l i := by
  pointwise! [masked]

theorem masked_real (h l : FVec Ideal S394x8 .f32) (hl : ∀ i, IsReal (l i)) (i : S394x8.Idx) : IsReal (masked h l i) := by
  rw [masked_entry]
  split
  · exact ⟨-1000000000, by simp [Ideal.ofBits, Ideal.ieee, -EReal.coe_mul]; norm_num⟩
  · exact hl i

theorem second_masks (h l : FVec Ideal S394x8 .f32) : select (cmpf .ogt h (broadcast S394x8 (Scalar.ofBits (F := Ideal) .f32 0x00000000#32)))
    (broadcast S394x8 (Scalar.ofBits (F := Ideal) .f32 0xCE6E6B28#32)) l = masked h l := by
  funext i
  rw [masked_entry]
  pointwise! []

theorem second_place (l : FVec Ideal S394x8 .f32) (hl : ∀ i, IsReal (l i)) (i : S394x1.Idx) :
    k0_pay12 (F := Ideal) l i = argmax (masked (pickA l) l) (ix1 (i 0)) := by
  have e : k0_pay12 (F := Ideal) l = least (mark (select (cmpf .ogt (k0_pay11 l) (broadcast S394x8 (Scalar.ofBits (F := Ideal) .f32 0x00000000#32)))
    (broadcast S394x8 (Scalar.ofBits (F := Ideal) .f32 0xCE6E6B28#32)) l)) := rfl
  rw [e, second_masks, pick_first l hl]
  obtain ⟨b, hb⟩ := exists_first fun e => masked (pickA l) l (ix2 (i 0) e)
  rw [argmax_first _ _ b hb]
  exact least_first _ i b hb

theorem pick_second (l : FVec Ideal S394x8 .f32) (hl : ∀ i, IsReal (l i)) : k0_pay13 (F := Ideal) l = pickB l := by
  refine ext2 fun t e => ?_
  unfold pickB
  rw [hot_entry, show argmax (masked (pickA l) l) (ix1 t) = k0_pay12 (F := Ideal) l (ix2 t 0) from (second_place l hl (ix2 t 0)).symm]
  unfold k0_pay13
  generalize k0_pay12 l = z
  pointwise! []
  rw [eq_bit, bit_signed]
  exact if_congr eq_comm rfl rfl

theorem divided (z : FVec Ideal S394x8 .f32) (u : FVec Ideal S394x1 .f32) (t : Fin 394) (e : Fin 8) :
    k0_pay9 (F := Ideal) z u (ix2 t e) = Ideal.div (z (ix2 t e)) (u (ix2 t 0)) := by
  pointwise! [k0_pay9]

/-- The kernel's shares are the reference's. -/
theorem shares_eq (l : Vec Ideal S394x768 .f32) (u v : Vec Ideal S1x768 .f32) (w : Vec Ideal S768x8 .f32) :
    k0_pay9 (F := Ideal) (k0_pay7 l u v w) (k0_pay8 l u v w) = probs (k0_pay6 l u v w) := by
  have hexp : k0_pay7 (F := Ideal) l u v w = expo (k0_pay6 l u v w) := by
    refine ext2 fun t e => ?_
    rw [expo_entry]
    unfold k0_pay7
    generalize k0_pay6 l u v w = z
    pointwise! []
  refine ext2 fun t e => ?_
  rw [divided, probs_entry, ← hexp]
  refine congrArg _ ?_
  unfold k0_pay8
  generalize k0_pay7 l u v w = z
  pointwise! []

/-! ### The places in the queues -/

/-- The reference's running count before a token, entry by entry. -/
theorem before_entry (h : FVec Ideal S394x8 .f32) (hh : ∀ i, IsReal (h i)) (t : Fin 394) (e : Fin 8) :
    before h (ix2 t e) = ∑ s : Fin 394, if s < t then h (ix2 s e) else 0 := by
  rw [← sum_before (fun s => h (ix2 s e)) t (hh _), ← sum_upto]
  refine congrArg (· - h (ix2 t e)) ?_
  have hz : Ideal.ofBits .f32 0x00000000#32 = (0 : EReal) := by simp [Ideal.ofBits, Ideal.ieee]
  show Ideal.hostReduceWindowAdd ![394, 1] ![1, 1] ![393, 0] ![0, 0] Cert.RouteRefIdeal.Gen.reduceWindows_S394x8_S394x8_w394s1p393_0_w1s1p0_0 h (Ideal.ofBits .f32 0x00000000#32) (ix2 t e) = _
  unfold Ideal.hostReduceWindowAdd Host.reduceWindow
  rw [hz]
  refine (foldl_add_sum _ _ _).trans ?_
  rw [zero_add, ← Fin.sum_univ_def]
  refine Fintype.sum_equiv (finCongr (Routing.numel_col 394)) _ _ fun n => ?_
  have hw0 : ((Routing.shape2 394 1).rowMajor.symm n 0).val = n.val := by rw [Routing.symm_col]; rfl
  have hw1 : ((Routing.shape2 394 1).rowMajor.symm n 1).val = 0 := by rw [Routing.symm_col]; rfl
  have hn : n.val < 394 := (n.cast (Routing.numel_col 394)).isLt
  have ht := t.isLt
  have he := e.isLt
  split
  · next hin =>
    have h0 := (hin 0).1
    change 393 ≤ t.val * 1 + ((Routing.shape2 394 1).rowMajor.symm n 0).val at h0
    rw [hw0] at h0
    have h0' : 393 ≤ t.val + ((finCongr (Routing.numel_col 394)) n).val := by show 393 ≤ t.val + n.val; omega
    refine Eq.trans ?_ (dif_pos h0').symm
    refine congrArg h (funext fun a => Fin.ext ?_)
    match a with
    | 0 =>
      show t.val * 1 + ((Routing.shape2 394 1).rowMajor.symm n 0).val - 393 = t.val + n.val - 393
      rw [hw0, Nat.mul_one]
    | 1 =>
      show e.val * 1 + ((Routing.shape2 394 1).rowMajor.symm n 1).val - 0 = e.val
      rw [hw1]
      omega
  · next hin =>
    have hlt : ¬ 393 ≤ t.val + ((finCongr (Routing.numel_col 394)) n).val := fun hle => hin fun a => by
      have hle' : 393 ≤ t.val + n.val := hle
      match a with
      | 0 =>
        show 393 ≤ t.val * 1 + ((Routing.shape2 394 1).rowMajor.symm n 0).val ∧ t.val * 1 + ((Routing.shape2 394 1).rowMajor.symm n 0).val - 393 < 394
        rw [hw0]
        omega
      | 1 =>
        show 0 ≤ e.val * 1 + ((Routing.shape2 394 1).rowMajor.symm n 1).val ∧ e.val * 1 + ((Routing.shape2 394 1).rowMajor.symm n 1).val - 0 < 8
        rw [hw1]
        omega
    rw [dif_neg hlt]

theorem hot_upto (z : IVec S394 32) (i : S394x8.Idx) : Upto 1 (hot (F := Ideal) z i) := by
  have e : i = ix2 (i 0) (i 1) := by funext a; match a with | 0 => rfl | 1 => rfl
  rw [e]
  exact (hot_entry z (i 0) (i 1)).symm ▸ Upto.bit _

theorem hot_real (z : IVec S394 32) (i : S394x8.Idx) : IsReal (hot (F := Ideal) z i) := (hot_upto z i).real

/-- A token's place in a queue, as a number. -/
theorem place_entry (n h : FVec Ideal S394x8 .f32) (t : Fin 394) :
    place n h (ix1 t) = FloatOps.fptosi (F := Ideal) (φ := .f32) 32 (∑ x, n (ix2 t x) * h (ix2 t x)) := by
  pointwise! [place, rowSum]

theorem total_entry (h : FVec Ideal S394x8 .f32) (t : Fin 394) (e : Fin 8) : total h (ix2 t e) = ∑ x, h (ix2 x e) := by
  pointwise! [total]

/-- The number of tokens before `t` in the queue of its first expert. -/
def ahead (h : FVec Ideal S394x8 .f32) (t : Fin 394) : EReal := ∑ x, (∑ s : Fin 394, if s < t then h (ix2 s x) else 0) * h (ix2 t x)

/-- The number of tokens before `t` in the queue of its second expert, all first choices before the second ones. -/
def behind (g h : FVec Ideal S394x8 .f32) (t : Fin 394) : EReal :=
  ∑ x, ((∑ s : Fin 394, if s < t then h (ix2 s x) else 0) + ∑ s : Fin 394, g (ix2 s x)) * h (ix2 t x)

theorem upto_before (h : FVec Ideal S394x8 .f32) (hh : ∀ i, Upto 1 (h i)) (t : Fin 394) (x : Fin 8) : Upto 394 (∑ s : Fin 394, if s < t then h (ix2 s x) else 0) := by
  have := Upto.sum (B := 1) (Finset.univ : Finset (Fin 394)) (fun s => if s < t then h (ix2 s x) else 0) fun s => by
    show Upto 1 (if s < t then h (ix2 s x) else 0)
    split
    · exact hh _
    · exact ⟨0, Nat.zero_le _, by norm_num⟩
  simpa using this

theorem Upto.weaken {A B : ℕ} {x : EReal} (h : Upto A x) (hAB : A ≤ B) : Upto B x := let ⟨n, hn, e⟩ := h; ⟨n, hn.trans hAB, e⟩

theorem upto_ahead (h : FVec Ideal S394x8 .f32) (hh : ∀ i, Upto 1 (h i)) (t : Fin 394) : Upto 100000 (ahead h t) :=
  Upto.weaken (Upto.sum (B := 394 * 1) Finset.univ _ fun x => (upto_before h hh t x).mul (hh _)) (by simp)

theorem upto_behind (g h : FVec Ideal S394x8 .f32) (hg : ∀ i, Upto 1 (g i)) (hh : ∀ i, Upto 1 (h i)) (t : Fin 394) : Upto 100000 (behind g h t) :=
  Upto.weaken (Upto.sum (B := (394 + (Finset.univ : Finset (Fin 394)).card * 1) * 1) Finset.univ _ fun x =>
    ((upto_before h hh t x).add (Upto.sum Finset.univ _ fun s => hg _)).mul (hh _)) (by simp)

theorem tri_entry (s t : Fin 394) : (FloatOps.sitofp .f32 (BitVec.setWidth 32 (IntOp.cmpi .slt (BitVec.ofNat 32 s.val) (BitVec.ofNat 32 t.val))) : Ideal .f32)
    = if s < t then (1 : EReal) else 0 := by
  rw [slt_bit, bit_signed, toInt_ofNat _ (by omega), toInt_ofNat _ (by omega)]
  exact if_congr (by rw [Fin.lt_def]; omega) rfl rfl

theorem count_first (l : FVec Ideal S394x8 .f32) (t : Fin 394) : k0_pay15 (F := Ideal) l (ix2 t 0) = ahead (k0_pay11 l) t := by
  unfold k0_pay15 k0_pay14 ahead
  generalize k0_pay11 l = z
  pointwise! []
  refine Finset.sum_congr rfl fun x _ => congrArg (· * z (ix2 t x)) (Finset.sum_congr rfl fun s _ => ?_)
  rw [tri_entry, ite_mul, one_mul, zero_mul]

theorem count_second (l : FVec Ideal S394x8 .f32) (t : Fin 394) : k0_pay16 (F := Ideal) l (ix1 t) = behind (k0_pay11 l) (k0_pay13 l) t := by
  unfold k0_pay16 k0_pay14 behind
  generalize k0_pay11 l = y
  generalize k0_pay13 l = z
  pointwise! []
  refine Finset.sum_congr rfl fun x _ => congrArg (· * z (ix2 t x)) (congrArg (· + ∑ s, y (ix2 s x)) (Finset.sum_congr rfl fun s _ => ?_))
  rw [tri_entry, ite_mul, one_mul, zero_mul]

theorem placeA_entry (l : FVec Ideal S394x8 .f32) (t : Fin 394) : placeA l (ix1 t) = FloatOps.fptosi (F := Ideal) (φ := .f32) 32 (ahead (pickA l) t) := by
  unfold placeA
  rw [place_entry]
  refine congrArg _ (Finset.sum_congr rfl fun x _ => ?_)
  rw [before_entry (pickA l) (hot_real _)]

theorem placeB_entry (l : FVec Ideal S394x8 .f32) (t : Fin 394) : placeB l (ix1 t) = FloatOps.fptosi (F := Ideal) (φ := .f32) 32 (behind (pickA l) (pickB l) t) := by
  unfold placeB
  rw [place_entry]
  refine congrArg _ (Finset.sum_congr rfl fun x _ => ?_)
  show (before (pickB l) (ix2 t x) + total (pickA l) (ix2 t x)) * pickB l (ix2 t x) = _
  rw [before_entry (pickB l) (hot_real _), total_entry]

/-! ### The weights -/

theorem ext1 {α : Type} {f g : S394x1.Idx → α} (h : ∀ t : Fin 394, f (ix2 t 0) = g (ix2 t 0)) : f = g := by
  funext i
  have e : i = ix2 (i 0) 0 := by
    funext a
    match a with
    | 0 => rfl
    | 1 => exact Subsingleton.elim (α := Fin 1) _ _
  exact (congrArg f e).trans ((h _).trans (congrArg g e.symm))

theorem keep_entry (p : IVec S394 32) (t : Fin 394) : keep (F := Ideal) p (ix1 t) = if (p (ix1 t)).toInt < (122#32 : BitVec 32).toInt then (1 : EReal) else 0 := by
  pointwise! [keep]
  rw [slt_bit, bit_unsigned]

theorem kept_first (v : FVec Ideal S394x1 .f32) (t : Fin 394) (hv : Upto 100000 (v (ix2 t 0))) (p : IVec S394 32)
    (hp : p (ix1 t) = FloatOps.fptosi (F := Ideal) (φ := .f32) 32 (v (ix2 t 0))) : k0_pay18 (F := Ideal) v (ix2 t 0) = keep (F := Ideal) p (ix1 t) := by
  rw [keep_entry, hp]
  pointwise! [k0_pay18]
  rw [bit_signed]
  exact if_congr (keep_eq hv) rfl rfl

theorem kept_second (v : FVec Ideal S394 .f32) (t : Fin 394) (hv : Upto 100000 (v (ix1 t))) (p : IVec S394 32)
    (hp : p (ix1 t) = FloatOps.fptosi (F := Ideal) (φ := .f32) 32 (v (ix1 t))) : k0_pay19 (F := Ideal) v (ix2 t 0) = keep (F := Ideal) p (ix1 t) := by
  rw [keep_entry, hp]
  pointwise! [k0_pay19, k0_pay17]
  rw [bit_signed]
  exact if_congr (keep_eq hv) rfl rfl

theorem raw_entry (p h : FVec Ideal S394x8 .f32) (k : FVec Ideal S394 .f32) (t : Fin 394) : raw p h k (ix1 t) = (∑ x, p (ix2 t x) * h (ix2 t x)) * k (ix1 t) := by
  pointwise! [raw, rowSum]

theorem raw_first (a b : FVec Ideal S394x8 .f32) (v : FVec Ideal S394x1 .f32) (t : Fin 394) :
    k0_pay20 (F := Ideal) a b v (ix2 t 0) = (∑ x, a (ix2 t x) * b (ix2 t x)) * k0_pay18 (F := Ideal) v (ix2 t 0) := by
  unfold k0_pay20
  generalize k0_pay18 v = z
  pointwise! []

theorem raw_second (a b : FVec Ideal S394x8 .f32) (v : FVec Ideal S394 .f32) (t : Fin 394) :
    k0_pay21 (F := Ideal) a b v (ix2 t 0) = (∑ x, a (ix2 t x) * b (ix2 t x)) * k0_pay19 (F := Ideal) v (ix2 t 0) := by
  unfold k0_pay21
  generalize k0_pay19 v = z
  pointwise! []

theorem denom_entry (a b : FVec Ideal S394 .f32) (t : Fin 394) : denom a b (ix1 t) = if 0 < a (ix1 t) + b (ix1 t) then a (ix1 t) + b (ix1 t) else 1 := by
  pointwise! [denom]

theorem over (a b : FVec Ideal S394 .f32) (t : Fin 394) : Host.divf (F := Ideal) a b (ix1 t) = Ideal.div (a (ix1 t)) (b (ix1 t)) := by
  pointwise! []

theorem weight_first (a b d : FVec Ideal S394x8 .f32) (u : FVec Ideal S394x1 .f32) (v : FVec Ideal S394 .f32) (t : Fin 394) :
    k0_pay23 (F := Ideal) a b d u v (ix2 t 0) = Ideal.div (k0_pay20 (F := Ideal) a b u (ix2 t 0))
      (if 0 < k0_pay20 (F := Ideal) a b u (ix2 t 0) + k0_pay21 (F := Ideal) a d v (ix2 t 0)
        then k0_pay20 (F := Ideal) a b u (ix2 t 0) + k0_pay21 (F := Ideal) a d v (ix2 t 0) else 1) := by
  unfold k0_pay23 k0_pay22
  generalize k0_pay20 a b u = y
  generalize k0_pay21 a d v = z
  pointwise! []

theorem weight_second (a b d : FVec Ideal S394x8 .f32) (u : FVec Ideal S394x1 .f32) (v : FVec Ideal S394 .f32) (t : Fin 394) :
    k0_pay24 (F := Ideal) a b d u v (ix2 t 0) = Ideal.div (k0_pay21 (F := Ideal) a d v (ix2 t 0))
      (if 0 < k0_pay20 (F := Ideal) a b u (ix2 t 0) + k0_pay21 (F := Ideal) a d v (ix2 t 0)
        then k0_pay20 (F := Ideal) a b u (ix2 t 0) + k0_pay21 (F := Ideal) a d v (ix2 t 0) else 1) := by
  unfold k0_pay24 k0_pay22
  generalize k0_pay20 a b u = y
  generalize k0_pay21 a d v = z
  pointwise! []

/-! ### The arrays over experts and slots -/

theorem ext3 {α : Type} {f g : S8x394x128.Idx → α} (h : ∀ (x : Fin 8) (t : Fin 394) (k : Fin 128), f (ix3 x t k) = g (ix3 x t k)) : f = g := by
  funext i
  have e : i = ix3 (i 0) (i 1) (i 2) := by funext a; match a with | 0 => rfl | 1 => rfl | 2 => rfl
  exact (congrArg f e).trans ((h _ _ _).trans (congrArg g e.symm))

theorem slot_entry (p : IVec S394 32) (t : Fin 394) (k : Fin 128) : slot (F := Ideal) p (ix2 t k)
    = if IntOp.minsi 121#32 (IntOp.maxsi 0#32 (p (ix1 t))) = BitVec.ofNat 32 k.val then (1 : EReal) else 0 := by
  pointwise! [slot]
  rw [eq_bit, bit_unsigned]

theorem spread_entry (s : FVec Ideal Cert.RouteRefIdeal.S394x128 .f32) (h : FVec Ideal S394x8 .f32) (w : FVec Ideal S394 .f32) (x : Fin 8) (t : Fin 394) (k : Fin 128) :
    spread s h w (ix3 x t k) = h (ix2 t x) * w (ix1 t) * s (ix2 t k) := by
  pointwise! [spread, across, wide]

/-- One expert's row of one slot: the bit of the pair, weighted. -/
theorem cell (x : Fin 8) (k : Fin 128) (z : BitVec 32) (y : EReal) (hy : Upto 100000 y) (w : EReal) :
    (FloatOps.sitofp .f32 (BitVec.setWidth 32 (IntOp.andi (IntOp.cmpi .eq (BitVec.ofNat 32 x.val) z) (IntOp.cmpi .eq (BitVec.ofNat 32 k.val)
      (FloatOps.fptosi (F := Ideal) (φ := .f32) 32 (min (((121#32 : BitVec 32).toInt : ℝ) : EReal) (max (((0#32 : BitVec 32).toInt : ℝ) : EReal) y)))))) : Ideal .f32) * w
    = (if z = BitVec.ofNat 32 x.val then (1 : EReal) else 0) * w
      * (if IntOp.minsi 121#32 (IntOp.maxsi 0#32 (FloatOps.fptosi (F := Ideal) (φ := .f32) 32 y)) = BitVec.ofNat 32 k.val then (1 : EReal) else 0) := by
  rw [eq_bit, eq_bit, and_bit, bit_signed, split_bit, clamp_eq hy]
  exact congrArg₂ _ (congrArg (· * w) (if_congr eq_comm rfl rfl)) (if_congr eq_comm rfl rfl)

/-- The kernel's array of two weighted bits per token, entry by entry. -/
theorem pair_entry (a b : FVec Ideal S394x1 .f32) (u v : IVec S394x1 32) (c : FVec Ideal S394x1 .f32) (d : FVec Ideal S394 .f32) (x : Fin 8) (t : Fin 394) (k : Fin 128)
    (hc : Upto 100000 (c (ix2 t 0))) (hd : Upto 100000 (d (ix1 t))) :
    k0_pay3 (F := Ideal) a b (k0_pay25 d) (iota .tc S8x394x128 32 [2] iota_S8x394x128_d2_w32) (k0_pay26 u c) (k0_pay27 v) (ix3 x t k)
    = (if u (ix2 t 0) = BitVec.ofNat 32 x.val then (1 : EReal) else 0) * a (ix2 t 0)
        * (if IntOp.minsi 121#32 (IntOp.maxsi 0#32 (FloatOps.fptosi (F := Ideal) (φ := .f32) 32 (c (ix2 t 0)))) = BitVec.ofNat 32 k.val then (1 : EReal) else 0)
      + (if v (ix2 t 0) = BitVec.ofNat 32 x.val then (1 : EReal) else 0) * b (ix2 t 0)
        * (if IntOp.minsi 121#32 (IntOp.maxsi 0#32 (FloatOps.fptosi (F := Ideal) (φ := .f32) 32 (d (ix1 t)))) = BitVec.ofNat 32 k.val then (1 : EReal) else 0) := by
  rw [← cell x k _ _ hc, ← cell x k _ _ hd]
  pointwise! [k0_pay3, k0_pay1, k0_pay2, k0_pay25, k0_pay17, k0_pay26, k0_pay27]

theorem pay4_eq (a b : FVec Ideal S394x1 .f32) (p : IVec S394x1 32) (q : IVec S8x394x128 32) (y z : IVec S8x394x128 1) :
    k0_pay4 (F := Ideal) a b p q y z = k0_pay3 (F := Ideal) a b p q y z := rfl

/-- Two weighted choices per token, spread over experts and slots, are the kernel's where the weights are. -/
theorem pair_eq (l : FVec Ideal S394x8 .f32) (hl : ∀ i, IsReal (l i)) (a b : FVec Ideal S394x1 .f32) (a' b' : FVec Ideal S394 .f32)
    (ha : ∀ t : Fin 394, a (ix2 t 0) = a' (ix1 t)) (hb : ∀ t : Fin 394, b (ix2 t 0) = b' (ix1 t)) :
    k0_pay3 (F := Ideal) a b (k0_pay25 (k0_pay16 l)) (iota .tc S8x394x128 32 [2] iota_S8x394x128_d2_w32) (k0_pay26 (k0_pay10 l) (k0_pay15 l)) (k0_pay27 (k0_pay12 l))
    = addf (F := Ideal) (spread (slot (placeA l)) (pickA l) a') (spread (slot (placeB l)) (pickB l) b') := by
  refine ext3 fun x t k => ?_
  have hA : ∀ i, Upto 1 (pickA l i) := hot_upto _
  have hB : ∀ i, Upto 1 (pickB l i) := hot_upto _
  have h1 : k0_pay15 (F := Ideal) l (ix2 t 0) = ahead (pickA l) t := by rw [count_first, pick_first l hl]
  have h2 : k0_pay16 (F := Ideal) l (ix1 t) = behind (pickA l) (pickB l) t := by rw [count_second, pick_first l hl, pick_second l hl]
  refine (pair_entry a b _ _ _ _ x t k (h1 ▸ upto_ahead _ hA t) (h2 ▸ upto_behind _ _ hA hB t)).trans ?_
  show _ = spread (slot (placeA l)) (pickA l) a' (ix3 x t k) + spread (slot (placeB l)) (pickB l) b' (ix3 x t k)
  rw [spread_entry, spread_entry, slot_entry, slot_entry, placeA_entry, placeB_entry, h1, h2, ha, hb]
  refine congrArg₂ (· + ·) (congrArg (· * _) (congrArg (· * _) ?_)) (congrArg (· * _) (congrArg (· * _) ?_))
  · unfold pickA
    rw [hot_entry, show k0_pay10 (F := Ideal) l (ix2 t 0) = argmax (probs l) (ix1 t) from first_place l hl _]
  · unfold pickB
    rw [hot_entry, show k0_pay12 (F := Ideal) l (ix2 t 0) = argmax (masked (pickA l) l) (ix1 t) from second_place l hl _]

theorem kept (l : FVec Ideal S394x8 .f32) (hl : ∀ i, IsReal (l i)) (t : Fin 394) :
    k0_pay18 (F := Ideal) (k0_pay15 l) (ix2 t 0) = keep (F := Ideal) (placeA l) (ix1 t)
      ∧ k0_pay19 (F := Ideal) (k0_pay16 l) (ix2 t 0) = keep (F := Ideal) (placeB l) (ix1 t) := by
  have hA : ∀ i, Upto 1 (pickA l i) := hot_upto _
  have hB : ∀ i, Upto 1 (pickB l i) := hot_upto _
  have h1 : k0_pay15 (F := Ideal) l (ix2 t 0) = ahead (pickA l) t := by rw [count_first, pick_first l hl]
  have h2 : k0_pay16 (F := Ideal) l (ix1 t) = behind (pickA l) (pickB l) t := by rw [count_second, pick_first l hl, pick_second l hl]
  exact ⟨kept_first _ t (h1 ▸ upto_ahead _ hA t) _ (by rw [h1, placeA_entry]), kept_second _ t (h2 ▸ upto_behind _ _ hA hB t) _ (by rw [h2, placeB_entry])⟩

theorem dispatch_eq (l : FVec Ideal S394x8 .f32) (hl : ∀ i, IsReal (l i)) :
    k0_pay3 (F := Ideal) (k0_pay18 (k0_pay15 l)) (k0_pay19 (k0_pay16 l)) (k0_pay25 (k0_pay16 l)) (iota .tc S8x394x128 32 [2] iota_S8x394x128_d2_w32)
      (k0_pay26 (k0_pay10 l) (k0_pay15 l)) (k0_pay27 (k0_pay12 l)) = dispatch l :=
  pair_eq l hl _ _ _ _ (fun t => (kept l hl t).1) fun t => (kept l hl t).2

theorem combine_eq (l : FVec Ideal S394x8 .f32) (hl : ∀ i, IsReal (l i)) :
    k0_pay4 (F := Ideal) (k0_pay23 (probs l) (k0_pay11 l) (k0_pay13 l) (k0_pay15 l) (k0_pay16 l)) (k0_pay24 (probs l) (k0_pay11 l) (k0_pay13 l) (k0_pay15 l) (k0_pay16 l))
      (k0_pay25 (k0_pay16 l)) (iota .tc S8x394x128 32 [2] iota_S8x394x128_d2_w32) (k0_pay26 (k0_pay10 l) (k0_pay15 l)) (k0_pay27 (k0_pay12 l)) = combine l := by
  have hr : ∀ t : Fin 394, k0_pay20 (F := Ideal) (probs l) (k0_pay11 l) (k0_pay15 l) (ix2 t 0) = rawA l (ix1 t)
      ∧ k0_pay21 (F := Ideal) (probs l) (k0_pay13 l) (k0_pay16 l) (ix2 t 0) = rawB l (ix1 t) := fun t => by
    unfold rawA rawB
    rw [raw_first, raw_second, raw_entry, raw_entry, (kept l hl t).1, (kept l hl t).2, pick_first l hl, pick_second l hl]
    exact ⟨rfl, rfl⟩
  rw [pay4_eq]
  refine pair_eq l hl _ _ _ _ (fun t => ?_) fun t => ?_
  · rw [weight_first, (hr t).1, (hr t).2, over, denom_entry]
  · rw [weight_second, (hr t).1, (hr t).2, over, denom_entry]

end Cert.RouteIdeal.Value

end
-- ==== Proof.RouteValue.lean ====
module

public import proofs.«01_k».proof.Proof.RouteRead
public import proofs.«01_k».proof.Pre_finite
public import Idealize.ShloMosaic.Lib.Pipeline.ValueKit

@[expose] public section

set_option maxRecDepth 16384

noncomputable section

/-! The router: the kernel's one grid point writes the normed rows and the two arrays over experts and slots, and each entry is the reference's. -/

namespace Cert.RouteIdeal.Value

open Idealize.ShloMosaic Idealize.ShloMosaic.TcCoe Idealize.SL.Sem
open Idealize.ShloMosaic.Pipeline (Dat)
open Cert.RouteIdeal Cert.RouteIdeal.Gen Cert.RouteMath
open Cert.RouteRefIdeal.Hand (centred width variance normed logits dispatch combine)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0, 0] ∧ win0_6.index t = ![0, 0, 0] := (by decide +kernel : ∀ t : Fin grid0.N, _)

theorem staged (c : Dev nD) : iblk m c 0 t0_0 = V m c main_v0 ∧ iblk m c 1 t0_0 = V m c main_v1 ∧ iblk m c 2 t0_0 = V m c main_v2
    ∧ iblk m c 3 t0_0 = m ((c : Thread nD τ).loc main_arg1) := by
  refine ⟨?_, ?_, ?_, ?_⟩
  · blk_ext! [iblk, idx t0_0]
  · blk_ext! [iblk, idx t0_0]
  · blk_ext! [iblk, idx t0_0]
  · blk_ext! [iblk, V, idx t0_0]

theorem reshaped (c : Dev nD) : V m c main_v0 = shapeCast S394x768 (m ((c : Thread nD τ).loc main_arg0)) shapeCasts_S2x197x768_S394x768
    ∧ V m c main_v1 = shapeCast S1x768 (m ((c : Thread nD τ).loc main_arg2)) shapeCasts_S768_S1x768
    ∧ V m c main_v2 = shapeCast S1x768 (m ((c : Thread nD τ).loc main_arg3)) shapeCasts_S768_S1x768 := by
  refine ⟨?_, ?_, ?_⟩ <;> (entry_read; rfl)

theorem final4 (c : Dev nD) : (dats m 0 c).arrAt 4 (cfgs 0).N = k0_pay5 (F := Ideal) (V m c main_v0) (V m c main_v1) (V m c main_v2) := by
  refine (dats m 0 c).arrAt_eq_of_after_last 4 t0_0 (by decide +kernel) _ fun j => ?_
  blk_simp
  rw [after0_4]
  frame_out
  obtain ⟨e0, e1, e2, -⟩ := staged m c
  rw [e0, e1, e2]

/-- The logits the body stages apart, from the blocks read whole. -/
theorem pay28 (x : Vec Ideal S394x768 .f32) (u v : Vec Ideal S1x768 .f32) (w : Vec Ideal S768x8 .f32) : k0_pay28 (F := Ideal) x u v w = k0_pay6 x u v w := by
  unfold k0_pay28
  rw [View.ld_unit_lit _ x (by decide), View.ld_unit_lit _ u (by decide), View.ld_unit_lit _ v (by decide), View.ld_unit_lit _ w (by decide)]

/-- The shares the body stages apart, from the blocks read whole. -/
theorem pay29 (x : Vec Ideal S394x768 .f32) (u v : Vec Ideal S1x768 .f32) (w : Vec Ideal S768x8 .f32) :
    k0_pay29 (F := Ideal) x u v w = k0_pay9 (k0_pay7 x u v w) (k0_pay8 x u v w) := by
  unfold k0_pay29
  rw [View.ld_unit_lit _ x (by decide), View.ld_unit_lit _ u (by decide), View.ld_unit_lit _ v (by decide), View.ld_unit_lit _ w (by decide)]

theorem final5 (c : Dev nD) (l : FVec Ideal S394x8 .f32) (hL : k0_pay6 (F := Ideal) (V m c main_v0) (V m c main_v1) (V m c main_v2) (m ((c : Thread nD τ).loc main_arg1)) = l) :
    (dats m 0 c).arrAt 5 (cfgs 0).N
    = k0_pay3 (F := Ideal) (k0_pay18 (k0_pay15 l)) (k0_pay19 (k0_pay16 l)) (k0_pay25 (k0_pay16 l)) (iota .tc S8x394x128 32 [2] iota_S8x394x128_d2_w32)
      (k0_pay26 (k0_pay10 l) (k0_pay15 l)) (k0_pay27 (k0_pay12 l)) := by
  refine (dats m 0 c).arrAt_eq_of_after_last 5 t0_0 (by decide +kernel) _ fun j => ?_
  blk_simp
  rw [after0_5]
  frame_out
  obtain ⟨e0, e1, e2, e3⟩ := staged m c
  rw [e0, e1, e2, e3]
  unfold k0_pay37 k0_pay36 k0_pay35 k0_pay34 k0_pay33 k0_pay32
  rw [pay28, hL]

theorem final6 (c : Dev nD) (l : FVec Ideal S394x8 .f32) (hL : k0_pay6 (F := Ideal) (V m c main_v0) (V m c main_v1) (V m c main_v2) (m ((c : Thread nD τ).loc main_arg1)) = l)
    (p : FVec Ideal S394x8 .f32) (hP : k0_pay9 (F := Ideal) (k0_pay7 (V m c main_v0) (V m c main_v1) (V m c main_v2) (m ((c : Thread nD τ).loc main_arg1)))
      (k0_pay8 (V m c main_v0) (V m c main_v1) (V m c main_v2) (m ((c : Thread nD τ).loc main_arg1))) = p) :
    (dats m 0 c).arrAt 6 (cfgs 0).N
    = k0_pay4 (F := Ideal) (k0_pay23 p (k0_pay11 l) (k0_pay13 l) (k0_pay15 l) (k0_pay16 l)) (k0_pay24 p (k0_pay11 l) (k0_pay13 l) (k0_pay15 l) (k0_pay16 l))
      (k0_pay25 (k0_pay16 l)) (iota .tc S8x394x128 32 [2] iota_S8x394x128_d2_w32) (k0_pay26 (k0_pay10 l) (k0_pay15 l)) (k0_pay27 (k0_pay12 l)) := by
  refine (dats m 0 c).arrAt_eq_of_after_last 6 t0_0 (by decide +kernel) _ fun j => ?_
  blk_simp
  rw [after0_6]
  frame_out
  obtain ⟨e0, e1, e2, e3⟩ := staged m c
  rw [e0, e1, e2, e3]
  unfold k0_pay37 k0_pay36 k0_pay35 k0_pay34 k0_pay33 k0_pay32 k0_pay31 k0_pay30
  rw [pay28, pay29, hL, hP]

/-! ### The norm and the logits -/

theorem normed_eq (x : FVec Ideal S2x197x768 .f32) (g b : FVec Ideal S768 .f32) :
    k0_pay5 (F := Ideal) (shapeCast S394x768 x shapeCasts_S2x197x768_S394x768) (shapeCast S1x768 g shapeCasts_S768_S1x768) (shapeCast S1x768 b shapeCasts_S768_S1x768)
    = normed x g b := by
  funext i
  pointwise! [k0_pay5, normed, variance, centred, width]
  rw [Cert.Basic.ln_div _ _ _ (Cert.Basic.sum_sq_nonneg _)]

theorem logits_eq (x : Vec Ideal S394x768 .f32) (u v : Vec Ideal S1x768 .f32) (w : Vec Ideal S768x8 .f32) :
    k0_pay6 (F := Ideal) x u v w = logits (k0_pay5 (F := Ideal) x u v) w := by
  refine ext2 fun t e => ?_
  unfold k0_pay6
  generalize k0_pay5 x u v = z
  pointwise! [logits]

/-- A deviation times the reciprocal root of its row's variance is a real number whatever the row: with an infinite deviation the root's reciprocal is zero. -/
theorem scaled_real (d : Fin 768 → EReal) (k : Fin 768) :
    IsReal (d k * Ideal.rsqrt (Ideal.div (∑ x, d x * d x) (Ideal.ofBits .f32 0x44400000#32) + Ideal.ofBits .f32 0x358637BD#32)) := by
  by_cases h : ∀ x, IsReal (d x)
  · exact (h k).mul (IsReal.scale (IsReal.sum _ _ fun x => (h x).mul (h x)) (Cert.Basic.sum_sq_nonneg d))
  · push Not at h
    obtain ⟨y, hy⟩ := h
    have hsq : d y * d y = ⊤ := by
      have : d y = ⊥ ∨ d y = ⊤ := by
        induction hz : d y using EReal.rec with
        | bot => exact Or.inl rfl
        | coe r => exact absurd ⟨r, hz⟩ hy
        | top => exact Or.inr rfl
      rcases this with h | h <;> rw [h] <;> simp
    have hs : (∑ x, d x * d x) = ⊤ :=
      top_le_iff.mp (hsq ▸ Finset.single_le_sum (fun x _ => Cert.Basic.mul_self_nonneg (d x)) (Finset.mem_univ y))
    have hr : Ideal.rsqrt (Ideal.div (∑ x, d x * d x) (Ideal.ofBits .f32 0x44400000#32) + Ideal.ofBits .f32 0x358637BD#32) = 0 := by
      rw [hs, Cert.Basic.lit_768, Cert.Basic.lit_eps, Ideal.div_coe (by norm_num), EReal.top_mul_coe_of_pos (by norm_num), EReal.top_add_coe]
      rfl
    exact ⟨0, by rw [hr, mul_zero]; rfl⟩

theorem normed_real (x : Vec Ideal S394x768 .f32) (u v : Vec Ideal S1x768 .f32) (hu : ∀ i, IsReal (u i)) (hv : ∀ i, IsReal (v i)) (i : S394x768.Idx) :
    IsReal (k0_pay5 (F := Ideal) x u v i) := by
  have e : i = ix2 (i 0) (i 1) := by funext a; match a with | 0 => rfl | 1 => rfl
  rw [e]
  generalize i 0 = t
  generalize i 1 = y
  pointwise! [k0_pay5]
  exact ((scaled_real (fun k => x (ix2 t k) - Ideal.div (∑ z, x (ix2 t z)) (Ideal.ofBits .f32 0x44400000#32)) y).mul (hu _)).add (hv _)

theorem logits_real (x : FVec Ideal S394x768 .f32) (w : FVec Ideal S768x8 .f32) (hx : ∀ i, IsReal (x i)) (hw : ∀ i, IsReal (w i)) (i : S394x8.Idx) :
    IsReal (logits (F := Ideal) x w i) := by
  pointwise! [logits]
  exact IsReal.sum _ _ fun k => (hx _).mul (hw _)

end Cert.RouteIdeal.Value

namespace Cert.Pre_finite

open Idealize.ShloMosaic

theorem facts : Facts := ⟨by decide, by decide⟩

attribute [local instance] facts

/-- What the precondition's bits say of the gate and of the norm's scale and shift. -/
theorem real_of_fn (h : FVec Ideal S2x197x768 .f32) (w : FVec Ideal S768x8 .f32) (g b : FVec Ideal S768 .f32)
    (hw : ∀ i, (fn (F := Ideal) h w g b).1 i = 1#1) (hg : ∀ i, (fn (F := Ideal) h w g b).2.1 i = 1#1) (hb : ∀ i, (fn (F := Ideal) h w g b).2.2 i = 1#1) :
    (∀ i, Cert.RouteMath.IsReal (w i)) ∧ (∀ i, Cert.RouteMath.IsReal (g i)) ∧ ∀ i, Cert.RouteMath.IsReal (b i) := by
  have hinf : Ideal.ofBits .f32 0x7F800000#32 = (⊤ : EReal) := by simp [Ideal.ofBits, Ideal.ieee]
  have key : ∀ x : EReal, FloatOps.cmpf (F := Ideal) (φ := .f32) .olt (max x (-x)) (Ideal.ofBits .f32 0x7F800000#32) = 1#1 → Cert.RouteMath.IsReal x := fun x hx => by
    refine Cert.RouteMath.isReal_of_abs ?_
    by_contra hn
    rw [hinf] at hx
    have hd : FloatOps.cmpf (F := Ideal) (φ := .f32) .olt (max x (-x)) (⊤ : EReal) = BitVec.ofBool (decide (max x (-x) < ⊤)) := rfl
    rw [hd, decide_eq_false hn] at hx
    exact absurd hx (by decide)
  exact ⟨fun i => key _ (hw i), fun i => key _ (hg i), fun i => key _ (hb i)⟩

end Cert.Pre_finite

namespace Cert.RouteIdeal.Value

open Idealize.ShloMosaic Idealize.ShloMosaic.TcCoe Idealize.SL.Sem
open Cert.RouteIdeal Cert.RouteIdeal.Gen Cert.RouteMath
open Cert.RouteRefIdeal.Hand (normed logits probs dispatch combine)

variable (m : (ℓ : Loc nD τ sig) → Buf (Elt Ideal) ℓ)

/-- The logits the kernel takes are the reference's, of the reference's normed rows. -/
theorem logits_of (c : Dev nD) :
    k0_pay6 (F := Ideal) (V m c main_v0) (V m c main_v1) (V m c main_v2) (m ((c : Thread nD τ).loc main_arg1))
    = logits (normed (m ((c : Thread nD τ).loc main_arg0)) (m ((c : Thread nD τ).loc main_arg2)) (m ((c : Thread nD τ).loc main_arg3))) (m ((c : Thread nD τ).loc main_arg1)) := by
  obtain ⟨h0, h1, h2⟩ := reshaped m c
  rw [logits_eq, h0, h1, h2, normed_eq]

/-- With a finite gate, scale and shift every logit is a real number. -/
theorem logits_real_of (c : Dev nD) (hw : ∀ i, IsReal ((m ((c : Thread nD τ).loc main_arg1) : FVec Ideal S768x8 .f32) i))
    (hg : ∀ i, IsReal ((m ((c : Thread nD τ).loc main_arg2) : FVec Ideal S768 .f32) i)) (hb : ∀ i, IsReal ((m ((c : Thread nD τ).loc main_arg3) : FVec Ideal S768 .f32) i)) (i : S394x8.Idx) :
    IsReal (logits (F := Ideal) (normed (m ((c : Thread nD τ).loc main_arg0)) (m ((c : Thread nD τ).loc main_arg2)) (m ((c : Thread nD τ).loc main_arg3))) (m ((c : Thread nD τ).loc main_arg1)) i) := by
  rw [← normed_eq]
  exact logits_real _ _ (normed_real _ _ _ (fun _ => hg _) fun _ => hb _) hw i

/-- The normed rows the kernel leaves are the reference's. -/
theorem rows_left (c : Dev nD) :
    (dats m 0 c).arrAt 4 (cfgs 0).N = normed (F := Ideal) (m ((c : Thread nD τ).loc main_arg0)) (m ((c : Thread nD τ).loc main_arg2)) (m ((c : Thread nD τ).loc main_arg3)) := by
  obtain ⟨h0, h1, h2⟩ := reshaped m c
  rw [final4, h0, h1, h2, normed_eq]

/-- The array that sends the rows to the experts' slots is the reference's, where the logits are real. -/
theorem dispatch_left (c : Dev nD) (l : FVec Ideal S394x8 .f32)
    (hl : logits (normed (m ((c : Thread nD τ).loc main_arg0)) (m ((c : Thread nD τ).loc main_arg2)) (m ((c : Thread nD τ).loc main_arg3))) (m ((c : Thread nD τ).loc main_arg1)) = l)
    (hr : ∀ i, IsReal (l i)) : (dats m 0 c).arrAt 5 (cfgs 0).N = dispatch l :=
  (final5 m c l ((logits_of m c).trans hl)).trans (dispatch_eq l hr)

/-- The array that brings the slots back with their weights is the reference's, where the logits are real. -/
theorem combine_left (c : Dev nD) (l : FVec Ideal S394x8 .f32)
    (hl : logits (normed (m ((c : Thread nD τ).loc main_arg0)) (m ((c : Thread nD τ).loc main_arg2)) (m ((c : Thread nD τ).loc main_arg3))) (m ((c : Thread nD τ).loc main_arg1)) = l)
    (hr : ∀ i, IsReal (l i)) : (dats m 0 c).arrAt 6 (cfgs 0).N = combine l :=
  (final6 m c l ((logits_of m c).trans hl) (probs l) ((shares_eq _ _ _ _).trans (congrArg probs ((logits_of m c).trans hl)))).trans (combine_eq l hr)

end Cert.RouteIdeal.Value

end
-- ==== Proof.lean ====
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.MoeIdeal.Value
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedRefIdeal
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.EmbedIdeal.Run
public import proofs.«01_k».proof.Proof.Gen.EmbedIdeal.Read
public import proofs.«01_k».proof.Proof.Gen.EmbedRefIdeal.Run
public import proofs.«01_k».proof.Proof.Gen.EmbedRefIdeal.Read
public import proofs.«01_k».proof.Proof.Gen.HeadIdeal.Value
public import proofs.«01_k».proof.Proof.Gen.HeadRefIdeal.Run
public import proofs.«01_k».proof.Proof.Gen.HeadRefIdeal.Read
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteRefIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_routed
public import proofs.«01_k».proof.Proof.ExpertsValue
public import proofs.«01_k».proof.Proof.HeadValue
public import proofs.«01_k».proof.Proof.MoeValue
public import proofs.«01_k».proof.Proof.AttnValue
public import proofs.«01_k».proof.Proof.EmbedValue
public import proofs.«01_k».proof.Proof.RouteRun
public import proofs.«01_k».proof.Proof.RouteValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The experts' sum is the reference's, entry by entry. -/
theorem algebraic_Moe : Cert.algebraic_MoeIdeal_MoeRefIdeal := by
  pair_intro
  · run_from Cert.MoeIdeal.Value.run_blocks m g
  · run_from Cert.MoeRefIdeal.Value.run m' g'
    exact ((Cert.MoeRefIdeal.Read.val_main_v23_eq (F := Ideal) _ _ _ _ _ _ _ _).trans (Cert.MoeIdeal.Value.final m c).symm)

/-- The attention block's output, with its input added, is the reference's, entry by entry. -/
theorem algebraic_Attn : Cert.algebraic_AttnIdeal_AttnRefIdeal := by
  pair_intro
  · run_from Cert.AttnIdeal.Value.run m g
  · run_from Cert.AttnRefIdeal.Value.run m' g'
    obtain ⟨h0, h1, h2, h3, h4, h5, h6⟩ := hagree c
    refine (Cert.AttnRefIdeal.Read.val_main_v51_eq m' c).trans ?_
    rw [h0, h1, h2, h3, h4, h5, h6]
    exact (Cert.AttnIdeal.Value.final m g c).symm

/-- The router's normed rows and its two arrays over experts and slots are the reference's, entry by entry, for a finite gate, scale and shift. -/
theorem algebraic_Route : Cert.algebraic_RouteIdeal_RouteRefIdeal_pre_finite (hPre_finite := Cert.Pre_finite.facts) := by
  intro m g m' g' hpre hagree
  refine ⟨_, _, _, (θ_run Cert.RouteIdeal.defs _ _).mono (fun r h c => h c) (Cert.RouteIdeal.Value.run_blocks m g),
    (θ_run Cert.RouteRefIdeal.defs _ _).mono (fun r h c => ?_) (Cert.RouteRefIdeal.Hand.run m' g')⟩
  obtain ⟨⟨r0, r1, r2⟩, hk⟩ := h c
  obtain ⟨h0, h1, h2, h3⟩ := hagree c
  obtain ⟨p0, p1, p2⟩ := hpre c
  obtain ⟨hw, hg, hb⟩ := Cert.Pre_finite.real_of_fn _ _ _ _ (fun i => congrFun p0 i) (fun i => congrFun p1 i) fun i => congrFun p2 i
  have hr := Cert.RouteIdeal.Value.logits_real_of m c hw hg hb
  rw [h0, h2, h3] at r0
  rw [h0, h1, h2, h3] at r1 r2
  exact ⟨r0.trans (Cert.RouteIdeal.Value.rows_left m c).symm, r1.trans (Cert.RouteIdeal.Value.dispatch_left m c _ rfl hr).symm,
    r2.trans (Cert.RouteIdeal.Value.combine_left m c _ rfl hr).symm, hk⟩

/-- The experts' call, its two arrays built from each row's two indices and weights, is the reference's indexed adds, experts and indexed reads, entry by entry,
    for indices that lie in the table and weights that are not negative. -/
theorem algebraic_Experts : Cert.algebraic_ExpertsIdeal_ExpertsRefIdeal_pre_routed (hPre_routed := Cert.Pre_routed.Gen.facts) := by
  intro m g m' g' hpre hagree
  refine ⟨_, (θ_run Cert.ExpertsIdeal.defs _ _).mono (fun r h c => h c) (Cert.ExpertsIdeal.Value.run_blocks m g),
    (θ_run Cert.ExpertsRefIdeal.defs _ _).mono (fun r h c => ?_) (Cert.ExpertsRefIdeal.Value.run m' g')⟩
  obtain ⟨hv, hk⟩ := h c
  obtain ⟨h0, h1, h2, h3, h4, h5, h6, h7, h8, h9, h10, h11, h12, h13⟩ := hagree c
  obtain ⟨p0, p1, p2, p3, p4, p5, p6, p7, p8, p9, p10, p11⟩ := hpre c
  obtain ⟨⟨e, p, hn⟩, ⟨e', p', hn'⟩, q3, q4, q7, q8⟩ := Cert.Pre_routed.routed_of _ _ _ _ _ _ _ _ _ _ _ _ _ _
    (fun i => congrFun p0 i) (fun i => congrFun p1 i) (fun i => congrFun p2 i) (fun i => congrFun p3 i) (fun i => congrFun p4 i) (fun i => congrFun p5 i) (fun i => congrFun p6 i) (fun i => congrFun p7 i) (fun i => congrFun p8 i) (fun i => congrFun p9 i) (fun i => congrFun p10 i) (fun i => congrFun p11 i)
  refine ⟨hv.trans ((Cert.ExpertsRefIdeal.Read.val_main_v91_eq m' c).trans ?_), hk⟩
  rw [h0, h1, h2, h3, h4, h5, h6, h7, h8, h9, h10, h11, h12, h13]
  exact (Cert.ExpertsIdeal.Value.final m c e e' p p' hn hn' q3 q4 q7 q8).symm

/-- The head's logits are the reference's, entry by entry. -/
theorem algebraic_Head : Cert.algebraic_HeadIdeal_HeadRefIdeal := by
  pair_intro
  · run_from Cert.HeadIdeal.Value.run_blocks m g
  · run_from Cert.HeadRefIdeal.Value.run m' g'
    refine Eq.trans ?_ (Cert.HeadIdeal.Value.final m c).symm
    obtain ⟨h0, h1, h2⟩ := Cert.HeadIdeal.Value.reshaped m c
    rw [h0, h1, h2]
    exact ((Cert.HeadRefIdeal.Read.val_main_v25_eq (F := Ideal) _ _ _ _ _).trans (Cert.HeadIdeal.Value.value _ _ _ _ _).symm)

/-- The embedded tokens are the reference's, entry by entry. -/
theorem algebraic_Embed : Cert.algebraic_EmbedIdeal_EmbedRefIdeal := by
  pair_intro
  · run_from Cert.EmbedIdeal.Value.run m g
  · run_from Cert.EmbedRefIdeal.Value.run m' g'
    rw [Cert.EmbedIdeal.Value.final m c, (Cert.EmbedIdeal.Value.reshaped m c).1, (Cert.EmbedIdeal.Value.reshaped m c).2]
    exact ((Cert.EmbedRefIdeal.Read.val_main_v10_eq (F := Ideal) _ _ _ _ _).trans (Cert.EmbedIdeal.Value.value _ _ _ _ _).symm)

theorem claim : Cert.Claim := ⟨Cert.Moe.Gen.facts, Cert.MoeIdeal.Gen.facts, Cert.MoeRefIdeal.Gen.facts, Cert.Attn.Gen.facts, Cert.AttnIdeal.Gen.facts, Cert.AttnRefIdeal.Gen.facts, Cert.Route.Gen.facts, Cert.RouteIdeal.Gen.facts, Cert.RouteRefIdeal.Gen.facts, Cert.Experts.Gen.facts, Cert.ExpertsIdeal.Gen.facts, Cert.ExpertsRefIdeal.Gen.facts, Cert.Embed.Gen.facts, Cert.EmbedIdeal.Gen.facts, Cert.EmbedRefIdeal.Gen.facts, Cert.Head.Gen.facts, Cert.HeadIdeal.Gen.facts, Cert.HeadRefIdeal.Gen.facts,
    Cert.Pre_finite.facts, Cert.Pre_routed.Gen.facts,
    fun m ρ _ => Cert.Moe.Gen.frame m ρ,
    fun m ρ _ => Cert.MoeIdeal.Gen.frame m ρ,
    fun m ρ _ => (θ_run Cert.MoeRefIdeal.defs _ _).mono (fun r h => ⟨fun c => (h c).2, sem_eq_zero_of_no_sems (by decide) r.2⟩)
      (Cert.MoeRefIdeal.Value.run m ρ),
    fun m ρ _ => Cert.Attn.Gen.frame m ρ,
    fun m ρ _ => Cert.AttnIdeal.Gen.frame m ρ,
    fun m ρ _ => (θ_run Cert.AttnRefIdeal.defs _ _).mono (fun r h => ⟨fun c => (h c).2, sem_eq_zero_of_no_sems (by decide) r.2⟩)
      (Cert.AttnRefIdeal.Value.run m ρ),
    fun m ρ _ => Cert.Route.Gen.frame m ρ,
    fun m ρ _ => Cert.RouteIdeal.Gen.frame m ρ,
    fun m ρ _ => Cert.RouteIdeal.Gen.frame m ρ,
    fun m ρ _ => (θ_run Cert.RouteRefIdeal.defs _ _).mono (fun r h => ⟨fun c => (h c).2, sem_eq_zero_of_no_sems (by decide) r.2⟩)
      (Cert.RouteRefIdeal.Hand.run m ρ),
    fun m ρ _ => (θ_run Cert.RouteRefIdeal.defs _ _).mono (fun r h => ⟨fun c => (h c).2, sem_eq_zero_of_no_sems (by decide) r.2⟩)
      (Cert.RouteRefIdeal.Hand.run m ρ),
    fun m ρ _ => Cert.Experts.Gen.frame m ρ,
    fun m ρ _ => Cert.ExpertsIdeal.Gen.frame m ρ,
    fun m ρ _ => Cert.ExpertsIdeal.Gen.frame m ρ,
    fun m ρ _ => (θ_run Cert.ExpertsRefIdeal.defs _ _).mono (fun r h => ⟨fun c => (h c).2, sem_eq_zero_of_no_sems (by decide) r.2⟩)
      (Cert.ExpertsRefIdeal.Value.run m ρ),
    fun m ρ _ => (θ_run Cert.ExpertsRefIdeal.defs _ _).mono (fun r h => ⟨fun c => (h c).2, sem_eq_zero_of_no_sems (by decide) r.2⟩)
      (Cert.ExpertsRefIdeal.Value.run m ρ),
    fun m ρ _ => Cert.Embed.Gen.frame m ρ,
    fun m ρ _ => Cert.EmbedIdeal.Gen.frame m ρ,
    fun m ρ _ => (θ_run Cert.EmbedRefIdeal.defs _ _).mono (fun r h => ⟨fun c => (h c).2, sem_eq_zero_of_no_sems (by decide) r.2⟩)
      (Cert.EmbedRefIdeal.Value.run m ρ),
    fun m ρ _ => Cert.Head.Gen.frame m ρ,
    fun m ρ _ => Cert.HeadIdeal.Gen.frame m ρ,
    fun m ρ _ => (θ_run Cert.HeadRefIdeal.defs _ _).mono (fun r h => ⟨fun c => (h c).2, sem_eq_zero_of_no_sems (by decide) r.2⟩)
      (Cert.HeadRefIdeal.Value.run m ρ),
    trivial, algebraic_Moe, trivial, algebraic_Attn, trivial, algebraic_Route, trivial, algebraic_Experts, trivial, algebraic_Embed, trivial, algebraic_Head⟩

end Cert.Proof

end
